-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S_ : Shape := ⟨0, ![]⟩
abbrev S2x256x4x64 : Shape := ⟨4, ![2, 256, 4, 64]⟩
abbrev S2x256x256 : Shape := ⟨3, ![2, 256, 256]⟩
abbrev S32x16x512 : Shape := ⟨3, ![32, 16, 512]⟩
abbrev S62 : Shape := ⟨1, ![62]⟩
abbrev S32 : Shape := ⟨1, ![32]⟩
abbrev S256x256 : Shape := ⟨2, ![256, 256]⟩
abbrev S1x256x512 : Shape := ⟨3, ![1, 256, 512]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S64x512 : Shape := ⟨2, ![64, 512]⟩
abbrev S16x512 : Shape := ⟨2, ![16, 512]⟩
abbrev S1x16x512 : Shape := ⟨3, ![1, 16, 512]⟩
abbrev S1 : Shape := ⟨1, ![1]⟩

abbrev nBuf : Space → Nat
  | .hbm => 37
  | .vmem => 7
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x128x64, .bf16⟩
  | .hbm, ⟨3, _⟩ => ⟨S2x256x128x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .bf16⟩
  | .hbm, ⟨22, _⟩ => ⟨S2x256x256, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x256x4x64, .bf16⟩
  | .hbm, ⟨34, _⟩ => ⟨S2x256x256, .bf16⟩
  | .hbm, ⟨35, _⟩ => ⟨S32x16x512, .f32⟩
  | .hbm, ⟨36, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S32x16x512, .f32⟩
  | .local _ .vmem, ⟨6, _⟩ => ⟨S32x16x512, .f32⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v358 : BitVec 32 := Scalar.addi v2 c1_i32_178
  let c32_i32_179 : BitVec 32 := 32#32
  let c0_i32 : BitVec 32 := 0#32
  let v359 : BitVec 1 := Scalar.cmpi .eq c32_i32_179 c0_i32
  let c1_i32_180 : BitVec 32 := 1#32
  let v360 : BitVec 32 := Scalar.select v359 c1_i32_180 c32_i32_179
  let v361 : BitVec 32 := Scalar.remsi v358 v360
  let c0_i32_182 : BitVec 32 := 0#32
  let v363 : BitVec 1 := Scalar.cmpi .slt v361 c0_i32_182
  let c0_i32_183 : BitVec 32 := 0#32
  let v364 : BitVec 1 := Scalar.cmpi .slt v360 c0_i32_183
  let v365 : BitVec 1 := Scalar.xori v363 v364
  let c0_i32_181 : BitVec 32 := 0#32
  let v362 : BitVec 1 := Scalar.cmpi .ne v361 c0_i32_181
  let v366 : BitVec 1 := Scalar.andi v365 v362
  let v367 : BitVec 32 := Scalar.addi v361 v360
  let v368 : BitVec 32 := Scalar.select v366 v367 v361
  let c1_i32_185 : BitVec 32 := 1#32
  let v369 : BitVec 32 := Scalar.muli v368 c1_i32_185
  let v370 : BitVec 32 := Scalar.addi c0_i32_186 v369
  v370.toNat
def k0_dev2 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v371 : BitVec 32 := Scalar.addi v2 c2_i32
  let c32_i32_187 : BitVec 32 := 32#32
  let c0_i32_188 : BitVec 32 := 0#32
  let v372 : BitVec 1 := Scalar.cmpi .eq c32_i32_187 c0_i32_188
  let c1_i32_189 : BitVec 32 := 1#32
  let v373 : BitVec 32 := Scalar.select v372 c1_i32_189 c32_i32_187
  let v374 : BitVec 32 := Scalar.remsi v371 v373
  let c0_i32_191 : BitVec 32 := 0#32
  let v376 : BitVec 1 := Scalar.cmpi .slt v374 c0_i32_191
  let c0_i32_192 : BitVec 32 := 0#32
  let v377 : BitVec 1 := Scalar.cmpi .slt v373 c0_i32_192
  let v378 : BitVec 1 := Scalar.xori v376 v377
  let c0_i32_190 : BitVec 32 := 0#32
  let v375 : BitVec 1 := Scalar.cmpi .ne v374 c0_i32_190
  let v379 : BitVec 1 := Scalar.andi v378 v375
  let v380 : BitVec 32 := Scalar.addi v374 v373
  let v381 : BitVec 32 := Scalar.select v379 v380 v374
  let c1_i32_194 : BitVec 32 := 1#32
  let v382 : BitVec 32 := Scalar.muli v381 c1_i32_194
  let v383 : BitVec 32 := Scalar.addi c0_i32_195 v382
  v383.toNat
def k0_dev3 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v384 : BitVec 32 := Scalar.addi v2 c3_i32
  let c32_i32_196 : BitVec 32 := 32#32
  let c0_i32_197 : BitVec 32 := 0#32
  let v385 : BitVec 1 := Scalar.cmpi .eq c32_i32_196 c0_i32_197
  let c1_i32_198 : BitVec 32 := 1#32
  let v386 : BitVec 32 := Scalar.select v385 c1_i32_198 c32_i32_196
  let v387 : BitVec 32 := Scalar.remsi v384 v386
  let c0_i32_200 : BitVec 32 := 0#32
  let v389 : BitVec 1 := Scalar.cmpi .slt v387 c0_i32_200
  let c0_i32_201 : BitVec 32 := 0#32
  let v390 : BitVec 1 := Scalar.cmpi .slt v386 c0_i32_201
  let v391 : BitVec 1 := Scalar.xori v389 v390
  let c0_i32_199 : BitVec 32 := 0#32
  let v388 : BitVec 1 := Scalar.cmpi .ne v387 c0_i32_199
  let v392 : BitVec 1 := Scalar.andi v391 v388
  let v393 : BitVec 32 := Scalar.addi v387 v386
  let v394 : BitVec 32 := Scalar.select v392 v393 v387
  let c1_i32_203 : BitVec 32 := 1#32
  let v395 : BitVec 32 := Scalar.muli v394 c1_i32_203
  let v396 : BitVec 32 := Scalar.addi c0_i32_204 v395
  v396.toNat
def k0_dev4 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v397 : BitVec 32 := Scalar.addi v2 c4_i32
  let c32_i32_205 : BitVec 32 := 32#32
  let c0_i32_206 : BitVec 32 := 0#32
  let v398 : BitVec 1 := Scalar.cmpi .eq c32_i32_205 c0_i32_206
  let c1_i32_207 : BitVec 32 := 1#32
  let v399 : BitVec 32 := Scalar.select v398 c1_i32_207 c32_i32_205
  let v400 : BitVec 32 := Scalar.remsi v397 v399
  let c0_i32_209 : BitVec 32 := 0#32
  let v402 : BitVec 1 := Scalar.cmpi .slt v400 c0_i32_209
  let c0_i32_210 : BitVec 32 := 0#32
  let v403 : BitVec 1 := Scalar.cmpi .slt v399 c0_i32_210
  let v404 : BitVec 1 := Scalar.xori v402 v403
  let c0_i32_208 : BitVec 32 := 0#32
  let v401 : BitVec 1 := Scalar.cmpi .ne v400 c0_i32_208
  let v405 : BitVec 1 := Scalar.andi v404 v401
  let v406 : BitVec 32 := Scalar.addi v400 v399
  let v407 : BitVec 32 := Scalar.select v405 v406 v400
  let c1_i32_212 : BitVec 32 := 1#32
  let v408 : BitVec 32 := Scalar.muli v407 c1_i32_212
  let v409 : BitVec 32 := Scalar.addi c0_i32_213 v408
  v409.toNat
def k0_dev5 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v410 : BitVec 32 := Scalar.addi v2 c5_i32
  let c32_i32_214 : BitVec 32 := 32#32
  let c0_i32_215 : BitVec 32 := 0#32
  let v411 : BitVec 1 := Scalar.cmpi .eq c32_i32_214 c0_i32_215
  let c1_i32_216 : BitVec 32 := 1#32
  let v412 : BitVec 32 := Scalar.select v411 c1_i32_216 c32_i32_214
  let v413 : BitVec 32 := Scalar.remsi v410 v412
  let c0_i32_218 : BitVec 32 := 0#32
  let v415 : BitVec 1 := Scalar.cmpi .slt v413 c0_i32_218
  let c0_i32_219 : BitVec 32 := 0#32
  let v416 : BitVec 1 := Scalar.cmpi .slt v412 c0_i32_219
  let v417 : BitVec 1 := Scalar.xori v415 v416
  let c0_i32_217 : BitVec 32 := 0#32
  let v414 : BitVec 1 := Scalar.cmpi .ne v413 c0_i32_217
  let v418 : BitVec 1 := Scalar.andi v417 v414
  let v419 : BitVec 32 := Scalar.addi v413 v412
  let v420 : BitVec 32 := Scalar.select v418 v419 v413
  let c1_i32_221 : BitVec 32 := 1#32
  let v421 : BitVec 32 := Scalar.muli v420 c1_i32_221
  let v422 : BitVec 32 := Scalar.addi c0_i32_222 v421
  v422.toNat
def k0_dev6 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v423 : BitVec 32 := Scalar.addi v2 c6_i32
  let c32_i32_223 : BitVec 32 := 32#32
  let c0_i32_224 : BitVec 32 := 0#32
  let v424 : BitVec 1 := Scalar.cmpi .eq c32_i32_223 c0_i32_224
  let c1_i32_225 : BitVec 32 := 1#32
  let v425 : BitVec 32 := Scalar.select v424 c1_i32_225 c32_i32_223
  let v426 : BitVec 32 := Scalar.remsi v423 v425
  let c0_i32_227 : BitVec 32 := 0#32
  let v428 : BitVec 1 := Scalar.cmpi .slt v426 c0_i32_227
  let c0_i32_228 : BitVec 32 := 0#32
  let v429 : BitVec 1 := Scalar.cmpi .slt v425 c0_i32_228
  let v430 : BitVec 1 := Scalar.xori v428 v429
  let c0_i32_226 : BitVec 32 := 0#32
  let v427 : BitVec 1 := Scalar.cmpi .ne v426 c0_i32_226
  let v431 : BitVec 1 := Scalar.andi v430 v427
  let v432 : BitVec 32 := Scalar.addi v426 v425
  let v433 : BitVec 32 := Scalar.select v431 v432 v426
  let c1_i32_230 : BitVec 32 := 1#32
  let v434 : BitVec 32 := Scalar.muli v433 c1_i32_230
  let v435 : BitVec 32 := Scalar.addi c0_i32_231 v434
  v435.toNat
def k0_dev7 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v436 : BitVec 32 := Scalar.addi v2 c7_i32
  let c32_i32_232 : BitVec 32 := 32#32
  let c0_i32_233 : BitVec 32 := 0#32
  let v437 : BitVec 1 := Scalar.cmpi .eq c32_i32_232 c0_i32_233
  let c1_i32_234 : BitVec 32 := 1#32
  let v438 : BitVec 32 := Scalar.select v437 c1_i32_234 c32_i32_232
  let v439 : BitVec 32 := Scalar.remsi v436 v438
  let c0_i32_236 : BitVec 32 := 0#32
  let v441 : BitVec 1 := Scalar.cmpi .slt v439 c0_i32_236
  let c0_i32_237 : BitVec 32 := 0#32
  let v442 : BitVec 1 := Scalar.cmpi .slt v438 c0_i32_237
  let v443 : BitVec 1 := Scalar.xori v441 v442
  let c0_i32_235 : BitVec 32 := 0#32
  let v440 : BitVec 1 := Scalar.cmpi .ne v439 c0_i32_235
  let v444 : BitVec 1 := Scalar.andi v443 v440
  let v445 : BitVec 32 := Scalar.addi v439 v438
  let v446 : BitVec 32 := Scalar.select v444 v445 v439
  let c1_i32_239 : BitVec 32 := 1#32
  let v447 : BitVec 32 := Scalar.muli v446 c1_i32_239
  let v448 : BitVec 32 := Scalar.addi c0_i32_240 v447
  v448.toNat
def k0_dev8 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v449 : BitVec 32 := Scalar.addi v2 c8_i32
  let c32_i32_241 : BitVec 32 := 32#32
  let c0_i32_242 : BitVec 32 := 0#32
  let v450 : BitVec 1 := Scalar.cmpi .eq c32_i32_241 c0_i32_242
  let c1_i32_243 : BitVec 32 := 1#32
  let v451 : BitVec 32 := Scalar.select v450 c1_i32_243 c32_i32_241
  let v452 : BitVec 32 := Scalar.remsi v449 v451
  let c0_i32_245 : BitVec 32 := 0#32
  let v454 : BitVec 1 := Scalar.cmpi .slt v452 c0_i32_245
  let c0_i32_246 : BitVec 32 := 0#32
  let v455 : BitVec 1 := Scalar.cmpi .slt v451 c0_i32_246
  let v456 : BitVec 1 := Scalar.xori v454 v455
  let c0_i32_244 : BitVec 32 := 0#32
  let v453 : BitVec 1 := Scalar.cmpi .ne v452 c0_i32_244
  let v457 : BitVec 1 := Scalar.andi v456 v453
  let v458 : BitVec 32 := Scalar.addi v452 v451
  let v459 : BitVec 32 := Scalar.select v457 v458 v452
  let c1_i32_248 : BitVec 32 := 1#32
  let v460 : BitVec 32 := Scalar.muli v459 c1_i32_248
  let v461 : BitVec 32 := Scalar.addi c0_i32_249 v460
  v461.toNat
def k0_dev9 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v462 : BitVec 32 := Scalar.addi v2 c9_i32
  let c32_i32_250 : BitVec 32 := 32#32
  let c0_i32_251 : BitVec 32 := 0#32
  let v463 : BitVec 1 := Scalar.cmpi .eq c32_i32_250 c0_i32_251
  let c1_i32_252 : BitVec 32 := 1#32
  let v464 : BitVec 32 := Scalar.select v463 c1_i32_252 c32_i32_250
  let v465 : BitVec 32 := Scalar.remsi v462 v464
  let c0_i32_254 : BitVec 32 := 0#32
  let v467 : BitVec 1 := Scalar.cmpi .slt v465 c0_i32_254
  let c0_i32_255 : BitVec 32 := 0#32
  let v468 : BitVec 1 := Scalar.cmpi .slt v464 c0_i32_255
  let v469 : BitVec 1 := Scalar.xori v467 v468
  let c0_i32_253 : BitVec 32 := 0#32
  let v466 : BitVec 1 := Scalar.cmpi .ne v465 c0_i32_253
  let v470 : BitVec 1 := Scalar.andi v469 v466
  let v471 : BitVec 32 := Scalar.addi v465 v464
  let v472 : BitVec 32 := Scalar.select v470 v471 v465
  let c1_i32_257 : BitVec 32 := 1#32
  let v473 : BitVec 32 := Scalar.muli v472 c1_i32_257
  let v474 : BitVec 32 := Scalar.addi c0_i32_258 v473
  v474.toNat
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v475 : BitVec 32 := Scalar.addi v2 c10_i32
  let c32_i32_259 : BitVec 32 := 32#32
  let c0_i32_260 : BitVec 32 := 0#32
  let v476 : BitVec 1 := Scalar.cmpi .eq c32_i32_259 c0_i32_260
  let c1_i32_261 : BitVec 32 := 1#32
  let v477 : BitVec 32 := Scalar.select v476 c1_i32_261 c32_i32_259
  let v478 : BitVec 32 := Scalar.remsi v475 v477
  let c0_i32_263 : BitVec 32 := 0#32
  let v480 : BitVec 1 := Scalar.cmpi .slt v478 c0_i32_263
  let c0_i32_264 : BitVec 32 := 0#32
  let v481 : BitVec 1 := Scalar.cmpi .slt v477 c0_i32_264
  let v482 : BitVec 1 := Scalar.xori v480 v481
  let c0_i32_262 : BitVec 32 := 0#32
  let v479 : BitVec 1 := Scalar.cmpi .ne v478 c0_i32_262
  let v483 : BitVec 1 := Scalar.andi v482 v479
  let v484 : BitVec 32 := Scalar.addi v478 v477
  let v485 : BitVec 32 := Scalar.select v483 v484 v478
  let c1_i32_266 : BitVec 32 := 1#32
  let v486 : BitVec 32 := Scalar.muli v485 c1_i32_266
  let v487 : BitVec 32 := Scalar.addi c0_i32_267 v486
  v487.toNat
def k0_dev11 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v488 : BitVec 32 := Scalar.addi v2 c11_i32
  let c32_i32_268 : BitVec 32 := 32#32
  let c0_i32_269 : BitVec 32 := 0#32
  let v489 : BitVec 1 := Scalar.cmpi .eq c32_i32_268 c0_i32_269
  let c1_i32_270 : BitVec 32 := 1#32
  let v490 : BitVec 32 := Scalar.select v489 c1_i32_270 c32_i32_268
  let v491 : BitVec 32 := Scalar.remsi v488 v490
  let c0_i32_272 : BitVec 32 := 0#32
  let v493 : BitVec 1 := Scalar.cmpi .slt v491 c0_i32_272
  let c0_i32_273 : BitVec 32 := 0#32
  let v494 : BitVec 1 := Scalar.cmpi .slt v490 c0_i32_273
  let v495 : BitVec 1 := Scalar.xori v493 v494
  let c0_i32_271 : BitVec 32 := 0#32
  let v492 : BitVec 1 := Scalar.cmpi .ne v491 c0_i32_271
  let v496 : BitVec 1 := Scalar.andi v495 v492
  let v497 : BitVec 32 := Scalar.addi v491 v490
  let v498 : BitVec 32 := Scalar.select v496 v497 v491
  let c1_i32_275 : BitVec 32 := 1#32
  let v499 : BitVec 32 := Scalar.muli v498 c1_i32_275
  let v500 : BitVec 32 := Scalar.addi c0_i32_276 v499
  v500.toNat
def k0_dev12 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v501 : BitVec 32 := Scalar.addi v2 c12_i32
  let c32_i32_277 : BitVec 32 := 32#32
  let c0_i32_278 : BitVec 32 := 0#32
  let v502 : BitVec 1 := Scalar.cmpi .eq c32_i32_277 c0_i32_278
  let c1_i32_279 : BitVec 32 := 1#32
  let v503 : BitVec 32 := Scalar.select v502 c1_i32_279 c32_i32_277
  let v504 : BitVec 32 := Scalar.remsi v501 v503
  let c0_i32_281 : BitVec 32 := 0#32
  let v506 : BitVec 1 := Scalar.cmpi .slt v504 c0_i32_281
  let c0_i32_282 : BitVec 32 := 0#32
  let v507 : BitVec 1 := Scalar.cmpi .slt v503 c0_i32_282
  let v508 : BitVec 1 := Scalar.xori v506 v507
  let c0_i32_280 : BitVec 32 := 0#32
  let v505 : BitVec 1 := Scalar.cmpi .ne v504 c0_i32_280
  let v509 : BitVec 1 := Scalar.andi v508 v505
  let v510 : BitVec 32 := Scalar.addi v504 v503
  let v511 : BitVec 32 := Scalar.select v509 v510 v504
  let c1_i32_284 : BitVec 32 := 1#32
  let v512 : BitVec 32 := Scalar.muli v511 c1_i32_284
  let v513 : BitVec 32 := Scalar.addi c0_i32_285 v512
  v513.toNat
def k0_dev13 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v514 : BitVec 32 := Scalar.addi v2 c13_i32
  let c32_i32_286 : BitVec 32 := 32#32
  let c0_i32_287 : BitVec 32 := 0#32
  let v515 : BitVec 1 := Scalar.cmpi .eq c32_i32_286 c0_i32_287
  let c1_i32_288 : BitVec 32 := 1#32
  let v516 : BitVec 32 := Scalar.select v515 c1_i32_288 c32_i32_286
  let v517 : BitVec 32 := Scalar.remsi v514 v516
  let c0_i32_290 : BitVec 32 := 0#32
  let v519 : BitVec 1 := Scalar.cmpi .slt v517 c0_i32_290
  let c0_i32_291 : BitVec 32 := 0#32
  let v520 : BitVec 1 := Scalar.cmpi .slt v516 c0_i32_291
  let v521 : BitVec 1 := Scalar.xori v519 v520
  let c0_i32_289 : BitVec 32 := 0#32
  let v518 : BitVec 1 := Scalar.cmpi .ne v517 c0_i32_289
  let v522 : BitVec 1 := Scalar.andi v521 v518
  let v523 : BitVec 32 := Scalar.addi v517 v516
  let v524 : BitVec 32 := Scalar.select v522 v523 v517
  let c1_i32_293 : BitVec 32 := 1#32
  let v525 : BitVec 32 := Scalar.muli v524 c1_i32_293
  let v526 : BitVec 32 := Scalar.addi c0_i32_294 v525
  v526.toNat
def k0_dev14 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v527 : BitVec 32 := Scalar.addi v2 c14_i32
  let c32_i32_295 : BitVec 32 := 32#32
  let c0_i32_296 : BitVec 32 := 0#32
  let v528 : BitVec 1 := Scalar.cmpi .eq c32_i32_295 c0_i32_296
  let c1_i32_297 : BitVec 32 := 1#32
  let v529 : BitVec 32 := Scalar.select v528 c1_i32_297 c32_i32_295
  let v530 : BitVec 32 := Scalar.remsi v527 v529
  let c0_i32_299 : BitVec 32 := 0#32
  let v532 : BitVec 1 := Scalar.cmpi .slt v530 c0_i32_299
  let c0_i32_300 : BitVec 32 := 0#32
  let v533 : BitVec 1 := Scalar.cmpi .slt v529 c0_i32_300
  let v534 : BitVec 1 := Scalar.xori v532 v533
  let c0_i32_298 : BitVec 32 := 0#32
  let v531 : BitVec 1 := Scalar.cmpi .ne v530 c0_i32_298
  let v535 : BitVec 1 := Scalar.andi v534 v531
  let v536 : BitVec 32 := Scalar.addi v530 v529
  let v537 : BitVec 32 := Scalar.select v535 v536 v530
  let c1_i32_302 : BitVec 32 := 1#32
  let v538 : BitVec 32 := Scalar.muli v537 c1_i32_302
  let v539 : BitVec 32 := Scalar.addi c0_i32_303 v538
  v539.toNat
def k0_dev15 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v540 : BitVec 32 := Scalar.addi v2 c15_i32
  let c32_i32_304 : BitVec 32 := 32#32
  let c0_i32_305 : BitVec 32 := 0#32
  let v541 : BitVec 1 := Scalar.cmpi .eq c32_i32_304 c0_i32_305
  let c1_i32_306 : BitVec 32 := 1#32
  let v542 : BitVec 32 := Scalar.select v541 c1_i32_306 c32_i32_304
  let v543 : BitVec 32 := Scalar.remsi v540 v542
  let c0_i32_308 : BitVec 32 := 0#32
  let v545 : BitVec 1 := Scalar.cmpi .slt v543 c0_i32_308
  let c0_i32_309 : BitVec 32 := 0#32
  let v546 : BitVec 1 := Scalar.cmpi .slt v542 c0_i32_309
  let v547 : BitVec 1 := Scalar.xori v545 v546
  let c0_i32_307 : BitVec 32 := 0#32
  let v544 : BitVec 1 := Scalar.cmpi .ne v543 c0_i32_307
  let v548 : BitVec 1 := Scalar.andi v547 v544
  let v549 : BitVec 32 := Scalar.addi v543 v542
  let v550 : BitVec 32 := Scalar.select v548 v549 v543
  let c1_i32_311 : BitVec 32 := 1#32
  let v551 : BitVec 32 := Scalar.muli v550 c1_i32_311
  let v552 : BitVec 32 := Scalar.addi c0_i32_312 v551
  v552.toNat
def k0_dev16 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v553 : BitVec 32 := Scalar.addi v2 c16_i32
  let c32_i32_313 : BitVec 32 := 32#32
  let c0_i32_314 : BitVec 32 := 0#32
  let v554 : BitVec 1 := Scalar.cmpi .eq c32_i32_313 c0_i32_314
  let c1_i32_315 : BitVec 32 := 1#32
  let v555 : BitVec 32 := Scalar.select v554 c1_i32_315 c32_i32_313
  let v556 : BitVec 32 := Scalar.remsi v553 v555
  let c0_i32_317 : BitVec 32 := 0#32
  let v558 : BitVec 1 := Scalar.cmpi .slt v556 c0_i32_317
  let c0_i32_318 : BitVec 32 := 0#32
  let v559 : BitVec 1 := Scalar.cmpi .slt v555 c0_i32_318
  let v560 : BitVec 1 := Scalar.xori v558 v559
  let c0_i32_316 : BitVec 32 := 0#32
  let v557 : BitVec 1 := Scalar.cmpi .ne v556 c0_i32_316
  let v561 : BitVec 1 := Scalar.andi v560 v557
  let v562 : BitVec 32 := Scalar.addi v556 v555
  let v563 : BitVec 32 := Scalar.select v561 v562 v556
  let c1_i32_320 : BitVec 32 := 1#32
  let v564 : BitVec 32 := Scalar.muli v563 c1_i32_320
  let v565 : BitVec 32 := Scalar.addi c0_i32_321 v564
  v565.toNat
def k0_dev17 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v566 : BitVec 32 := Scalar.addi v2 c17_i32
  let c32_i32_322 : BitVec 32 := 32#32
  let c0_i32_323 : BitVec 32 := 0#32
  let v567 : BitVec 1 := Scalar.cmpi .eq c32_i32_322 c0_i32_323
  let c1_i32_324 : BitVec 32 := 1#32
  let v568 : BitVec 32 := Scalar.select v567 c1_i32_324 c32_i32_322
  let v569 : BitVec 32 := Scalar.remsi v566 v568
  let c0_i32_326 : BitVec 32 := 0#32
  let v571 : BitVec 1 := Scalar.cmpi .slt v569 c0_i32_326
  let c0_i32_327 : BitVec 32 := 0#32
  let v572 : BitVec 1 := Scalar.cmpi .slt v568 c0_i32_327
  let v573 : BitVec 1 := Scalar.xori v571 v572
  let c0_i32_325 : BitVec 32 := 0#32
  let v570 : BitVec 1 := Scalar.cmpi .ne v569 c0_i32_325
  let v574 : BitVec 1 := Scalar.andi v573 v570
  let v575 : BitVec 32 := Scalar.addi v569 v568
  let v576 : BitVec 32 := Scalar.select v574 v575 v569
  let c1_i32_329 : BitVec 32 := 1#32
  let v577 : BitVec 32 := Scalar.muli v576 c1_i32_329
  let v578 : BitVec 32 := Scalar.addi c0_i32_330 v577
  v578.toNat
def k0_dev18 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v579 : BitVec 32 := Scalar.addi v2 c18_i32
  let c32_i32_331 : BitVec 32 := 32#32
  let c0_i32_332 : BitVec 32 := 0#32
  let v580 : BitVec 1 := Scalar.cmpi .eq c32_i32_331 c0_i32_332
  let c1_i32_333 : BitVec 32 := 1#32
  let v581 : BitVec 32 := Scalar.select v580 c1_i32_333 c32_i32_331
  let v582 : BitVec 32 := Scalar.remsi v579 v581
  let c0_i32_335 : BitVec 32 := 0#32
  let v584 : BitVec 1 := Scalar.cmpi .slt v582 c0_i32_335
  let c0_i32_336 : BitVec 32 := 0#32
  let v585 : BitVec 1 := Scalar.cmpi .slt v581 c0_i32_336
  let v586 : BitVec 1 := Scalar.xori v584 v585
  let c0_i32_334 : BitVec 32 := 0#32
  let v583 : BitVec 1 := Scalar.cmpi .ne v582 c0_i32_334
  let v587 : BitVec 1 := Scalar.andi v586 v583
  let v588 : BitVec 32 := Scalar.addi v582 v581
  let v589 : BitVec 32 := Scalar.select v587 v588 v582
  let c1_i32_338 : BitVec 32 := 1#32
  let v590 : BitVec 32 := Scalar.muli v589 c1_i32_338
  let v591 : BitVec 32 := Scalar.addi c0_i32_339 v590
  v591.toNat
def k0_dev19 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v592 : BitVec 32 := Scalar.addi v2 c19_i32
  let c32_i32_340 : BitVec 32 := 32#32
  let c0_i32_341 : BitVec 32 := 0#32
  let v593 : BitVec 1 := Scalar.cmpi .eq c32_i32_340 c0_i32_341
  let c1_i32_342 : BitVec 32 := 1#32
  let v594 : BitVec 32 := Scalar.select v593 c1_i32_342 c32_i32_340
  let v595 : BitVec 32 := Scalar.remsi v592 v594
  let c0_i32_344 : BitVec 32 := 0#32
  let v597 : BitVec 1 := Scalar.cmpi .slt v595 c0_i32_344
  let c0_i32_345 : BitVec 32 := 0#32
  let v598 : BitVec 1 := Scalar.cmpi .slt v594 c0_i32_345
  let v599 : BitVec 1 := Scalar.xori v597 v598
  let c0_i32_343 : BitVec 32 := 0#32
  let v596 : BitVec 1 := Scalar.cmpi .ne v595 c0_i32_343
  let v600 : BitVec 1 := Scalar.andi v599 v596
  let v601 : BitVec 32 := Scalar.addi v595 v594
  let v602 : BitVec 32 := Scalar.select v600 v601 v595
  let c1_i32_347 : BitVec 32 := 1#32
  let v603 : BitVec 32 := Scalar.muli v602 c1_i32_347
  let v604 : BitVec 32 := Scalar.addi c0_i32_348 v603
  v604.toNat
def k0_dev20 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v605 : BitVec 32 := Scalar.addi v2 c20_i32
  let c32_i32_349 : BitVec 32 := 32#32
  let c0_i32_350 : BitVec 32 := 0#32
  let v606 : BitVec 1 := Scalar.cmpi .eq c32_i32_349 c0_i32_350
  let c1_i32_351 : BitVec 32 := 1#32
  let v607 : BitVec 32 := Scalar.select v606 c1_i32_351 c32_i32_349
  let v608 : BitVec 32 := Scalar.remsi v605 v607
  let c0_i32_353 : BitVec 32 := 0#32
  let v610 : BitVec 1 := Scalar.cmpi .slt v608 c0_i32_353
  let c0_i32_354 : BitVec 32 := 0#32
  let v611 : BitVec 1 := Scalar.cmpi .slt v607 c0_i32_354
  let v612 : BitVec 1 := Scalar.xori v610 v611
  let c0_i32_352 : BitVec 32 := 0#32
  let v609 : BitVec 1 := Scalar.cmpi .ne v608 c0_i32_352
  let v613 : BitVec 1 := Scalar.andi v612 v609
  let v614 : BitVec 32 := Scalar.addi v608 v607
  let v615 : BitVec 32 := Scalar.select v613 v614 v608
  let c1_i32_356 : BitVec 32 := 1#32
  let v616 : BitVec 32 := Scalar.muli v615 c1_i32_356
  let v617 : BitVec 32 := Scalar.addi c0_i32_357 v616
  v617.toNat
def k0_dev21 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v618 : BitVec 32 := Scalar.addi v2 c21_i32
  let c32_i32_358 : BitVec 32 := 32#32
  let c0_i32_359 : BitVec 32 := 0#32
  let v619 : BitVec 1 := Scalar.cmpi .eq c32_i32_358 c0_i32_359
  let c1_i32_360 : BitVec 32 := 1#32
  let v620 : BitVec 32 := Scalar.select v619 c1_i32_360 c32_i32_358
  let v621 : BitVec 32 := Scalar.remsi v618 v620
  let c0_i32_362 : BitVec 32 := 0#32
  let v623 : BitVec 1 := Scalar.cmpi .slt v621 c0_i32_362
  let c0_i32_363 : BitVec 32 := 0#32
  let v624 : BitVec 1 := Scalar.cmpi .slt v620 c0_i32_363
  let v625 : BitVec 1 := Scalar.xori v623 v624
  let c0_i32_361 : BitVec 32 := 0#32
  let v622 : BitVec 1 := Scalar.cmpi .ne v621 c0_i32_361
  let v626 : BitVec 1 := Scalar.andi v625 v622
  let v627 : BitVec 32 := Scalar.addi v621 v620
  let v628 : BitVec 32 := Scalar.select v626 v627 v621
  let c1_i32_365 : BitVec 32 := 1#32
  let v629 : BitVec 32 := Scalar.muli v628 c1_i32_365
  let v630 : BitVec 32 := Scalar.addi c0_i32_366 v629
  v630.toNat
def k0_dev22 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v631 : BitVec 32 := Scalar.addi v2 c22_i32
  let c32_i32_367 : BitVec 32 := 32#32
  let c0_i32_368 : BitVec 32 := 0#32
  let v632 : BitVec 1 := Scalar.cmpi .eq c32_i32_367 c0_i32_368
  let c1_i32_369 : BitVec 32 := 1#32
  let v633 : BitVec 32 := Scalar.select v632 c1_i32_369 c32_i32_367
  let v634 : BitVec 32 := Scalar.remsi v631 v633
  let c0_i32_371 : BitVec 32 := 0#32
  let v636 : BitVec 1 := Scalar.cmpi .slt v634 c0_i32_371
  let c0_i32_372 : BitVec 32 := 0#32
  let v637 : BitVec 1 := Scalar.cmpi .slt v633 c0_i32_372
  let v638 : BitVec 1 := Scalar.xori v636 v637
  let c0_i32_370 : BitVec 32 := 0#32
  let v635 : BitVec 1 := Scalar.cmpi .ne v634 c0_i32_370
  let v639 : BitVec 1 := Scalar.andi v638 v635
  let v640 : BitVec 32 := Scalar.addi v634 v633
  let v641 : BitVec 32 := Scalar.select v639 v640 v634
  let c1_i32_374 : BitVec 32 := 1#32
  let v642 : BitVec 32 := Scalar.muli v641 c1_i32_374
  let v643 : BitVec 32 := Scalar.addi c0_i32_375 v642
  v643.toNat
def k0_dev23 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v644 : BitVec 32 := Scalar.addi v2 c23_i32
  let c32_i32_376 : BitVec 32 := 32#32
  let c0_i32_377 : BitVec 32 := 0#32
  let v645 : BitVec 1 := Scalar.cmpi .eq c32_i32_376 c0_i32_377
  let c1_i32_378 : BitVec 32 := 1#32
  let v646 : BitVec 32 := Scalar.select v645 c1_i32_378 c32_i32_376
  let v647 : BitVec 32 := Scalar.remsi v644 v646
  let c0_i32_380 : BitVec 32 := 0#32
  let v649 : BitVec 1 := Scalar.cmpi .slt v647 c0_i32_380
  let c0_i32_381 : BitVec 32 := 0#32
  let v650 : BitVec 1 := Scalar.cmpi .slt v646 c0_i32_381
  let v651 : BitVec 1 := Scalar.xori v649 v650
  let c0_i32_379 : BitVec 32 := 0#32
  let v648 : BitVec 1 := Scalar.cmpi .ne v647 c0_i32_379
  let v652 : BitVec 1 := Scalar.andi v651 v648
  let v653 : BitVec 32 := Scalar.addi v647 v646
  let v654 : BitVec 32 := Scalar.select v652 v653 v647
  let c1_i32_383 : BitVec 32 := 1#32
  let v655 : BitVec 32 := Scalar.muli v654 c1_i32_383
  let v656 : BitVec 32 := Scalar.addi c0_i32_384 v655
  v656.toNat
def k0_dev24 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v657 : BitVec 32 := Scalar.addi v2 c24_i32
  let c32_i32_385 : BitVec 32 := 32#32
  let c0_i32_386 : BitVec 32 := 0#32
  let v658 : BitVec 1 := Scalar.cmpi .eq c32_i32_385 c0_i32_386
  let c1_i32_387 : BitVec 32 := 1#32
  let v659 : BitVec 32 := Scalar.select v658 c1_i32_387 c32_i32_385
  let v660 : BitVec 32 := Scalar.remsi v657 v659
  let c0_i32_389 : BitVec 32 := 0#32
  let v662 : BitVec 1 := Scalar.cmpi .slt v660 c0_i32_389
  let c0_i32_390 : BitVec 32 := 0#32
  let v663 : BitVec 1 := Scalar.cmpi .slt v659 c0_i32_390
  let v664 : BitVec 1 := Scalar.xori v662 v663
  let c0_i32_388 : BitVec 32 := 0#32
  let v661 : BitVec 1 := Scalar.cmpi .ne v660 c0_i32_388
  let v665 : BitVec 1 := Scalar.andi v664 v661
  let v666 : BitVec 32 := Scalar.addi v660 v659
  let v667 : BitVec 32 := Scalar.select v665 v666 v660
  let c1_i32_392 : BitVec 32 := 1#32
  let v668 : BitVec 32 := Scalar.muli v667 c1_i32_392
  let v669 : BitVec 32 := Scalar.addi c0_i32_393 v668
  v669.toNat
def k0_dev25 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v670 : BitVec 32 := Scalar.addi v2 c25_i32
  let c32_i32_394 : BitVec 32 := 32#32
  let c0_i32_395 : BitVec 32 := 0#32
  let v671 : BitVec 1 := Scalar.cmpi .eq c32_i32_394 c0_i32_395
  let c1_i32_396 : BitVec 32 := 1#32
  let v672 : BitVec 32 := Scalar.select v671 c1_i32_396 c32_i32_394
  let v673 : BitVec 32 := Scalar.remsi v670 v672
  let c0_i32_398 : BitVec 32 := 0#32
  let v675 : BitVec 1 := Scalar.cmpi .slt v673 c0_i32_398
  let c0_i32_399 : BitVec 32 := 0#32
  let v676 : BitVec 1 := Scalar.cmpi .slt v672 c0_i32_399
  let v677 : BitVec 1 := Scalar.xori v675 v676
  let c0_i32_397 : BitVec 32 := 0#32
  let v674 : BitVec 1 := Scalar.cmpi .ne v673 c0_i32_397
  let v678 : BitVec 1 := Scalar.andi v677 v674
  let v679 : BitVec 32 := Scalar.addi v673 v672
  let v680 : BitVec 32 := Scalar.select v678 v679 v673
  let c1_i32_401 : BitVec 32 := 1#32
  let v681 : BitVec 32 := Scalar.muli v680 c1_i32_401
  let v682 : BitVec 32 := Scalar.addi c0_i32_402 v681
  v682.toNat
def k0_dev26 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v683 : BitVec 32 := Scalar.addi v2 c26_i32
  let c32_i32_403 : BitVec 32 := 32#32
  let c0_i32_404 : BitVec 32 := 0#32
  let v684 : BitVec 1 := Scalar.cmpi .eq c32_i32_403 c0_i32_404
  let c1_i32_405 : BitVec 32 := 1#32
  let v685 : BitVec 32 := Scalar.select v684 c1_i32_405 c32_i32_403
  let v686 : BitVec 32 := Scalar.remsi v683 v685
  let c0_i32_407 : BitVec 32 := 0#32
  let v688 : BitVec 1 := Scalar.cmpi .slt v686 c0_i32_407
  let c0_i32_408 : BitVec 32 := 0#32
  let v689 : BitVec 1 := Scalar.cmpi .slt v685 c0_i32_408
  let v690 : BitVec 1 := Scalar.xori v688 v689
  let c0_i32_406 : BitVec 32 := 0#32
  let v687 : BitVec 1 := Scalar.cmpi .ne v686 c0_i32_406
  let v691 : BitVec 1 := Scalar.andi v690 v687
  let v692 : BitVec 32 := Scalar.addi v686 v685
  let v693 : BitVec 32 := Scalar.select v691 v692 v686
  let c1_i32_410 : BitVec 32 := 1#32
  let v694 : BitVec 32 := Scalar.muli v693 c1_i32_410
  let v695 : BitVec 32 := Scalar.addi c0_i32_411 v694
  v695.toNat
def k0_dev27 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v696 : BitVec 32 := Scalar.addi v2 c27_i32
  let c32_i32_412 : BitVec 32 := 32#32
  let c0_i32_413 : BitVec 32 := 0#32
  let v697 : BitVec 1 := Scalar.cmpi .eq c32_i32_412 c0_i32_413
  let c1_i32_414 : BitVec 32 := 1#32
  let v698 : BitVec 32 := Scalar.select v697 c1_i32_414 c32_i32_412
  let v699 : BitVec 32 := Scalar.remsi v696 v698
  let c0_i32_416 : BitVec 32 := 0#32
  let v701 : BitVec 1 := Scalar.cmpi .slt v699 c0_i32_416
  let c0_i32_417 : BitVec 32 := 0#32
  let v702 : BitVec 1 := Scalar.cmpi .slt v698 c0_i32_417
  let v703 : BitVec 1 := Scalar.xori v701 v702
  let c0_i32_415 : BitVec 32 := 0#32
  let v700 : BitVec 1 := Scalar.cmpi .ne v699 c0_i32_415
  let v704 : BitVec 1 := Scalar.andi v703 v700
  let v705 : BitVec 32 := Scalar.addi v699 v698
  let v706 : BitVec 32 := Scalar.select v704 v705 v699
  let c1_i32_419 : BitVec 32 := 1#32
  let v707 : BitVec 32 := Scalar.muli v706 c1_i32_419
  let v708 : BitVec 32 := Scalar.addi c0_i32_420 v707
  v708.toNat
def k0_dev28 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v709 : BitVec 32 := Scalar.addi v2 c28_i32
  let c32_i32_421 : BitVec 32 := 32#32
  let c0_i32_422 : BitVec 32 := 0#32
  let v710 : BitVec 1 := Scalar.cmpi .eq c32_i32_421 c0_i32_422
  let c1_i32_423 : BitVec 32 := 1#32
  let v711 : BitVec 32 := Scalar.select v710 c1_i32_423 c32_i32_421
  let v712 : BitVec 32 := Scalar.remsi v709 v711
  let c0_i32_425 : BitVec 32 := 0#32
  let v714 : BitVec 1 := Scalar.cmpi .slt v712 c0_i32_425
  let c0_i32_426 : BitVec 32 := 0#32
  let v715 : BitVec 1 := Scalar.cmpi .slt v711 c0_i32_426
  let v716 : BitVec 1 := Scalar.xori v714 v715
  let c0_i32_424 : BitVec 32 := 0#32
  let v713 : BitVec 1 := Scalar.cmpi .ne v712 c0_i32_424
  let v717 : BitVec 1 := Scalar.andi v716 v713
  let v718 : BitVec 32 := Scalar.addi v712 v711
  let v719 : BitVec 32 := Scalar.select v717 v718 v712
  let c1_i32_428 : BitVec 32 := 1#32
  let v720 : BitVec 32 := Scalar.muli v719 c1_i32_428
  let v721 : BitVec 32 := Scalar.addi c0_i32_429 v720
  v721.toNat
def k0_dev29 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v722 : BitVec 32 := Scalar.addi v2 c29_i32
  let c32_i32_430 : BitVec 32 := 32#32
  let c0_i32_431 : BitVec 32 := 0#32
  let v723 : BitVec 1 := Scalar.cmpi .eq c32_i32_430 c0_i32_431
  let c1_i32_432 : BitVec 32 := 1#32
  let v724 : BitVec 32 := Scalar.select v723 c1_i32_432 c32_i32_430
  let v725 : BitVec 32 := Scalar.remsi v722 v724
  let c0_i32_434 : BitVec 32 := 0#32
  let v727 : BitVec 1 := Scalar.cmpi .slt v725 c0_i32_434
  let c0_i32_435 : BitVec 32 := 0#32
  let v728 : BitVec 1 := Scalar.cmpi .slt v724 c0_i32_435
  let v729 : BitVec 1 := Scalar.xori v727 v728
  let c0_i32_433 : BitVec 32 := 0#32
  let v726 : BitVec 1 := Scalar.cmpi .ne v725 c0_i32_433
  let v730 : BitVec 1 := Scalar.andi v729 v726
  let v731 : BitVec 32 := Scalar.addi v725 v724
  let v732 : BitVec 32 := Scalar.select v730 v731 v725
  let c1_i32_437 : BitVec 32 := 1#32
  let v733 : BitVec 32 := Scalar.muli v732 c1_i32_437
  let v734 : BitVec 32 := Scalar.addi c0_i32_438 v733
  v734.toNat
def k0_dev30 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v735 : BitVec 32 := Scalar.addi v2 c30_i32
  let c32_i32_439 : BitVec 32 := 32#32
  let c0_i32_440 : BitVec 32 := 0#32
  let v736 : BitVec 1 := Scalar.cmpi .eq c32_i32_439 c0_i32_440
  let c1_i32_441 : BitVec 32 := 1#32
  let v737 : BitVec 32 := Scalar.select v736 c1_i32_441 c32_i32_439
  let v738 : BitVec 32 := Scalar.remsi v735 v737
  let c0_i32_443 : BitVec 32 := 0#32
  let v740 : BitVec 1 := Scalar.cmpi .slt v738 c0_i32_443
  let c0_i32_444 : BitVec 32 := 0#32
  let v741 : BitVec 1 := Scalar.cmpi .slt v737 c0_i32_444
  let v742 : BitVec 1 := Scalar.xori v740 v741
  let c0_i32_442 : BitVec 32 := 0#32
  let v739 : BitVec 1 := Scalar.cmpi .ne v738 c0_i32_442
  let v743 : BitVec 1 := Scalar.andi v742 v739
  let v744 : BitVec 32 := Scalar.addi v738 v737
  let v745 : BitVec 32 := Scalar.select v743 v744 v738
  let c1_i32_446 : BitVec 32 := 1#32
  let v746 : BitVec 32 := Scalar.muli v745 c1_i32_446
  let v747 : BitVec 32 := Scalar.addi c0_i32_447 v746
  v747.toNat
def k0_dev31 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v748 : BitVec 32 := Scalar.addi v2 c31_i32
  let c32_i32_448 : BitVec 32 := 32#32
  let c0_i32_449 : BitVec 32 := 0#32
  let v749 : BitVec 1 := Scalar.cmpi .eq c32_i32_448 c0_i32_449
  let c1_i32_450 : BitVec 32 := 1#32
  let v750 : BitVec 32 := Scalar.select v749 c1_i32_450 c32_i32_448
  let v751 : BitVec 32 := Scalar.remsi v748 v750
  let c0_i32_452 : BitVec 32 := 0#32
  let v753 : BitVec 1 := Scalar.cmpi .slt v751 c0_i32_452
  let c0_i32_453 : BitVec 32 := 0#32
  let v754 : BitVec 1 := Scalar.cmpi .slt v750 c0_i32_453
  let v755 : BitVec 1 := Scalar.xori v753 v754
  let c0_i32_451 : BitVec 32 := 0#32
  let v752 : BitVec 1 := Scalar.cmpi .ne v751 c0_i32_451
  let v756 : BitVec 1 := Scalar.andi v755 v752
  let v757 : BitVec 32 := Scalar.addi v751 v750
  let v758 : BitVec 32 := Scalar.select v756 v757 v751
  let c1_i32_455 : BitVec 32 := 1#32
  let v759 : BitVec 32 := Scalar.muli v758 c1_i32_455
  let v760 : BitVec 32 := Scalar.addi c0_i32_456 v759
  v760.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_468 : BitVec 32 := 0#32
  let c0_i32_469 : BitVec 32 := 0#32
  ![v2.toNat, 0, 0]
def k0_off3 (d0 : Dev nD) (c1_i32_458 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v761 : BitVec 32 := Scalar.addi v2 c1_i32_458
  let c32_i32_459 : BitVec 32 := 32#32
  let c0_i32_460 : BitVec 32 := 0#32
  let v762 : BitVec 1 := Scalar.cmpi .eq c32_i32_459 c0_i32_460
  let c1_i32_461 : BitVec 32 := 1#32
  let v763 : BitVec 32 := Scalar.select v762 c1_i32_461 c32_i32_459
  let v764 : BitVec 32 := Scalar.remsi v761 v763
  let c0_i32_463 : BitVec 32 := 0#32
  let v766 : BitVec 1 := Scalar.cmpi .slt v764 c0_i32_463
  let c0_i32_464 : BitVec 32 := 0#32
  let v767 : BitVec 1 := Scalar.cmpi .slt v763 c0_i32_464
  let v768 : BitVec 1 := Scalar.xori v766 v767
  let c0_i32_462 : BitVec 32 := 0#32
  let v765 : BitVec 1 := Scalar.cmpi .ne v764 c0_i32_462
  let v769 : BitVec 1 := Scalar.andi v768 v765
  let v770 : BitVec 32 := Scalar.addi v764 v763
  let v771 : BitVec 32 := Scalar.select v769 v770 v764
  let c0_i32_470 : BitVec 32 := 0#32
  let c0_i32_471 : BitVec 32 := 0#32
  ![v771.toNat, 0, 0]
def k0_dev32 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_458 : BitVec 32 := 1#32
  let v761 : BitVec 32 := Scalar.addi v2 c1_i32_458
  let c32_i32_459 : BitVec 32 := 32#32
  let c0_i32_460 : BitVec 32 := 0#32
  let v762 : BitVec 1 := Scalar.cmpi .eq c32_i32_459 c0_i32_460
  let c1_i32_461 : BitVec 32 := 1#32
  let v763 : BitVec 32 := Scalar.select v762 c1_i32_461 c32_i32_459
  let v764 : BitVec 32 := Scalar.remsi v761 v763
  let c0_i32_463 : BitVec 32 := 0#32
  let v766 : BitVec 1 := Scalar.cmpi .slt v764 c0_i32_463
  let c0_i32_464 : BitVec 32 := 0#32
  let v767 : BitVec 1 := Scalar.cmpi .slt v763 c0_i32_464
  let v768 : BitVec 1 := Scalar.xori v766 v767
  let c0_i32_462 : BitVec 32 := 0#32
  let v765 : BitVec 1 := Scalar.cmpi .ne v764 c0_i32_462
  let v769 : BitVec 1 := Scalar.andi v768 v765
  let v770 : BitVec 32 := Scalar.addi v764 v763
  let v771 : BitVec 32 := Scalar.select v769 v770 v764
  let c1_i32_466 : BitVec 32 := 1#32
  let v772 : BitVec 32 := Scalar.muli v771 c1_i32_466
  let v773 : BitVec 32 := Scalar.addi c0_i32_467 v772
  v773.toNat
def k0_dev33 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_472 : BitVec 32 := 2#32
  let v782 : BitVec 32 := Scalar.addi v2 c2_i32_472
  let c32_i32_473 : BitVec 32 := 32#32
  let c0_i32_474 : BitVec 32 := 0#32
  let v783 : BitVec 1 := Scalar.cmpi .eq c32_i32_473 c0_i32_474
  let c1_i32_475 : BitVec 32 := 1#32
  let v784 : BitVec 32 := Scalar.select v783 c1_i32_475 c32_i32_473
  let v785 : BitVec 32 := Scalar.remsi v782 v784
  let c0_i32_477 : BitVec 32 := 0#32
  let v787 : BitVec 1 := Scalar.cmpi .slt v785 c0_i32_477
  let c0_i32_478 : BitVec 32 := 0#32
  let v788 : BitVec 1 := Scalar.cmpi .slt v784 c0_i32_478
  let v789 : BitVec 1 := Scalar.xori v787 v788
  let c0_i32_476 : BitVec 32 := 0#32
  let v786 : BitVec 1 := Scalar.cmpi .ne v785 c0_i32_476
  let v790 : BitVec 1 := Scalar.andi v789 v786
  let v791 : BitVec 32 := Scalar.addi v785 v784
  let v792 : BitVec 32 := Scalar.select v790 v791 v785
  let c1_i32_480 : BitVec 32 := 1#32
  let v793 : BitVec 32 := Scalar.muli v792 c1_i32_480
  let v794 : BitVec 32 := Scalar.addi c0_i32_481 v793
  v794.toNat
def k0_dev34 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_486 : BitVec 32 := 3#32
  let v803 : BitVec 32 := Scalar.addi v2 c3_i32_486
  let c32_i32_487 : BitVec 32 := 32#32
  let c0_i32_488 : BitVec 32 := 0#32
  let v804 : BitVec 1 := Scalar.cmpi .eq c32_i32_487 c0_i32_488
  let c1_i32_489 : BitVec 32 := 1#32
  let v805 : BitVec 32 := Scalar.select v804 c1_i32_489 c32_i32_487
  let v806 : BitVec 32 := Scalar.remsi v803 v805
  let c0_i32_491 : BitVec 32 := 0#32
  let v808 : BitVec 1 := Scalar.cmpi .slt v806 c0_i32_491
  let c0_i32_492 : BitVec 32 := 0#32
  let v809 : BitVec 1 := Scalar.cmpi .slt v805 c0_i32_492
  let v810 : BitVec 1 := Scalar.xori v808 v809
  let c0_i32_490 : BitVec 32 := 0#32
  let v807 : BitVec 1 := Scalar.cmpi .ne v806 c0_i32_490
  let v811 : BitVec 1 := Scalar.andi v810 v807
  let v812 : BitVec 32 := Scalar.addi v806 v805
  let v813 : BitVec 32 := Scalar.select v811 v812 v806
  let c1_i32_494 : BitVec 32 := 1#32
  let v814 : BitVec 32 := Scalar.muli v813 c1_i32_494
  let v815 : BitVec 32 := Scalar.addi c0_i32_495 v814
  v815.toNat
def k0_dev35 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_500 : BitVec 32 := 4#32
  let v824 : BitVec 32 := Scalar.addi v2 c4_i32_500
  let c32_i32_501 : BitVec 32 := 32#32
  let c0_i32_502 : BitVec 32 := 0#32
  let v825 : BitVec 1 := Scalar.cmpi .eq c32_i32_501 c0_i32_502
  let c1_i32_503 : BitVec 32 := 1#32
  let v826 : BitVec 32 := Scalar.select v825 c1_i32_503 c32_i32_501
  let v827 : BitVec 32 := Scalar.remsi v824 v826
  let c0_i32_505 : BitVec 32 := 0#32
  let v829 : BitVec 1 := Scalar.cmpi .slt v827 c0_i32_505
  let c0_i32_506 : BitVec 32 := 0#32
  let v830 : BitVec 1 := Scalar.cmpi .slt v826 c0_i32_506
  let v831 : BitVec 1 := Scalar.xori v829 v830
  let c0_i32_504 : BitVec 32 := 0#32
  let v828 : BitVec 1 := Scalar.cmpi .ne v827 c0_i32_504
  let v832 : BitVec 1 := Scalar.andi v831 v828
  let v833 : BitVec 32 := Scalar.addi v827 v826
  let v834 : BitVec 32 := Scalar.select v832 v833 v827
  let c1_i32_508 : BitVec 32 := 1#32
  let v835 : BitVec 32 := Scalar.muli v834 c1_i32_508
  let v836 : BitVec 32 := Scalar.addi c0_i32_509 v835
  v836.toNat
def k0_dev36 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_514 : BitVec 32 := 5#32
  let v845 : BitVec 32 := Scalar.addi v2 c5_i32_514
  let c32_i32_515 : BitVec 32 := 32#32
  let c0_i32_516 : BitVec 32 := 0#32
  let v846 : BitVec 1 := Scalar.cmpi .eq c32_i32_515 c0_i32_516
  let c1_i32_517 : BitVec 32 := 1#32
  let v847 : BitVec 32 := Scalar.select v846 c1_i32_517 c32_i32_515
  let v848 : BitVec 32 := Scalar.remsi v845 v847
  let c0_i32_519 : BitVec 32 := 0#32
  let v850 : BitVec 1 := Scalar.cmpi .slt v848 c0_i32_519
  let c0_i32_520 : BitVec 32 := 0#32
  let v851 : BitVec 1 := Scalar.cmpi .slt v847 c0_i32_520
  let v852 : BitVec 1 := Scalar.xori v850 v851
  let c0_i32_518 : BitVec 32 := 0#32
  let v849 : BitVec 1 := Scalar.cmpi .ne v848 c0_i32_518
  let v853 : BitVec 1 := Scalar.andi v852 v849
  let v854 : BitVec 32 := Scalar.addi v848 v847
  let v855 : BitVec 32 := Scalar.select v853 v854 v848
  let c1_i32_522 : BitVec 32 := 1#32
  let v856 : BitVec 32 := Scalar.muli v855 c1_i32_522
  let v857 : BitVec 32 := Scalar.addi c0_i32_523 v856
  v857.toNat
def k0_dev37 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_528 : BitVec 32 := 6#32
  let v866 : BitVec 32 := Scalar.addi v2 c6_i32_528
  let c32_i32_529 : BitVec 32 := 32#32
  let c0_i32_530 : BitVec 32 := 0#32
  let v867 : BitVec 1 := Scalar.cmpi .eq c32_i32_529 c0_i32_530
  let c1_i32_531 : BitVec 32 := 1#32
  let v868 : BitVec 32 := Scalar.select v867 c1_i32_531 c32_i32_529
  let v869 : BitVec 32 := Scalar.remsi v866 v868
  let c0_i32_533 : BitVec 32 := 0#32
  let v871 : BitVec 1 := Scalar.cmpi .slt v869 c0_i32_533
  let c0_i32_534 : BitVec 32 := 0#32
  let v872 : BitVec 1 := Scalar.cmpi .slt v868 c0_i32_534
  let v873 : BitVec 1 := Scalar.xori v871 v872
  let c0_i32_532 : BitVec 32 := 0#32
  let v870 : BitVec 1 := Scalar.cmpi .ne v869 c0_i32_532
  let v874 : BitVec 1 := Scalar.andi v873 v870
  let v875 : BitVec 32 := Scalar.addi v869 v868
  let v876 : BitVec 32 := Scalar.select v874 v875 v869
  let c1_i32_536 : BitVec 32 := 1#32
  let v877 : BitVec 32 := Scalar.muli v876 c1_i32_536
  let v878 : BitVec 32 := Scalar.addi c0_i32_537 v877
  v878.toNat
def k0_dev38 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_542 : BitVec 32 := 7#32
  let v887 : BitVec 32 := Scalar.addi v2 c7_i32_542
  let c32_i32_543 : BitVec 32 := 32#32
  let c0_i32_544 : BitVec 32 := 0#32
  let v888 : BitVec 1 := Scalar.cmpi .eq c32_i32_543 c0_i32_544
  let c1_i32_545 : BitVec 32 := 1#32
  let v889 : BitVec 32 := Scalar.select v888 c1_i32_545 c32_i32_543
  let v890 : BitVec 32 := Scalar.remsi v887 v889
  let c0_i32_547 : BitVec 32 := 0#32
  let v892 : BitVec 1 := Scalar.cmpi .slt v890 c0_i32_547
  let c0_i32_548 : BitVec 32 := 0#32
  let v893 : BitVec 1 := Scalar.cmpi .slt v889 c0_i32_548
  let v894 : BitVec 1 := Scalar.xori v892 v893
  let c0_i32_546 : BitVec 32 := 0#32
  let v891 : BitVec 1 := Scalar.cmpi .ne v890 c0_i32_546
  let v895 : BitVec 1 := Scalar.andi v894 v891
  let v896 : BitVec 32 := Scalar.addi v890 v889
  let v897 : BitVec 32 := Scalar.select v895 v896 v890
  let c1_i32_550 : BitVec 32 := 1#32
  let v898 : BitVec 32 := Scalar.muli v897 c1_i32_550
  let v899 : BitVec 32 := Scalar.addi c0_i32_551 v898
  v899.toNat
def k0_dev39 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_556 : BitVec 32 := 8#32
  let v908 : BitVec 32 := Scalar.addi v2 c8_i32_556
  let c32_i32_557 : BitVec 32 := 32#32
  let c0_i32_558 : BitVec 32 := 0#32
  let v909 : BitVec 1 := Scalar.cmpi .eq c32_i32_557 c0_i32_558
  let c1_i32_559 : BitVec 32 := 1#32
  let v910 : BitVec 32 := Scalar.select v909 c1_i32_559 c32_i32_557
  let v911 : BitVec 32 := Scalar.remsi v908 v910
  let c0_i32_561 : BitVec 32 := 0#32
  let v913 : BitVec 1 := Scalar.cmpi .slt v911 c0_i32_561
  let c0_i32_562 : BitVec 32 := 0#32
  let v914 : BitVec 1 := Scalar.cmpi .slt v910 c0_i32_562
  let v915 : BitVec 1 := Scalar.xori v913 v914
  let c0_i32_560 : BitVec 32 := 0#32
  let v912 : BitVec 1 := Scalar.cmpi .ne v911 c0_i32_560
  let v916 : BitVec 1 := Scalar.andi v915 v912
  let v917 : BitVec 32 := Scalar.addi v911 v910
  let v918 : BitVec 32 := Scalar.select v916 v917 v911
  let c1_i32_564 : BitVec 32 := 1#32
  let v919 : BitVec 32 := Scalar.muli v918 c1_i32_564
  let v920 : BitVec 32 := Scalar.addi c0_i32_565 v919
  v920.toNat
def k0_dev40 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_570 : BitVec 32 := 9#32
  let v929 : BitVec 32 := Scalar.addi v2 c9_i32_570
  let c32_i32_571 : BitVec 32 := 32#32
  let c0_i32_572 : BitVec 32 := 0#32
  let v930 : BitVec 1 := Scalar.cmpi .eq c32_i32_571 c0_i32_572
  let c1_i32_573 : BitVec 32 := 1#32
  let v931 : BitVec 32 := Scalar.select v930 c1_i32_573 c32_i32_571
  let v932 : BitVec 32 := Scalar.remsi v929 v931
  let c0_i32_575 : BitVec 32 := 0#32
  let v934 : BitVec 1 := Scalar.cmpi .slt v932 c0_i32_575
  let c0_i32_576 : BitVec 32 := 0#32
  let v935 : BitVec 1 := Scalar.cmpi .slt v931 c0_i32_576
  let v936 : BitVec 1 := Scalar.xori v934 v935
  let c0_i32_574 : BitVec 32 := 0#32
  let v933 : BitVec 1 := Scalar.cmpi .ne v932 c0_i32_574
  let v937 : BitVec 1 := Scalar.andi v936 v933
  let v938 : BitVec 32 := Scalar.addi v932 v931
  let v939 : BitVec 32 := Scalar.select v937 v938 v932
  let c1_i32_578 : BitVec 32 := 1#32
  let v940 : BitVec 32 := Scalar.muli v939 c1_i32_578
  let v941 : BitVec 32 := Scalar.addi c0_i32_579 v940
  v941.toNat
def k0_dev41 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_584 : BitVec 32 := 10#32
  let v950 : BitVec 32 := Scalar.addi v2 c10_i32_584
  let c32_i32_585 : BitVec 32 := 32#32
  let c0_i32_586 : BitVec 32 := 0#32
  let v951 : BitVec 1 := Scalar.cmpi .eq c32_i32_585 c0_i32_586
  let c1_i32_587 : BitVec 32 := 1#32
  let v952 : BitVec 32 := Scalar.select v951 c1_i32_587 c32_i32_585
  let v953 : BitVec 32 := Scalar.remsi v950 v952
  let c0_i32_589 : BitVec 32 := 0#32
  let v955 : BitVec 1 := Scalar.cmpi .slt v953 c0_i32_589
  let c0_i32_590 : BitVec 32 := 0#32
  let v956 : BitVec 1 := Scalar.cmpi .slt v952 c0_i32_590
  let v957 : BitVec 1 := Scalar.xori v955 v956
  let c0_i32_588 : BitVec 32 := 0#32
  let v954 : BitVec 1 := Scalar.cmpi .ne v953 c0_i32_588
  let v958 : BitVec 1 := Scalar.andi v957 v954
  let v959 : BitVec 32 := Scalar.addi v953 v952
  let v960 : BitVec 32 := Scalar.select v958 v959 v953
  let c1_i32_592 : BitVec 32 := 1#32
  let v961 : BitVec 32 := Scalar.muli v960 c1_i32_592
  let v962 : BitVec 32 := Scalar.addi c0_i32_593 v961
  v962.toNat
def k0_dev42 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_598 : BitVec 32 := 11#32
  let v971 : BitVec 32 := Scalar.addi v2 c11_i32_598
  let c32_i32_599 : BitVec 32 := 32#32
  let c0_i32_600 : BitVec 32 := 0#32
  let v972 : BitVec 1 := Scalar.cmpi .eq c32_i32_599 c0_i32_600
  let c1_i32_601 : BitVec 32 := 1#32
  let v973 : BitVec 32 := Scalar.select v972 c1_i32_601 c32_i32_599
  let v974 : BitVec 32 := Scalar.remsi v971 v973
  let c0_i32_603 : BitVec 32 := 0#32
  let v976 : BitVec 1 := Scalar.cmpi .slt v974 c0_i32_603
  let c0_i32_604 : BitVec 32 := 0#32
  let v977 : BitVec 1 := Scalar.cmpi .slt v973 c0_i32_604
  let v978 : BitVec 1 := Scalar.xori v976 v977
  let c0_i32_602 : BitVec 32 := 0#32
  let v975 : BitVec 1 := Scalar.cmpi .ne v974 c0_i32_602
  let v979 : BitVec 1 := Scalar.andi v978 v975
  let v980 : BitVec 32 := Scalar.addi v974 v973
  let v981 : BitVec 32 := Scalar.select v979 v980 v974
  let c1_i32_606 : BitVec 32 := 1#32
  let v982 : BitVec 32 := Scalar.muli v981 c1_i32_606
  let v983 : BitVec 32 := Scalar.addi c0_i32_607 v982
  v983.toNat
def k0_dev43 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_612 : BitVec 32 := 12#32
  let v992 : BitVec 32 := Scalar.addi v2 c12_i32_612
  let c32_i32_613 : BitVec 32 := 32#32
  let c0_i32_614 : BitVec 32 := 0#32
  let v993 : BitVec 1 := Scalar.cmpi .eq c32_i32_613 c0_i32_614
  let c1_i32_615 : BitVec 32 := 1#32
  let v994 : BitVec 32 := Scalar.select v993 c1_i32_615 c32_i32_613
  let v995 : BitVec 32 := Scalar.remsi v992 v994
  let c0_i32_617 : BitVec 32 := 0#32
  let v997 : BitVec 1 := Scalar.cmpi .slt v995 c0_i32_617
  let c0_i32_618 : BitVec 32 := 0#32
  let v998 : BitVec 1 := Scalar.cmpi .slt v994 c0_i32_618
  let v999 : BitVec 1 := Scalar.xori v997 v998
  let c0_i32_616 : BitVec 32 := 0#32
  let v996 : BitVec 1 := Scalar.cmpi .ne v995 c0_i32_616
  let v1000 : BitVec 1 := Scalar.andi v999 v996
  let v1001 : BitVec 32 := Scalar.addi v995 v994
  let v1002 : BitVec 32 := Scalar.select v1000 v1001 v995
  let c1_i32_620 : BitVec 32 := 1#32
  let v1003 : BitVec 32 := Scalar.muli v1002 c1_i32_620
  let v1004 : BitVec 32 := Scalar.addi c0_i32_621 v1003
  v1004.toNat
def k0_dev44 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_626 : BitVec 32 := 13#32
  let v1013 : BitVec 32 := Scalar.addi v2 c13_i32_626
  let c32_i32_627 : BitVec 32 := 32#32
  let c0_i32_628 : BitVec 32 := 0#32
  let v1014 : BitVec 1 := Scalar.cmpi .eq c32_i32_627 c0_i32_628
  let c1_i32_629 : BitVec 32 := 1#32
  let v1015 : BitVec 32 := Scalar.select v1014 c1_i32_629 c32_i32_627
  let v1016 : BitVec 32 := Scalar.remsi v1013 v1015
  let c0_i32_631 : BitVec 32 := 0#32
  let v1018 : BitVec 1 := Scalar.cmpi .slt v1016 c0_i32_631
  let c0_i32_632 : BitVec 32 := 0#32
  let v1019 : BitVec 1 := Scalar.cmpi .slt v1015 c0_i32_632
  let v1020 : BitVec 1 := Scalar.xori v1018 v1019
  let c0_i32_630 : BitVec 32 := 0#32
  let v1017 : BitVec 1 := Scalar.cmpi .ne v1016 c0_i32_630
  let v1021 : BitVec 1 := Scalar.andi v1020 v1017
  let v1022 : BitVec 32 := Scalar.addi v1016 v1015
  let v1023 : BitVec 32 := Scalar.select v1021 v1022 v1016
  let c1_i32_634 : BitVec 32 := 1#32
  let v1024 : BitVec 32 := Scalar.muli v1023 c1_i32_634
  let v1025 : BitVec 32 := Scalar.addi c0_i32_635 v1024
  v1025.toNat
def k0_dev45 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_640 : BitVec 32 := 14#32
  let v1034 : BitVec 32 := Scalar.addi v2 c14_i32_640
  let c32_i32_641 : BitVec 32 := 32#32
  let c0_i32_642 : BitVec 32 := 0#32
  let v1035 : BitVec 1 := Scalar.cmpi .eq c32_i32_641 c0_i32_642
  let c1_i32_643 : BitVec 32 := 1#32
  let v1036 : BitVec 32 := Scalar.select v1035 c1_i32_643 c32_i32_641
  let v1037 : BitVec 32 := Scalar.remsi v1034 v1036
  let c0_i32_645 : BitVec 32 := 0#32
  let v1039 : BitVec 1 := Scalar.cmpi .slt v1037 c0_i32_645
  let c0_i32_646 : BitVec 32 := 0#32
  let v1040 : BitVec 1 := Scalar.cmpi .slt v1036 c0_i32_646
  let v1041 : BitVec 1 := Scalar.xori v1039 v1040
  let c0_i32_644 : BitVec 32 := 0#32
  let v1038 : BitVec 1 := Scalar.cmpi .ne v1037 c0_i32_644
  let v1042 : BitVec 1 := Scalar.andi v1041 v1038
  let v1043 : BitVec 32 := Scalar.addi v1037 v1036
  let v1044 : BitVec 32 := Scalar.select v1042 v1043 v1037
  let c1_i32_648 : BitVec 32 := 1#32
  let v1045 : BitVec 32 := Scalar.muli v1044 c1_i32_648
  let v1046 : BitVec 32 := Scalar.addi c0_i32_649 v1045
  v1046.toNat
def k0_dev46 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_654 : BitVec 32 := 15#32
  let v1055 : BitVec 32 := Scalar.addi v2 c15_i32_654
  let c32_i32_655 : BitVec 32 := 32#32
  let c0_i32_656 : BitVec 32 := 0#32
  let v1056 : BitVec 1 := Scalar.cmpi .eq c32_i32_655 c0_i32_656
  let c1_i32_657 : BitVec 32 := 1#32
  let v1057 : BitVec 32 := Scalar.select v1056 c1_i32_657 c32_i32_655
  let v1058 : BitVec 32 := Scalar.remsi v1055 v1057
  let c0_i32_659 : BitVec 32 := 0#32
  let v1060 : BitVec 1 := Scalar.cmpi .slt v1058 c0_i32_659
  let c0_i32_660 : BitVec 32 := 0#32
  let v1061 : BitVec 1 := Scalar.cmpi .slt v1057 c0_i32_660
  let v1062 : BitVec 1 := Scalar.xori v1060 v1061
  let c0_i32_658 : BitVec 32 := 0#32
  let v1059 : BitVec 1 := Scalar.cmpi .ne v1058 c0_i32_658
  let v1063 : BitVec 1 := Scalar.andi v1062 v1059
  let v1064 : BitVec 32 := Scalar.addi v1058 v1057
  let v1065 : BitVec 32 := Scalar.select v1063 v1064 v1058
  let c1_i32_662 : BitVec 32 := 1#32
  let v1066 : BitVec 32 := Scalar.muli v1065 c1_i32_662
  let v1067 : BitVec 32 := Scalar.addi c0_i32_663 v1066
  v1067.toNat
def k0_dev47 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_668 : BitVec 32 := 16#32
  let v1076 : BitVec 32 := Scalar.addi v2 c16_i32_668
  let c32_i32_669 : BitVec 32 := 32#32
  let c0_i32_670 : BitVec 32 := 0#32
  let v1077 : BitVec 1 := Scalar.cmpi .eq c32_i32_669 c0_i32_670
  let c1_i32_671 : BitVec 32 := 1#32
  let v1078 : BitVec 32 := Scalar.select v1077 c1_i32_671 c32_i32_669
  let v1079 : BitVec 32 := Scalar.remsi v1076 v1078
  let c0_i32_673 : BitVec 32 := 0#32
  let v1081 : BitVec 1 := Scalar.cmpi .slt v1079 c0_i32_673
  let c0_i32_674 : BitVec 32 := 0#32
  let v1082 : BitVec 1 := Scalar.cmpi .slt v1078 c0_i32_674
  let v1083 : BitVec 1 := Scalar.xori v1081 v1082
  let c0_i32_672 : BitVec 32 := 0#32
  let v1080 : BitVec 1 := Scalar.cmpi .ne v1079 c0_i32_672
  let v1084 : BitVec 1 := Scalar.andi v1083 v1080
  let v1085 : BitVec 32 := Scalar.addi v1079 v1078
  let v1086 : BitVec 32 := Scalar.select v1084 v1085 v1079
  let c1_i32_676 : BitVec 32 := 1#32
  let v1087 : BitVec 32 := Scalar.muli v1086 c1_i32_676
  let v1088 : BitVec 32 := Scalar.addi c0_i32_677 v1087
  v1088.toNat
def k0_dev48 (d0 : Dev nD) : Nat :=
  let c0_i32_691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_682 : BitVec 32 := 17#32
  let v1097 : BitVec 32 := Scalar.addi v2 c17_i32_682
  let c32_i32_683 : BitVec 32 := 32#32
  let c0_i32_684 : BitVec 32 := 0#32
  let v1098 : BitVec 1 := Scalar.cmpi .eq c32_i32_683 c0_i32_684
  let c1_i32_685 : BitVec 32 := 1#32
  let v1099 : BitVec 32 := Scalar.select v1098 c1_i32_685 c32_i32_683
  let v1100 : BitVec 32 := Scalar.remsi v1097 v1099
  let c0_i32_687 : BitVec 32 := 0#32
  let v1102 : BitVec 1 := Scalar.cmpi .slt v1100 c0_i32_687
  let c0_i32_688 : BitVec 32 := 0#32
  let v1103 : BitVec 1 := Scalar.cmpi .slt v1099 c0_i32_688
  let v1104 : BitVec 1 := Scalar.xori v1102 v1103
  let c0_i32_686 : BitVec 32 := 0#32
  let v1101 : BitVec 1 := Scalar.cmpi .ne v1100 c0_i32_686
  let v1105 : BitVec 1 := Scalar.andi v1104 v1101
  let v1106 : BitVec 32 := Scalar.addi v1100 v1099
  let v1107 : BitVec 32 := Scalar.select v1105 v1106 v1100
  let c1_i32_690 : BitVec 32 := 1#32
  let v1108 : BitVec 32 := Scalar.muli v1107 c1_i32_690
  let v1109 : BitVec 32 := Scalar.addi c0_i32_691 v1108
  v1109.toNat
def k0_dev49 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_696 : BitVec 32 := 18#32
  let v1118 : BitVec 32 := Scalar.addi v2 c18_i32_696
  let c32_i32_697 : BitVec 32 := 32#32
  let c0_i32_698 : BitVec 32 := 0#32
  let v1119 : BitVec 1 := Scalar.cmpi .eq c32_i32_697 c0_i32_698
  let c1_i32_699 : BitVec 32 := 1#32
  let v1120 : BitVec 32 := Scalar.select v1119 c1_i32_699 c32_i32_697
  let v1121 : BitVec 32 := Scalar.remsi v1118 v1120
  let c0_i32_701 : BitVec 32 := 0#32
  let v1123 : BitVec 1 := Scalar.cmpi .slt v1121 c0_i32_701
  let c0_i32_702 : BitVec 32 := 0#32
  let v1124 : BitVec 1 := Scalar.cmpi .slt v1120 c0_i32_702
  let v1125 : BitVec 1 := Scalar.xori v1123 v1124
  let c0_i32_700 : BitVec 32 := 0#32
  let v1122 : BitVec 1 := Scalar.cmpi .ne v1121 c0_i32_700
  let v1126 : BitVec 1 := Scalar.andi v1125 v1122
  let v1127 : BitVec 32 := Scalar.addi v1121 v1120
  let v1128 : BitVec 32 := Scalar.select v1126 v1127 v1121
  let c1_i32_704 : BitVec 32 := 1#32
  let v1129 : BitVec 32 := Scalar.muli v1128 c1_i32_704
  let v1130 : BitVec 32 := Scalar.addi c0_i32_705 v1129
  v1130.toNat
def k0_dev50 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_710 : BitVec 32 := 19#32
  let v1139 : BitVec 32 := Scalar.addi v2 c19_i32_710
  let c32_i32_711 : BitVec 32 := 32#32
  let c0_i32_712 : BitVec 32 := 0#32
  let v1140 : BitVec 1 := Scalar.cmpi .eq c32_i32_711 c0_i32_712
  let c1_i32_713 : BitVec 32 := 1#32
  let v1141 : BitVec 32 := Scalar.select v1140 c1_i32_713 c32_i32_711
  let v1142 : BitVec 32 := Scalar.remsi v1139 v1141
  let c0_i32_715 : BitVec 32 := 0#32
  let v1144 : BitVec 1 := Scalar.cmpi .slt v1142 c0_i32_715
  let c0_i32_716 : BitVec 32 := 0#32
  let v1145 : BitVec 1 := Scalar.cmpi .slt v1141 c0_i32_716
  let v1146 : BitVec 1 := Scalar.xori v1144 v1145
  let c0_i32_714 : BitVec 32 := 0#32
  let v1143 : BitVec 1 := Scalar.cmpi .ne v1142 c0_i32_714
  let v1147 : BitVec 1 := Scalar.andi v1146 v1143
  let v1148 : BitVec 32 := Scalar.addi v1142 v1141
  let v1149 : BitVec 32 := Scalar.select v1147 v1148 v1142
  let c1_i32_718 : BitVec 32 := 1#32
  let v1150 : BitVec 32 := Scalar.muli v1149 c1_i32_718
  let v1151 : BitVec 32 := Scalar.addi c0_i32_719 v1150
  v1151.toNat
def k0_dev51 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_724 : BitVec 32 := 20#32
  let v1160 : BitVec 32 := Scalar.addi v2 c20_i32_724
  let c32_i32_725 : BitVec 32 := 32#32
  let c0_i32_726 : BitVec 32 := 0#32
  let v1161 : BitVec 1 := Scalar.cmpi .eq c32_i32_725 c0_i32_726
  let c1_i32_727 : BitVec 32 := 1#32
  let v1162 : BitVec 32 := Scalar.select v1161 c1_i32_727 c32_i32_725
  let v1163 : BitVec 32 := Scalar.remsi v1160 v1162
  let c0_i32_729 : BitVec 32 := 0#32
  let v1165 : BitVec 1 := Scalar.cmpi .slt v1163 c0_i32_729
  let c0_i32_730 : BitVec 32 := 0#32
  let v1166 : BitVec 1 := Scalar.cmpi .slt v1162 c0_i32_730
  let v1167 : BitVec 1 := Scalar.xori v1165 v1166
  let c0_i32_728 : BitVec 32 := 0#32
  let v1164 : BitVec 1 := Scalar.cmpi .ne v1163 c0_i32_728
  let v1168 : BitVec 1 := Scalar.andi v1167 v1164
  let v1169 : BitVec 32 := Scalar.addi v1163 v1162
  let v1170 : BitVec 32 := Scalar.select v1168 v1169 v1163
  let c1_i32_732 : BitVec 32 := 1#32
  let v1171 : BitVec 32 := Scalar.muli v1170 c1_i32_732
  let v1172 : BitVec 32 := Scalar.addi c0_i32_733 v1171
  v1172.toNat
def k0_dev52 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_738 : BitVec 32 := 21#32
  let v1181 : BitVec 32 := Scalar.addi v2 c21_i32_738
  let c32_i32_739 : BitVec 32 := 32#32
  let c0_i32_740 : BitVec 32 := 0#32
  let v1182 : BitVec 1 := Scalar.cmpi .eq c32_i32_739 c0_i32_740
  let c1_i32_741 : BitVec 32 := 1#32
  let v1183 : BitVec 32 := Scalar.select v1182 c1_i32_741 c32_i32_739
  let v1184 : BitVec 32 := Scalar.remsi v1181 v1183
  let c0_i32_743 : BitVec 32 := 0#32
  let v1186 : BitVec 1 := Scalar.cmpi .slt v1184 c0_i32_743
  let c0_i32_744 : BitVec 32 := 0#32
  let v1187 : BitVec 1 := Scalar.cmpi .slt v1183 c0_i32_744
  let v1188 : BitVec 1 := Scalar.xori v1186 v1187
  let c0_i32_742 : BitVec 32 := 0#32
  let v1185 : BitVec 1 := Scalar.cmpi .ne v1184 c0_i32_742
  let v1189 : BitVec 1 := Scalar.andi v1188 v1185
  let v1190 : BitVec 32 := Scalar.addi v1184 v1183
  let v1191 : BitVec 32 := Scalar.select v1189 v1190 v1184
  let c1_i32_746 : BitVec 32 := 1#32
  let v1192 : BitVec 32 := Scalar.muli v1191 c1_i32_746
  let v1193 : BitVec 32 := Scalar.addi c0_i32_747 v1192
  v1193.toNat
def k0_dev53 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_752 : BitVec 32 := 22#32
  let v1202 : BitVec 32 := Scalar.addi v2 c22_i32_752
  let c32_i32_753 : BitVec 32 := 32#32
  let c0_i32_754 : BitVec 32 := 0#32
  let v1203 : BitVec 1 := Scalar.cmpi .eq c32_i32_753 c0_i32_754
  let c1_i32_755 : BitVec 32 := 1#32
  let v1204 : BitVec 32 := Scalar.select v1203 c1_i32_755 c32_i32_753
  let v1205 : BitVec 32 := Scalar.remsi v1202 v1204
  let c0_i32_757 : BitVec 32 := 0#32
  let v1207 : BitVec 1 := Scalar.cmpi .slt v1205 c0_i32_757
  let c0_i32_758 : BitVec 32 := 0#32
  let v1208 : BitVec 1 := Scalar.cmpi .slt v1204 c0_i32_758
  let v1209 : BitVec 1 := Scalar.xori v1207 v1208
  let c0_i32_756 : BitVec 32 := 0#32
  let v1206 : BitVec 1 := Scalar.cmpi .ne v1205 c0_i32_756
  let v1210 : BitVec 1 := Scalar.andi v1209 v1206
  let v1211 : BitVec 32 := Scalar.addi v1205 v1204
  let v1212 : BitVec 32 := Scalar.select v1210 v1211 v1205
  let c1_i32_760 : BitVec 32 := 1#32
  let v1213 : BitVec 32 := Scalar.muli v1212 c1_i32_760
  let v1214 : BitVec 32 := Scalar.addi c0_i32_761 v1213
  v1214.toNat
def k0_dev54 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_766 : BitVec 32 := 23#32
  let v1223 : BitVec 32 := Scalar.addi v2 c23_i32_766
  let c32_i32_767 : BitVec 32 := 32#32
  let c0_i32_768 : BitVec 32 := 0#32
  let v1224 : BitVec 1 := Scalar.cmpi .eq c32_i32_767 c0_i32_768
  let c1_i32_769 : BitVec 32 := 1#32
  let v1225 : BitVec 32 := Scalar.select v1224 c1_i32_769 c32_i32_767
  let v1226 : BitVec 32 := Scalar.remsi v1223 v1225
  let c0_i32_771 : BitVec 32 := 0#32
  let v1228 : BitVec 1 := Scalar.cmpi .slt v1226 c0_i32_771
  let c0_i32_772 : BitVec 32 := 0#32
  let v1229 : BitVec 1 := Scalar.cmpi .slt v1225 c0_i32_772
  let v1230 : BitVec 1 := Scalar.xori v1228 v1229
  let c0_i32_770 : BitVec 32 := 0#32
  let v1227 : BitVec 1 := Scalar.cmpi .ne v1226 c0_i32_770
  let v1231 : BitVec 1 := Scalar.andi v1230 v1227
  let v1232 : BitVec 32 := Scalar.addi v1226 v1225
  let v1233 : BitVec 32 := Scalar.select v1231 v1232 v1226
  let c1_i32_774 : BitVec 32 := 1#32
  let v1234 : BitVec 32 := Scalar.muli v1233 c1_i32_774
  let v1235 : BitVec 32 := Scalar.addi c0_i32_775 v1234
  v1235.toNat
def k0_dev55 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_780 : BitVec 32 := 24#32
  let v1244 : BitVec 32 := Scalar.addi v2 c24_i32_780
  let c32_i32_781 : BitVec 32 := 32#32
  let c0_i32_782 : BitVec 32 := 0#32
  let v1245 : BitVec 1 := Scalar.cmpi .eq c32_i32_781 c0_i32_782
  let c1_i32_783 : BitVec 32 := 1#32
  let v1246 : BitVec 32 := Scalar.select v1245 c1_i32_783 c32_i32_781
  let v1247 : BitVec 32 := Scalar.remsi v1244 v1246
  let c0_i32_785 : BitVec 32 := 0#32
  let v1249 : BitVec 1 := Scalar.cmpi .slt v1247 c0_i32_785
  let c0_i32_786 : BitVec 32 := 0#32
  let v1250 : BitVec 1 := Scalar.cmpi .slt v1246 c0_i32_786
  let v1251 : BitVec 1 := Scalar.xori v1249 v1250
  let c0_i32_784 : BitVec 32 := 0#32
  let v1248 : BitVec 1 := Scalar.cmpi .ne v1247 c0_i32_784
  let v1252 : BitVec 1 := Scalar.andi v1251 v1248
  let v1253 : BitVec 32 := Scalar.addi v1247 v1246
  let v1254 : BitVec 32 := Scalar.select v1252 v1253 v1247
  let c1_i32_788 : BitVec 32 := 1#32
  let v1255 : BitVec 32 := Scalar.muli v1254 c1_i32_788
  let v1256 : BitVec 32 := Scalar.addi c0_i32_789 v1255
  v1256.toNat
def k0_dev56 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_794 : BitVec 32 := 25#32
  let v1265 : BitVec 32 := Scalar.addi v2 c25_i32_794
  let c32_i32_795 : BitVec 32 := 32#32
  let c0_i32_796 : BitVec 32 := 0#32
  let v1266 : BitVec 1 := Scalar.cmpi .eq c32_i32_795 c0_i32_796
  let c1_i32_797 : BitVec 32 := 1#32
  let v1267 : BitVec 32 := Scalar.select v1266 c1_i32_797 c32_i32_795
  let v1268 : BitVec 32 := Scalar.remsi v1265 v1267
  let c0_i32_799 : BitVec 32 := 0#32
  let v1270 : BitVec 1 := Scalar.cmpi .slt v1268 c0_i32_799
  let c0_i32_800 : BitVec 32 := 0#32
  let v1271 : BitVec 1 := Scalar.cmpi .slt v1267 c0_i32_800
  let v1272 : BitVec 1 := Scalar.xori v1270 v1271
  let c0_i32_798 : BitVec 32 := 0#32
  let v1269 : BitVec 1 := Scalar.cmpi .ne v1268 c0_i32_798
  let v1273 : BitVec 1 := Scalar.andi v1272 v1269
  let v1274 : BitVec 32 := Scalar.addi v1268 v1267
  let v1275 : BitVec 32 := Scalar.select v1273 v1274 v1268
  let c1_i32_802 : BitVec 32 := 1#32
  let v1276 : BitVec 32 := Scalar.muli v1275 c1_i32_802
  let v1277 : BitVec 32 := Scalar.addi c0_i32_803 v1276
  v1277.toNat
def k0_dev57 (d0 : Dev nD) : Nat :=
  let c0_i32_817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_808 : BitVec 32 := 26#32
  let v1286 : BitVec 32 := Scalar.addi v2 c26_i32_808
  let c32_i32_809 : BitVec 32 := 32#32
  let c0_i32_810 : BitVec 32 := 0#32
  let v1287 : BitVec 1 := Scalar.cmpi .eq c32_i32_809 c0_i32_810
  let c1_i32_811 : BitVec 32 := 1#32
  let v1288 : BitVec 32 := Scalar.select v1287 c1_i32_811 c32_i32_809
  let v1289 : BitVec 32 := Scalar.remsi v1286 v1288
  let c0_i32_813 : BitVec 32 := 0#32
  let v1291 : BitVec 1 := Scalar.cmpi .slt v1289 c0_i32_813
  let c0_i32_814 : BitVec 32 := 0#32
  let v1292 : BitVec 1 := Scalar.cmpi .slt v1288 c0_i32_814
  let v1293 : BitVec 1 := Scalar.xori v1291 v1292
  let c0_i32_812 : BitVec 32 := 0#32
  let v1290 : BitVec 1 := Scalar.cmpi .ne v1289 c0_i32_812
  let v1294 : BitVec 1 := Scalar.andi v1293 v1290
  let v1295 : BitVec 32 := Scalar.addi v1289 v1288
  let v1296 : BitVec 32 := Scalar.select v1294 v1295 v1289
  let c1_i32_816 : BitVec 32 := 1#32
  let v1297 : BitVec 32 := Scalar.muli v1296 c1_i32_816
  let v1298 : BitVec 32 := Scalar.addi c0_i32_817 v1297
  v1298.toNat
def k0_dev58 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_822 : BitVec 32 := 27#32
  let v1307 : BitVec 32 := Scalar.addi v2 c27_i32_822
  let c32_i32_823 : BitVec 32 := 32#32
  let c0_i32_824 : BitVec 32 := 0#32
  let v1308 : BitVec 1 := Scalar.cmpi .eq c32_i32_823 c0_i32_824
  let c1_i32_825 : BitVec 32 := 1#32
  let v1309 : BitVec 32 := Scalar.select v1308 c1_i32_825 c32_i32_823
  let v1310 : BitVec 32 := Scalar.remsi v1307 v1309
  let c0_i32_827 : BitVec 32 := 0#32
  let v1312 : BitVec 1 := Scalar.cmpi .slt v1310 c0_i32_827
  let c0_i32_828 : BitVec 32 := 0#32
  let v1313 : BitVec 1 := Scalar.cmpi .slt v1309 c0_i32_828
  let v1314 : BitVec 1 := Scalar.xori v1312 v1313
  let c0_i32_826 : BitVec 32 := 0#32
  let v1311 : BitVec 1 := Scalar.cmpi .ne v1310 c0_i32_826
  let v1315 : BitVec 1 := Scalar.andi v1314 v1311
  let v1316 : BitVec 32 := Scalar.addi v1310 v1309
  let v1317 : BitVec 32 := Scalar.select v1315 v1316 v1310
  let c1_i32_830 : BitVec 32 := 1#32
  let v1318 : BitVec 32 := Scalar.muli v1317 c1_i32_830
  let v1319 : BitVec 32 := Scalar.addi c0_i32_831 v1318
  v1319.toNat
def k0_dev59 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_836 : BitVec 32 := 28#32
  let v1328 : BitVec 32 := Scalar.addi v2 c28_i32_836
  let c32_i32_837 : BitVec 32 := 32#32
  let c0_i32_838 : BitVec 32 := 0#32
  let v1329 : BitVec 1 := Scalar.cmpi .eq c32_i32_837 c0_i32_838
  let c1_i32_839 : BitVec 32 := 1#32
  let v1330 : BitVec 32 := Scalar.select v1329 c1_i32_839 c32_i32_837
  let v1331 : BitVec 32 := Scalar.remsi v1328 v1330
  let c0_i32_841 : BitVec 32 := 0#32
  let v1333 : BitVec 1 := Scalar.cmpi .slt v1331 c0_i32_841
  let c0_i32_842 : BitVec 32 := 0#32
  let v1334 : BitVec 1 := Scalar.cmpi .slt v1330 c0_i32_842
  let v1335 : BitVec 1 := Scalar.xori v1333 v1334
  let c0_i32_840 : BitVec 32 := 0#32
  let v1332 : BitVec 1 := Scalar.cmpi .ne v1331 c0_i32_840
  let v1336 : BitVec 1 := Scalar.andi v1335 v1332
  let v1337 : BitVec 32 := Scalar.addi v1331 v1330
  let v1338 : BitVec 32 := Scalar.select v1336 v1337 v1331
  let c1_i32_844 : BitVec 32 := 1#32
  let v1339 : BitVec 32 := Scalar.muli v1338 c1_i32_844
  let v1340 : BitVec 32 := Scalar.addi c0_i32_845 v1339
  v1340.toNat
def k0_dev60 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_850 : BitVec 32 := 29#32
  let v1349 : BitVec 32 := Scalar.addi v2 c29_i32_850
  let c32_i32_851 : BitVec 32 := 32#32
  let c0_i32_852 : BitVec 32 := 0#32
  let v1350 : BitVec 1 := Scalar.cmpi .eq c32_i32_851 c0_i32_852
  let c1_i32_853 : BitVec 32 := 1#32
  let v1351 : BitVec 32 := Scalar.select v1350 c1_i32_853 c32_i32_851
  let v1352 : BitVec 32 := Scalar.remsi v1349 v1351
  let c0_i32_855 : BitVec 32 := 0#32
  let v1354 : BitVec 1 := Scalar.cmpi .slt v1352 c0_i32_855
  let c0_i32_856 : BitVec 32 := 0#32
  let v1355 : BitVec 1 := Scalar.cmpi .slt v1351 c0_i32_856
  let v1356 : BitVec 1 := Scalar.xori v1354 v1355
  let c0_i32_854 : BitVec 32 := 0#32
  let v1353 : BitVec 1 := Scalar.cmpi .ne v1352 c0_i32_854
  let v1357 : BitVec 1 := Scalar.andi v1356 v1353
  let v1358 : BitVec 32 := Scalar.addi v1352 v1351
  let v1359 : BitVec 32 := Scalar.select v1357 v1358 v1352
  let c1_i32_858 : BitVec 32 := 1#32
  let v1360 : BitVec 32 := Scalar.muli v1359 c1_i32_858
  let v1361 : BitVec 32 := Scalar.addi c0_i32_859 v1360
  v1361.toNat
def k0_dev61 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_864 : BitVec 32 := 30#32
  let v1370 : BitVec 32 := Scalar.addi v2 c30_i32_864
  let c32_i32_865 : BitVec 32 := 32#32
  let c0_i32_866 : BitVec 32 := 0#32
  let v1371 : BitVec 1 := Scalar.cmpi .eq c32_i32_865 c0_i32_866
  let c1_i32_867 : BitVec 32 := 1#32
  let v1372 : BitVec 32 := Scalar.select v1371 c1_i32_867 c32_i32_865
  let v1373 : BitVec 32 := Scalar.remsi v1370 v1372
  let c0_i32_869 : BitVec 32 := 0#32
  let v1375 : BitVec 1 := Scalar.cmpi .slt v1373 c0_i32_869
  let c0_i32_870 : BitVec 32 := 0#32
  let v1376 : BitVec 1 := Scalar.cmpi .slt v1372 c0_i32_870
  let v1377 : BitVec 1 := Scalar.xori v1375 v1376
  let c0_i32_868 : BitVec 32 := 0#32
  let v1374 : BitVec 1 := Scalar.cmpi .ne v1373 c0_i32_868
  let v1378 : BitVec 1 := Scalar.andi v1377 v1374
  let v1379 : BitVec 32 := Scalar.addi v1373 v1372
  let v1380 : BitVec 32 := Scalar.select v1378 v1379 v1373
  let c1_i32_872 : BitVec 32 := 1#32
  let v1381 : BitVec 32 := Scalar.muli v1380 c1_i32_872
  let v1382 : BitVec 32 := Scalar.addi c0_i32_873 v1381
  v1382.toNat
def k0_dev62 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_878 : BitVec 32 := 31#32
  let v1391 : BitVec 32 := Scalar.addi v2 c31_i32_878
  let c32_i32_879 : BitVec 32 := 32#32
  let c0_i32_880 : BitVec 32 := 0#32
  let v1392 : BitVec 1 := Scalar.cmpi .eq c32_i32_879 c0_i32_880
  let c1_i32_881 : BitVec 32 := 1#32
  let v1393 : BitVec 32 := Scalar.select v1392 c1_i32_881 c32_i32_879
  let v1394 : BitVec 32 := Scalar.remsi v1391 v1393
  let c0_i32_883 : BitVec 32 := 0#32
  let v1396 : BitVec 1 := Scalar.cmpi .slt v1394 c0_i32_883
  let c0_i32_884 : BitVec 32 := 0#32
  let v1397 : BitVec 1 := Scalar.cmpi .slt v1393 c0_i32_884
  let v1398 : BitVec 1 := Scalar.xori v1396 v1397
  let c0_i32_882 : BitVec 32 := 0#32
  let v1395 : BitVec 1 := Scalar.cmpi .ne v1394 c0_i32_882
  let v1399 : BitVec 1 := Scalar.andi v1398 v1395
  let v1400 : BitVec 32 := Scalar.addi v1394 v1393
  let v1401 : BitVec 32 := Scalar.select v1399 v1400 v1394
  let c1_i32_886 : BitVec 32 := 1#32
  let v1402 : BitVec 32 := Scalar.muli v1401 c1_i32_886
  let v1403 : BitVec 32 := Scalar.addi c0_i32_887 v1402
  v1403.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1412 : Index := Scalar.indexCast v2
  let c0_892 : Index := 0#32
  let c0_893 : Index := 0#32
  ![v1412.toNat, 0, 0]
def k0_off5 (d0 : Dev nD) (c1_i32_896 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1419 : BitVec 32 := Scalar.addi v2 c1_i32_896
  let c32_i32_897 : BitVec 32 := 32#32
  let c0_i32_898 : BitVec 32 := 0#32
  let v1420 : BitVec 1 := Scalar.cmpi .eq c32_i32_897 c0_i32_898
  let c1_i32_899 : BitVec 32 := 1#32
  let v1421 : BitVec 32 := Scalar.select v1420 c1_i32_899 c32_i32_897
  let v1422 : BitVec 32 := Scalar.remsi v1419 v1421
  let c0_i32_901 : BitVec 32 := 0#32
  let v1424 : BitVec 1 := Scalar.cmpi .slt v1422 c0_i32_901
  let c0_i32_902 : BitVec 32 := 0#32
  let v1425 : BitVec 1 := Scalar.cmpi .slt v1421 c0_i32_902
  let v1426 : BitVec 1 := Scalar.xori v1424 v1425
  let c0_i32_900 : BitVec 32 := 0#32
  let v1423 : BitVec 1 := Scalar.cmpi .ne v1422 c0_i32_900
  let v1427 : BitVec 1 := Scalar.andi v1426 v1423
  let v1428 : BitVec 32 := Scalar.addi v1422 v1421
  let v1429 : BitVec 32 := Scalar.select v1427 v1428 v1422
  ![v1429.toNat]
def k0_dev63 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1336 : BitVec 32 := 1#32
  let v2014 : BitVec 32 := Scalar.addi v2 c1_i32_1336
  let c32_i32_1337 : BitVec 32 := 32#32
  let c0_i32_1338 : BitVec 32 := 0#32
  let v2015 : BitVec 1 := Scalar.cmpi .eq c32_i32_1337 c0_i32_1338
  let c1_i32_1339 : BitVec 32 := 1#32
  let v2016 : BitVec 32 := Scalar.select v2015 c1_i32_1339 c32_i32_1337
  let v2017 : BitVec 32 := Scalar.remsi v2014 v2016
  let c0_i32_1341 : BitVec 32 := 0#32
  let v2019 : BitVec 1 := Scalar.cmpi .slt v2017 c0_i32_1341
  let c0_i32_1342 : BitVec 32 := 0#32
  let v2020 : BitVec 1 := Scalar.cmpi .slt v2016 c0_i32_1342
  let v2021 : BitVec 1 := Scalar.xori v2019 v2020
  let c0_i32_1340 : BitVec 32 := 0#32
  let v2018 : BitVec 1 := Scalar.cmpi .ne v2017 c0_i32_1340
  let v2022 : BitVec 1 := Scalar.andi v2021 v2018
  let v2023 : BitVec 32 := Scalar.addi v2017 v2016
  let v2024 : BitVec 32 := Scalar.select v2022 v2023 v2017
  let c1_i32_1344 : BitVec 32 := 1#32
  let v2025 : BitVec 32 := Scalar.muli v2024 c1_i32_1344
  let v2026 : BitVec 32 := Scalar.addi c0_i32_1345 v2025
  v2026.toNat
def k0_dev64 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1350 : BitVec 32 := 2#32
  let v2035 : BitVec 32 := Scalar.addi v2 c2_i32_1350
  let c32_i32_1351 : BitVec 32 := 32#32
  let c0_i32_1352 : BitVec 32 := 0#32
  let v2036 : BitVec 1 := Scalar.cmpi .eq c32_i32_1351 c0_i32_1352
  let c1_i32_1353 : BitVec 32 := 1#32
  let v2037 : BitVec 32 := Scalar.select v2036 c1_i32_1353 c32_i32_1351
  let v2038 : BitVec 32 := Scalar.remsi v2035 v2037
  let c0_i32_1355 : BitVec 32 := 0#32
  let v2040 : BitVec 1 := Scalar.cmpi .slt v2038 c0_i32_1355
  let c0_i32_1356 : BitVec 32 := 0#32
  let v2041 : BitVec 1 := Scalar.cmpi .slt v2037 c0_i32_1356
  let v2042 : BitVec 1 := Scalar.xori v2040 v2041
  let c0_i32_1354 : BitVec 32 := 0#32
  let v2039 : BitVec 1 := Scalar.cmpi .ne v2038 c0_i32_1354
  let v2043 : BitVec 1 := Scalar.andi v2042 v2039
  let v2044 : BitVec 32 := Scalar.addi v2038 v2037
  let v2045 : BitVec 32 := Scalar.select v2043 v2044 v2038
  let c1_i32_1358 : BitVec 32 := 1#32
  let v2046 : BitVec 32 := Scalar.muli v2045 c1_i32_1358
  let v2047 : BitVec 32 := Scalar.addi c0_i32_1359 v2046
  v2047.toNat
def k0_dev65 (d0 : Dev nD) : Nat :=
  let c0_i32_1372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1364 : BitVec 32 := 3#32
  let v2056 : BitVec 32 := Scalar.addi v2 c3_i32_1364
  let c32_i32_1365 : BitVec 32 := 32#32
  let c0_i32_1366 : BitVec 32 := 0#32
  let v2057 : BitVec 1 := Scalar.cmpi .eq c32_i32_1365 c0_i32_1366
  let c1_i32_1367 : BitVec 32 := 1#32
  let v2058 : BitVec 32 := Scalar.select v2057 c1_i32_1367 c32_i32_1365
  let v2059 : BitVec 32 := Scalar.remsi v2056 v2058
  let c0_i32_1369 : BitVec 32 := 0#32
  let v2061 : BitVec 1 := Scalar.cmpi .slt v2059 c0_i32_1369
  let c0_i32_1370 : BitVec 32 := 0#32
  let v2062 : BitVec 1 := Scalar.cmpi .slt v2058 c0_i32_1370
  let v2063 : BitVec 1 := Scalar.xori v2061 v2062
  let c0_i32_1368 : BitVec 32 := 0#32
  let v2060 : BitVec 1 := Scalar.cmpi .ne v2059 c0_i32_1368
  let v2064 : BitVec 1 := Scalar.andi v2063 v2060
  let v2065 : BitVec 32 := Scalar.addi v2059 v2058
  let v2066 : BitVec 32 := Scalar.select v2064 v2065 v2059
  let c1_i32_1371 : BitVec 32 := 1#32
  let v2067 : BitVec 32 := Scalar.muli v2066 c1_i32_1371
  let v2068 : BitVec 32 := Scalar.addi c0_i32_1372 v2067
  v2068.toNat
def k0_dev66 (d0 : Dev nD) : Nat :=
  let c0_i32_1385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1377 : BitVec 32 := 4#32
  let v2077 : BitVec 32 := Scalar.addi v2 c4_i32_1377
  let c32_i32_1378 : BitVec 32 := 32#32
  let c0_i32_1379 : BitVec 32 := 0#32
  let v2078 : BitVec 1 := Scalar.cmpi .eq c32_i32_1378 c0_i32_1379
  let c1_i32_1380 : BitVec 32 := 1#32
  let v2079 : BitVec 32 := Scalar.select v2078 c1_i32_1380 c32_i32_1378
  let v2080 : BitVec 32 := Scalar.remsi v2077 v2079
  let c0_i32_1382 : BitVec 32 := 0#32
  let v2082 : BitVec 1 := Scalar.cmpi .slt v2080 c0_i32_1382
  let c0_i32_1383 : BitVec 32 := 0#32
  let v2083 : BitVec 1 := Scalar.cmpi .slt v2079 c0_i32_1383
  let v2084 : BitVec 1 := Scalar.xori v2082 v2083
  let c0_i32_1381 : BitVec 32 := 0#32
  let v2081 : BitVec 1 := Scalar.cmpi .ne v2080 c0_i32_1381
  let v2085 : BitVec 1 := Scalar.andi v2084 v2081
  let v2086 : BitVec 32 := Scalar.addi v2080 v2079
  let v2087 : BitVec 32 := Scalar.select v2085 v2086 v2080
  let c1_i32_1384 : BitVec 32 := 1#32
  let v2088 : BitVec 32 := Scalar.muli v2087 c1_i32_1384
  let v2089 : BitVec 32 := Scalar.addi c0_i32_1385 v2088
  v2089.toNat
def k0_dev67 (d0 : Dev nD) : Nat :=
  let c0_i32_1398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1390 : BitVec 32 := 5#32
  let v2098 : BitVec 32 := Scalar.addi v2 c5_i32_1390
  let c32_i32_1391 : BitVec 32 := 32#32
  let c0_i32_1392 : BitVec 32 := 0#32
  let v2099 : BitVec 1 := Scalar.cmpi .eq c32_i32_1391 c0_i32_1392
  let c1_i32_1393 : BitVec 32 := 1#32
  let v2100 : BitVec 32 := Scalar.select v2099 c1_i32_1393 c32_i32_1391
  let v2101 : BitVec 32 := Scalar.remsi v2098 v2100
  let c0_i32_1395 : BitVec 32 := 0#32
  let v2103 : BitVec 1 := Scalar.cmpi .slt v2101 c0_i32_1395
  let c0_i32_1396 : BitVec 32 := 0#32
  let v2104 : BitVec 1 := Scalar.cmpi .slt v2100 c0_i32_1396
  let v2105 : BitVec 1 := Scalar.xori v2103 v2104
  let c0_i32_1394 : BitVec 32 := 0#32
  let v2102 : BitVec 1 := Scalar.cmpi .ne v2101 c0_i32_1394
  let v2106 : BitVec 1 := Scalar.andi v2105 v2102
  let v2107 : BitVec 32 := Scalar.addi v2101 v2100
  let v2108 : BitVec 32 := Scalar.select v2106 v2107 v2101
  let c1_i32_1397 : BitVec 32 := 1#32
  let v2109 : BitVec 32 := Scalar.muli v2108 c1_i32_1397
  let v2110 : BitVec 32 := Scalar.addi c0_i32_1398 v2109
  v2110.toNat
def k0_dev68 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1403 : BitVec 32 := 6#32
  let v2119 : BitVec 32 := Scalar.addi v2 c6_i32_1403
  let c32_i32_1404 : BitVec 32 := 32#32
  let c0_i32_1405 : BitVec 32 := 0#32
  let v2120 : BitVec 1 := Scalar.cmpi .eq c32_i32_1404 c0_i32_1405
  let c1_i32_1406 : BitVec 32 := 1#32
  let v2121 : BitVec 32 := Scalar.select v2120 c1_i32_1406 c32_i32_1404
  let v2122 : BitVec 32 := Scalar.remsi v2119 v2121
  let c0_i32_1408 : BitVec 32 := 0#32
  let v2124 : BitVec 1 := Scalar.cmpi .slt v2122 c0_i32_1408
  let c0_i32_1409 : BitVec 32 := 0#32
  let v2125 : BitVec 1 := Scalar.cmpi .slt v2121 c0_i32_1409
  let v2126 : BitVec 1 := Scalar.xori v2124 v2125
  let c0_i32_1407 : BitVec 32 := 0#32
  let v2123 : BitVec 1 := Scalar.cmpi .ne v2122 c0_i32_1407
  let v2127 : BitVec 1 := Scalar.andi v2126 v2123
  let v2128 : BitVec 32 := Scalar.addi v2122 v2121
  let v2129 : BitVec 32 := Scalar.select v2127 v2128 v2122
  let c1_i32_1410 : BitVec 32 := 1#32
  let v2130 : BitVec 32 := Scalar.muli v2129 c1_i32_1410
  let v2131 : BitVec 32 := Scalar.addi c0_i32_1411 v2130
  v2131.toNat
def k0_dev69 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1416 : BitVec 32 := 7#32
  let v2140 : BitVec 32 := Scalar.addi v2 c7_i32_1416
  let c32_i32_1417 : BitVec 32 := 32#32
  let c0_i32_1418 : BitVec 32 := 0#32
  let v2141 : BitVec 1 := Scalar.cmpi .eq c32_i32_1417 c0_i32_1418
  let c1_i32_1419 : BitVec 32 := 1#32
  let v2142 : BitVec 32 := Scalar.select v2141 c1_i32_1419 c32_i32_1417
  let v2143 : BitVec 32 := Scalar.remsi v2140 v2142
  let c0_i32_1421 : BitVec 32 := 0#32
  let v2145 : BitVec 1 := Scalar.cmpi .slt v2143 c0_i32_1421
  let c0_i32_1422 : BitVec 32 := 0#32
  let v2146 : BitVec 1 := Scalar.cmpi .slt v2142 c0_i32_1422
  let v2147 : BitVec 1 := Scalar.xori v2145 v2146
  let c0_i32_1420 : BitVec 32 := 0#32
  let v2144 : BitVec 1 := Scalar.cmpi .ne v2143 c0_i32_1420
  let v2148 : BitVec 1 := Scalar.andi v2147 v2144
  let v2149 : BitVec 32 := Scalar.addi v2143 v2142
  let v2150 : BitVec 32 := Scalar.select v2148 v2149 v2143
  let c1_i32_1423 : BitVec 32 := 1#32
  let v2151 : BitVec 32 := Scalar.muli v2150 c1_i32_1423
  let v2152 : BitVec 32 := Scalar.addi c0_i32_1424 v2151
  v2152.toNat
def k0_dev70 (d0 : Dev nD) : Nat :=
  let c0_i32_1437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1429 : BitVec 32 := 8#32
  let v2161 : BitVec 32 := Scalar.addi v2 c8_i32_1429
  let c32_i32_1430 : BitVec 32 := 32#32
  let c0_i32_1431 : BitVec 32 := 0#32
  let v2162 : BitVec 1 := Scalar.cmpi .eq c32_i32_1430 c0_i32_1431
  let c1_i32_1432 : BitVec 32 := 1#32
  let v2163 : BitVec 32 := Scalar.select v2162 c1_i32_1432 c32_i32_1430
  let v2164 : BitVec 32 := Scalar.remsi v2161 v2163
  let c0_i32_1434 : BitVec 32 := 0#32
  let v2166 : BitVec 1 := Scalar.cmpi .slt v2164 c0_i32_1434
  let c0_i32_1435 : BitVec 32 := 0#32
  let v2167 : BitVec 1 := Scalar.cmpi .slt v2163 c0_i32_1435
  let v2168 : BitVec 1 := Scalar.xori v2166 v2167
  let c0_i32_1433 : BitVec 32 := 0#32
  let v2165 : BitVec 1 := Scalar.cmpi .ne v2164 c0_i32_1433
  let v2169 : BitVec 1 := Scalar.andi v2168 v2165
  let v2170 : BitVec 32 := Scalar.addi v2164 v2163
  let v2171 : BitVec 32 := Scalar.select v2169 v2170 v2164
  let c1_i32_1436 : BitVec 32 := 1#32
  let v2172 : BitVec 32 := Scalar.muli v2171 c1_i32_1436
  let v2173 : BitVec 32 := Scalar.addi c0_i32_1437 v2172
  v2173.toNat
def k0_dev71 (d0 : Dev nD) : Nat :=
  let c0_i32_1450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1442 : BitVec 32 := 9#32
  let v2182 : BitVec 32 := Scalar.addi v2 c9_i32_1442
  let c32_i32_1443 : BitVec 32 := 32#32
  let c0_i32_1444 : BitVec 32 := 0#32
  let v2183 : BitVec 1 := Scalar.cmpi .eq c32_i32_1443 c0_i32_1444
  let c1_i32_1445 : BitVec 32 := 1#32
  let v2184 : BitVec 32 := Scalar.select v2183 c1_i32_1445 c32_i32_1443
  let v2185 : BitVec 32 := Scalar.remsi v2182 v2184
  let c0_i32_1447 : BitVec 32 := 0#32
  let v2187 : BitVec 1 := Scalar.cmpi .slt v2185 c0_i32_1447
  let c0_i32_1448 : BitVec 32 := 0#32
  let v2188 : BitVec 1 := Scalar.cmpi .slt v2184 c0_i32_1448
  let v2189 : BitVec 1 := Scalar.xori v2187 v2188
  let c0_i32_1446 : BitVec 32 := 0#32
  let v2186 : BitVec 1 := Scalar.cmpi .ne v2185 c0_i32_1446
  let v2190 : BitVec 1 := Scalar.andi v2189 v2186
  let v2191 : BitVec 32 := Scalar.addi v2185 v2184
  let v2192 : BitVec 32 := Scalar.select v2190 v2191 v2185
  let c1_i32_1449 : BitVec 32 := 1#32
  let v2193 : BitVec 32 := Scalar.muli v2192 c1_i32_1449
  let v2194 : BitVec 32 := Scalar.addi c0_i32_1450 v2193
  v2194.toNat
def k0_dev72 (d0 : Dev nD) : Nat :=
  let c0_i32_1463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1455 : BitVec 32 := 10#32
  let v2203 : BitVec 32 := Scalar.addi v2 c10_i32_1455
  let c32_i32_1456 : BitVec 32 := 32#32
  let c0_i32_1457 : BitVec 32 := 0#32
  let v2204 : BitVec 1 := Scalar.cmpi .eq c32_i32_1456 c0_i32_1457
  let c1_i32_1458 : BitVec 32 := 1#32
  let v2205 : BitVec 32 := Scalar.select v2204 c1_i32_1458 c32_i32_1456
  let v2206 : BitVec 32 := Scalar.remsi v2203 v2205
  let c0_i32_1460 : BitVec 32 := 0#32
  let v2208 : BitVec 1 := Scalar.cmpi .slt v2206 c0_i32_1460
  let c0_i32_1461 : BitVec 32 := 0#32
  let v2209 : BitVec 1 := Scalar.cmpi .slt v2205 c0_i32_1461
  let v2210 : BitVec 1 := Scalar.xori v2208 v2209
  let c0_i32_1459 : BitVec 32 := 0#32
  let v2207 : BitVec 1 := Scalar.cmpi .ne v2206 c0_i32_1459
  let v2211 : BitVec 1 := Scalar.andi v2210 v2207
  let v2212 : BitVec 32 := Scalar.addi v2206 v2205
  let v2213 : BitVec 32 := Scalar.select v2211 v2212 v2206
  let c1_i32_1462 : BitVec 32 := 1#32
  let v2214 : BitVec 32 := Scalar.muli v2213 c1_i32_1462
  let v2215 : BitVec 32 := Scalar.addi c0_i32_1463 v2214
  v2215.toNat
def k0_dev73 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1468 : BitVec 32 := 11#32
  let v2224 : BitVec 32 := Scalar.addi v2 c11_i32_1468
  let c32_i32_1469 : BitVec 32 := 32#32
  let c0_i32_1470 : BitVec 32 := 0#32
  let v2225 : BitVec 1 := Scalar.cmpi .eq c32_i32_1469 c0_i32_1470
  let c1_i32_1471 : BitVec 32 := 1#32
  let v2226 : BitVec 32 := Scalar.select v2225 c1_i32_1471 c32_i32_1469
  let v2227 : BitVec 32 := Scalar.remsi v2224 v2226
  let c0_i32_1473 : BitVec 32 := 0#32
  let v2229 : BitVec 1 := Scalar.cmpi .slt v2227 c0_i32_1473
  let c0_i32_1474 : BitVec 32 := 0#32
  let v2230 : BitVec 1 := Scalar.cmpi .slt v2226 c0_i32_1474
  let v2231 : BitVec 1 := Scalar.xori v2229 v2230
  let c0_i32_1472 : BitVec 32 := 0#32
  let v2228 : BitVec 1 := Scalar.cmpi .ne v2227 c0_i32_1472
  let v2232 : BitVec 1 := Scalar.andi v2231 v2228
  let v2233 : BitVec 32 := Scalar.addi v2227 v2226
  let v2234 : BitVec 32 := Scalar.select v2232 v2233 v2227
  let c1_i32_1475 : BitVec 32 := 1#32
  let v2235 : BitVec 32 := Scalar.muli v2234 c1_i32_1475
  let v2236 : BitVec 32 := Scalar.addi c0_i32_1476 v2235
  v2236.toNat
def k0_dev74 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1481 : BitVec 32 := 12#32
  let v2245 : BitVec 32 := Scalar.addi v2 c12_i32_1481
  let c32_i32_1482 : BitVec 32 := 32#32
  let c0_i32_1483 : BitVec 32 := 0#32
  let v2246 : BitVec 1 := Scalar.cmpi .eq c32_i32_1482 c0_i32_1483
  let c1_i32_1484 : BitVec 32 := 1#32
  let v2247 : BitVec 32 := Scalar.select v2246 c1_i32_1484 c32_i32_1482
  let v2248 : BitVec 32 := Scalar.remsi v2245 v2247
  let c0_i32_1486 : BitVec 32 := 0#32
  let v2250 : BitVec 1 := Scalar.cmpi .slt v2248 c0_i32_1486
  let c0_i32_1487 : BitVec 32 := 0#32
  let v2251 : BitVec 1 := Scalar.cmpi .slt v2247 c0_i32_1487
  let v2252 : BitVec 1 := Scalar.xori v2250 v2251
  let c0_i32_1485 : BitVec 32 := 0#32
  let v2249 : BitVec 1 := Scalar.cmpi .ne v2248 c0_i32_1485
  let v2253 : BitVec 1 := Scalar.andi v2252 v2249
  let v2254 : BitVec 32 := Scalar.addi v2248 v2247
  let v2255 : BitVec 32 := Scalar.select v2253 v2254 v2248
  let c1_i32_1488 : BitVec 32 := 1#32
  let v2256 : BitVec 32 := Scalar.muli v2255 c1_i32_1488
  let v2257 : BitVec 32 := Scalar.addi c0_i32_1489 v2256
  v2257.toNat
def k0_dev75 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1494 : BitVec 32 := 13#32
  let v2266 : BitVec 32 := Scalar.addi v2 c13_i32_1494
  let c32_i32_1495 : BitVec 32 := 32#32
  let c0_i32_1496 : BitVec 32 := 0#32
  let v2267 : BitVec 1 := Scalar.cmpi .eq c32_i32_1495 c0_i32_1496
  let c1_i32_1497 : BitVec 32 := 1#32
  let v2268 : BitVec 32 := Scalar.select v2267 c1_i32_1497 c32_i32_1495
  let v2269 : BitVec 32 := Scalar.remsi v2266 v2268
  let c0_i32_1499 : BitVec 32 := 0#32
  let v2271 : BitVec 1 := Scalar.cmpi .slt v2269 c0_i32_1499
  let c0_i32_1500 : BitVec 32 := 0#32
  let v2272 : BitVec 1 := Scalar.cmpi .slt v2268 c0_i32_1500
  let v2273 : BitVec 1 := Scalar.xori v2271 v2272
  let c0_i32_1498 : BitVec 32 := 0#32
  let v2270 : BitVec 1 := Scalar.cmpi .ne v2269 c0_i32_1498
  let v2274 : BitVec 1 := Scalar.andi v2273 v2270
  let v2275 : BitVec 32 := Scalar.addi v2269 v2268
  let v2276 : BitVec 32 := Scalar.select v2274 v2275 v2269
  let c1_i32_1501 : BitVec 32 := 1#32
  let v2277 : BitVec 32 := Scalar.muli v2276 c1_i32_1501
  let v2278 : BitVec 32 := Scalar.addi c0_i32_1502 v2277
  v2278.toNat
def k0_dev76 (d0 : Dev nD) : Nat :=
  let c0_i32_1515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1507 : BitVec 32 := 14#32
  let v2287 : BitVec 32 := Scalar.addi v2 c14_i32_1507
  let c32_i32_1508 : BitVec 32 := 32#32
  let c0_i32_1509 : BitVec 32 := 0#32
  let v2288 : BitVec 1 := Scalar.cmpi .eq c32_i32_1508 c0_i32_1509
  let c1_i32_1510 : BitVec 32 := 1#32
  let v2289 : BitVec 32 := Scalar.select v2288 c1_i32_1510 c32_i32_1508
  let v2290 : BitVec 32 := Scalar.remsi v2287 v2289
  let c0_i32_1512 : BitVec 32 := 0#32
  let v2292 : BitVec 1 := Scalar.cmpi .slt v2290 c0_i32_1512
  let c0_i32_1513 : BitVec 32 := 0#32
  let v2293 : BitVec 1 := Scalar.cmpi .slt v2289 c0_i32_1513
  let v2294 : BitVec 1 := Scalar.xori v2292 v2293
  let c0_i32_1511 : BitVec 32 := 0#32
  let v2291 : BitVec 1 := Scalar.cmpi .ne v2290 c0_i32_1511
  let v2295 : BitVec 1 := Scalar.andi v2294 v2291
  let v2296 : BitVec 32 := Scalar.addi v2290 v2289
  let v2297 : BitVec 32 := Scalar.select v2295 v2296 v2290
  let c1_i32_1514 : BitVec 32 := 1#32
  let v2298 : BitVec 32 := Scalar.muli v2297 c1_i32_1514
  let v2299 : BitVec 32 := Scalar.addi c0_i32_1515 v2298
  v2299.toNat
def k0_dev77 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1520 : BitVec 32 := 15#32
  let v2308 : BitVec 32 := Scalar.addi v2 c15_i32_1520
  let c32_i32_1521 : BitVec 32 := 32#32
  let c0_i32_1522 : BitVec 32 := 0#32
  let v2309 : BitVec 1 := Scalar.cmpi .eq c32_i32_1521 c0_i32_1522
  let c1_i32_1523 : BitVec 32 := 1#32
  let v2310 : BitVec 32 := Scalar.select v2309 c1_i32_1523 c32_i32_1521
  let v2311 : BitVec 32 := Scalar.remsi v2308 v2310
  let c0_i32_1525 : BitVec 32 := 0#32
  let v2313 : BitVec 1 := Scalar.cmpi .slt v2311 c0_i32_1525
  let c0_i32_1526 : BitVec 32 := 0#32
  let v2314 : BitVec 1 := Scalar.cmpi .slt v2310 c0_i32_1526
  let v2315 : BitVec 1 := Scalar.xori v2313 v2314
  let c0_i32_1524 : BitVec 32 := 0#32
  let v2312 : BitVec 1 := Scalar.cmpi .ne v2311 c0_i32_1524
  let v2316 : BitVec 1 := Scalar.andi v2315 v2312
  let v2317 : BitVec 32 := Scalar.addi v2311 v2310
  let v2318 : BitVec 32 := Scalar.select v2316 v2317 v2311
  let c1_i32_1527 : BitVec 32 := 1#32
  let v2319 : BitVec 32 := Scalar.muli v2318 c1_i32_1527
  let v2320 : BitVec 32 := Scalar.addi c0_i32_1528 v2319
  v2320.toNat
def k0_dev78 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1533 : BitVec 32 := 16#32
  let v2329 : BitVec 32 := Scalar.addi v2 c16_i32_1533
  let c32_i32_1534 : BitVec 32 := 32#32
  let c0_i32_1535 : BitVec 32 := 0#32
  let v2330 : BitVec 1 := Scalar.cmpi .eq c32_i32_1534 c0_i32_1535
  let c1_i32_1536 : BitVec 32 := 1#32
  let v2331 : BitVec 32 := Scalar.select v2330 c1_i32_1536 c32_i32_1534
  let v2332 : BitVec 32 := Scalar.remsi v2329 v2331
  let c0_i32_1538 : BitVec 32 := 0#32
  let v2334 : BitVec 1 := Scalar.cmpi .slt v2332 c0_i32_1538
  let c0_i32_1539 : BitVec 32 := 0#32
  let v2335 : BitVec 1 := Scalar.cmpi .slt v2331 c0_i32_1539
  let v2336 : BitVec 1 := Scalar.xori v2334 v2335
  let c0_i32_1537 : BitVec 32 := 0#32
  let v2333 : BitVec 1 := Scalar.cmpi .ne v2332 c0_i32_1537
  let v2337 : BitVec 1 := Scalar.andi v2336 v2333
  let v2338 : BitVec 32 := Scalar.addi v2332 v2331
  let v2339 : BitVec 32 := Scalar.select v2337 v2338 v2332
  let c1_i32_1540 : BitVec 32 := 1#32
  let v2340 : BitVec 32 := Scalar.muli v2339 c1_i32_1540
  let v2341 : BitVec 32 := Scalar.addi c0_i32_1541 v2340
  v2341.toNat
def k0_dev79 (d0 : Dev nD) : Nat :=
  let c0_i32_1554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1546 : BitVec 32 := 17#32
  let v2350 : BitVec 32 := Scalar.addi v2 c17_i32_1546
  let c32_i32_1547 : BitVec 32 := 32#32
  let c0_i32_1548 : BitVec 32 := 0#32
  let v2351 : BitVec 1 := Scalar.cmpi .eq c32_i32_1547 c0_i32_1548
  let c1_i32_1549 : BitVec 32 := 1#32
  let v2352 : BitVec 32 := Scalar.select v2351 c1_i32_1549 c32_i32_1547
  let v2353 : BitVec 32 := Scalar.remsi v2350 v2352
  let c0_i32_1551 : BitVec 32 := 0#32
  let v2355 : BitVec 1 := Scalar.cmpi .slt v2353 c0_i32_1551
  let c0_i32_1552 : BitVec 32 := 0#32
  let v2356 : BitVec 1 := Scalar.cmpi .slt v2352 c0_i32_1552
  let v2357 : BitVec 1 := Scalar.xori v2355 v2356
  let c0_i32_1550 : BitVec 32 := 0#32
  let v2354 : BitVec 1 := Scalar.cmpi .ne v2353 c0_i32_1550
  let v2358 : BitVec 1 := Scalar.andi v2357 v2354
  let v2359 : BitVec 32 := Scalar.addi v2353 v2352
  let v2360 : BitVec 32 := Scalar.select v2358 v2359 v2353
  let c1_i32_1553 : BitVec 32 := 1#32
  let v2361 : BitVec 32 := Scalar.muli v2360 c1_i32_1553
  let v2362 : BitVec 32 := Scalar.addi c0_i32_1554 v2361
  v2362.toNat
def k0_dev80 (d0 : Dev nD) : Nat :=
  let c0_i32_1567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1559 : BitVec 32 := 18#32
  let v2371 : BitVec 32 := Scalar.addi v2 c18_i32_1559
  let c32_i32_1560 : BitVec 32 := 32#32
  let c0_i32_1561 : BitVec 32 := 0#32
  let v2372 : BitVec 1 := Scalar.cmpi .eq c32_i32_1560 c0_i32_1561
  let c1_i32_1562 : BitVec 32 := 1#32
  let v2373 : BitVec 32 := Scalar.select v2372 c1_i32_1562 c32_i32_1560
  let v2374 : BitVec 32 := Scalar.remsi v2371 v2373
  let c0_i32_1564 : BitVec 32 := 0#32
  let v2376 : BitVec 1 := Scalar.cmpi .slt v2374 c0_i32_1564
  let c0_i32_1565 : BitVec 32 := 0#32
  let v2377 : BitVec 1 := Scalar.cmpi .slt v2373 c0_i32_1565
  let v2378 : BitVec 1 := Scalar.xori v2376 v2377
  let c0_i32_1563 : BitVec 32 := 0#32
  let v2375 : BitVec 1 := Scalar.cmpi .ne v2374 c0_i32_1563
  let v2379 : BitVec 1 := Scalar.andi v2378 v2375
  let v2380 : BitVec 32 := Scalar.addi v2374 v2373
  let v2381 : BitVec 32 := Scalar.select v2379 v2380 v2374
  let c1_i32_1566 : BitVec 32 := 1#32
  let v2382 : BitVec 32 := Scalar.muli v2381 c1_i32_1566
  let v2383 : BitVec 32 := Scalar.addi c0_i32_1567 v2382
  v2383.toNat
def k0_dev81 (d0 : Dev nD) : Nat :=
  let c0_i32_1580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1572 : BitVec 32 := 19#32
  let v2392 : BitVec 32 := Scalar.addi v2 c19_i32_1572
  let c32_i32_1573 : BitVec 32 := 32#32
  let c0_i32_1574 : BitVec 32 := 0#32
  let v2393 : BitVec 1 := Scalar.cmpi .eq c32_i32_1573 c0_i32_1574
  let c1_i32_1575 : BitVec 32 := 1#32
  let v2394 : BitVec 32 := Scalar.select v2393 c1_i32_1575 c32_i32_1573
  let v2395 : BitVec 32 := Scalar.remsi v2392 v2394
  let c0_i32_1577 : BitVec 32 := 0#32
  let v2397 : BitVec 1 := Scalar.cmpi .slt v2395 c0_i32_1577
  let c0_i32_1578 : BitVec 32 := 0#32
  let v2398 : BitVec 1 := Scalar.cmpi .slt v2394 c0_i32_1578
  let v2399 : BitVec 1 := Scalar.xori v2397 v2398
  let c0_i32_1576 : BitVec 32 := 0#32
  let v2396 : BitVec 1 := Scalar.cmpi .ne v2395 c0_i32_1576
  let v2400 : BitVec 1 := Scalar.andi v2399 v2396
  let v2401 : BitVec 32 := Scalar.addi v2395 v2394
  let v2402 : BitVec 32 := Scalar.select v2400 v2401 v2395
  let c1_i32_1579 : BitVec 32 := 1#32
  let v2403 : BitVec 32 := Scalar.muli v2402 c1_i32_1579
  let v2404 : BitVec 32 := Scalar.addi c0_i32_1580 v2403
  v2404.toNat
def k0_dev82 (d0 : Dev nD) : Nat :=
  let c0_i32_1593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1585 : BitVec 32 := 20#32
  let v2413 : BitVec 32 := Scalar.addi v2 c20_i32_1585
  let c32_i32_1586 : BitVec 32 := 32#32
  let c0_i32_1587 : BitVec 32 := 0#32
  let v2414 : BitVec 1 := Scalar.cmpi .eq c32_i32_1586 c0_i32_1587
  let c1_i32_1588 : BitVec 32 := 1#32
  let v2415 : BitVec 32 := Scalar.select v2414 c1_i32_1588 c32_i32_1586
  let v2416 : BitVec 32 := Scalar.remsi v2413 v2415
  let c0_i32_1590 : BitVec 32 := 0#32
  let v2418 : BitVec 1 := Scalar.cmpi .slt v2416 c0_i32_1590
  let c0_i32_1591 : BitVec 32 := 0#32
  let v2419 : BitVec 1 := Scalar.cmpi .slt v2415 c0_i32_1591
  let v2420 : BitVec 1 := Scalar.xori v2418 v2419
  let c0_i32_1589 : BitVec 32 := 0#32
  let v2417 : BitVec 1 := Scalar.cmpi .ne v2416 c0_i32_1589
  let v2421 : BitVec 1 := Scalar.andi v2420 v2417
  let v2422 : BitVec 32 := Scalar.addi v2416 v2415
  let v2423 : BitVec 32 := Scalar.select v2421 v2422 v2416
  let c1_i32_1592 : BitVec 32 := 1#32
  let v2424 : BitVec 32 := Scalar.muli v2423 c1_i32_1592
  let v2425 : BitVec 32 := Scalar.addi c0_i32_1593 v2424
  v2425.toNat
def k0_dev83 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1598 : BitVec 32 := 21#32
  let v2434 : BitVec 32 := Scalar.addi v2 c21_i32_1598
  let c32_i32_1599 : BitVec 32 := 32#32
  let c0_i32_1600 : BitVec 32 := 0#32
  let v2435 : BitVec 1 := Scalar.cmpi .eq c32_i32_1599 c0_i32_1600
  let c1_i32_1601 : BitVec 32 := 1#32
  let v2436 : BitVec 32 := Scalar.select v2435 c1_i32_1601 c32_i32_1599
  let v2437 : BitVec 32 := Scalar.remsi v2434 v2436
  let c0_i32_1603 : BitVec 32 := 0#32
  let v2439 : BitVec 1 := Scalar.cmpi .slt v2437 c0_i32_1603
  let c0_i32_1604 : BitVec 32 := 0#32
  let v2440 : BitVec 1 := Scalar.cmpi .slt v2436 c0_i32_1604
  let v2441 : BitVec 1 := Scalar.xori v2439 v2440
  let c0_i32_1602 : BitVec 32 := 0#32
  let v2438 : BitVec 1 := Scalar.cmpi .ne v2437 c0_i32_1602
  let v2442 : BitVec 1 := Scalar.andi v2441 v2438
  let v2443 : BitVec 32 := Scalar.addi v2437 v2436
  let v2444 : BitVec 32 := Scalar.select v2442 v2443 v2437
  let c1_i32_1605 : BitVec 32 := 1#32
  let v2445 : BitVec 32 := Scalar.muli v2444 c1_i32_1605
  let v2446 : BitVec 32 := Scalar.addi c0_i32_1606 v2445
  v2446.toNat
def k0_dev84 (d0 : Dev nD) : Nat :=
  let c0_i32_1619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1611 : BitVec 32 := 22#32
  let v2455 : BitVec 32 := Scalar.addi v2 c22_i32_1611
  let c32_i32_1612 : BitVec 32 := 32#32
  let c0_i32_1613 : BitVec 32 := 0#32
  let v2456 : BitVec 1 := Scalar.cmpi .eq c32_i32_1612 c0_i32_1613
  let c1_i32_1614 : BitVec 32 := 1#32
  let v2457 : BitVec 32 := Scalar.select v2456 c1_i32_1614 c32_i32_1612
  let v2458 : BitVec 32 := Scalar.remsi v2455 v2457
  let c0_i32_1616 : BitVec 32 := 0#32
  let v2460 : BitVec 1 := Scalar.cmpi .slt v2458 c0_i32_1616
  let c0_i32_1617 : BitVec 32 := 0#32
  let v2461 : BitVec 1 := Scalar.cmpi .slt v2457 c0_i32_1617
  let v2462 : BitVec 1 := Scalar.xori v2460 v2461
  let c0_i32_1615 : BitVec 32 := 0#32
  let v2459 : BitVec 1 := Scalar.cmpi .ne v2458 c0_i32_1615
  let v2463 : BitVec 1 := Scalar.andi v2462 v2459
  let v2464 : BitVec 32 := Scalar.addi v2458 v2457
  let v2465 : BitVec 32 := Scalar.select v2463 v2464 v2458
  let c1_i32_1618 : BitVec 32 := 1#32
  let v2466 : BitVec 32 := Scalar.muli v2465 c1_i32_1618
  let v2467 : BitVec 32 := Scalar.addi c0_i32_1619 v2466
  v2467.toNat
def k0_dev85 (d0 : Dev nD) : Nat :=
  let c0_i32_1632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1624 : BitVec 32 := 23#32
  let v2476 : BitVec 32 := Scalar.addi v2 c23_i32_1624
  let c32_i32_1625 : BitVec 32 := 32#32
  let c0_i32_1626 : BitVec 32 := 0#32
  let v2477 : BitVec 1 := Scalar.cmpi .eq c32_i32_1625 c0_i32_1626
  let c1_i32_1627 : BitVec 32 := 1#32
  let v2478 : BitVec 32 := Scalar.select v2477 c1_i32_1627 c32_i32_1625
  let v2479 : BitVec 32 := Scalar.remsi v2476 v2478
  let c0_i32_1629 : BitVec 32 := 0#32
  let v2481 : BitVec 1 := Scalar.cmpi .slt v2479 c0_i32_1629
  let c0_i32_1630 : BitVec 32 := 0#32
  let v2482 : BitVec 1 := Scalar.cmpi .slt v2478 c0_i32_1630
  let v2483 : BitVec 1 := Scalar.xori v2481 v2482
  let c0_i32_1628 : BitVec 32 := 0#32
  let v2480 : BitVec 1 := Scalar.cmpi .ne v2479 c0_i32_1628
  let v2484 : BitVec 1 := Scalar.andi v2483 v2480
  let v2485 : BitVec 32 := Scalar.addi v2479 v2478
  let v2486 : BitVec 32 := Scalar.select v2484 v2485 v2479
  let c1_i32_1631 : BitVec 32 := 1#32
  let v2487 : BitVec 32 := Scalar.muli v2486 c1_i32_1631
  let v2488 : BitVec 32 := Scalar.addi c0_i32_1632 v2487
  v2488.toNat
def k0_dev86 (d0 : Dev nD) : Nat :=
  let c0_i32_1645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1637 : BitVec 32 := 24#32
  let v2497 : BitVec 32 := Scalar.addi v2 c24_i32_1637
  let c32_i32_1638 : BitVec 32 := 32#32
  let c0_i32_1639 : BitVec 32 := 0#32
  let v2498 : BitVec 1 := Scalar.cmpi .eq c32_i32_1638 c0_i32_1639
  let c1_i32_1640 : BitVec 32 := 1#32
  let v2499 : BitVec 32 := Scalar.select v2498 c1_i32_1640 c32_i32_1638
  let v2500 : BitVec 32 := Scalar.remsi v2497 v2499
  let c0_i32_1642 : BitVec 32 := 0#32
  let v2502 : BitVec 1 := Scalar.cmpi .slt v2500 c0_i32_1642
  let c0_i32_1643 : BitVec 32 := 0#32
  let v2503 : BitVec 1 := Scalar.cmpi .slt v2499 c0_i32_1643
  let v2504 : BitVec 1 := Scalar.xori v2502 v2503
  let c0_i32_1641 : BitVec 32 := 0#32
  let v2501 : BitVec 1 := Scalar.cmpi .ne v2500 c0_i32_1641
  let v2505 : BitVec 1 := Scalar.andi v2504 v2501
  let v2506 : BitVec 32 := Scalar.addi v2500 v2499
  let v2507 : BitVec 32 := Scalar.select v2505 v2506 v2500
  let c1_i32_1644 : BitVec 32 := 1#32
  let v2508 : BitVec 32 := Scalar.muli v2507 c1_i32_1644
  let v2509 : BitVec 32 := Scalar.addi c0_i32_1645 v2508
  v2509.toNat
def k0_dev87 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1650 : BitVec 32 := 25#32
  let v2518 : BitVec 32 := Scalar.addi v2 c25_i32_1650
  let c32_i32_1651 : BitVec 32 := 32#32
  let c0_i32_1652 : BitVec 32 := 0#32
  let v2519 : BitVec 1 := Scalar.cmpi .eq c32_i32_1651 c0_i32_1652
  let c1_i32_1653 : BitVec 32 := 1#32
  let v2520 : BitVec 32 := Scalar.select v2519 c1_i32_1653 c32_i32_1651
  let v2521 : BitVec 32 := Scalar.remsi v2518 v2520
  let c0_i32_1655 : BitVec 32 := 0#32
  let v2523 : BitVec 1 := Scalar.cmpi .slt v2521 c0_i32_1655
  let c0_i32_1656 : BitVec 32 := 0#32
  let v2524 : BitVec 1 := Scalar.cmpi .slt v2520 c0_i32_1656
  let v2525 : BitVec 1 := Scalar.xori v2523 v2524
  let c0_i32_1654 : BitVec 32 := 0#32
  let v2522 : BitVec 1 := Scalar.cmpi .ne v2521 c0_i32_1654
  let v2526 : BitVec 1 := Scalar.andi v2525 v2522
  let v2527 : BitVec 32 := Scalar.addi v2521 v2520
  let v2528 : BitVec 32 := Scalar.select v2526 v2527 v2521
  let c1_i32_1657 : BitVec 32 := 1#32
  let v2529 : BitVec 32 := Scalar.muli v2528 c1_i32_1657
  let v2530 : BitVec 32 := Scalar.addi c0_i32_1658 v2529
  v2530.toNat
def k0_dev88 (d0 : Dev nD) : Nat :=
  let c0_i32_1671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1663 : BitVec 32 := 26#32
  let v2539 : BitVec 32 := Scalar.addi v2 c26_i32_1663
  let c32_i32_1664 : BitVec 32 := 32#32
  let c0_i32_1665 : BitVec 32 := 0#32
  let v2540 : BitVec 1 := Scalar.cmpi .eq c32_i32_1664 c0_i32_1665
  let c1_i32_1666 : BitVec 32 := 1#32
  let v2541 : BitVec 32 := Scalar.select v2540 c1_i32_1666 c32_i32_1664
  let v2542 : BitVec 32 := Scalar.remsi v2539 v2541
  let c0_i32_1668 : BitVec 32 := 0#32
  let v2544 : BitVec 1 := Scalar.cmpi .slt v2542 c0_i32_1668
  let c0_i32_1669 : BitVec 32 := 0#32
  let v2545 : BitVec 1 := Scalar.cmpi .slt v2541 c0_i32_1669
  let v2546 : BitVec 1 := Scalar.xori v2544 v2545
  let c0_i32_1667 : BitVec 32 := 0#32
  let v2543 : BitVec 1 := Scalar.cmpi .ne v2542 c0_i32_1667
  let v2547 : BitVec 1 := Scalar.andi v2546 v2543
  let v2548 : BitVec 32 := Scalar.addi v2542 v2541
  let v2549 : BitVec 32 := Scalar.select v2547 v2548 v2542
  let c1_i32_1670 : BitVec 32 := 1#32
  let v2550 : BitVec 32 := Scalar.muli v2549 c1_i32_1670
  let v2551 : BitVec 32 := Scalar.addi c0_i32_1671 v2550
  v2551.toNat
def k0_dev89 (d0 : Dev nD) : Nat :=
  let c0_i32_1684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1676 : BitVec 32 := 27#32
  let v2560 : BitVec 32 := Scalar.addi v2 c27_i32_1676
  let c32_i32_1677 : BitVec 32 := 32#32
  let c0_i32_1678 : BitVec 32 := 0#32
  let v2561 : BitVec 1 := Scalar.cmpi .eq c32_i32_1677 c0_i32_1678
  let c1_i32_1679 : BitVec 32 := 1#32
  let v2562 : BitVec 32 := Scalar.select v2561 c1_i32_1679 c32_i32_1677
  let v2563 : BitVec 32 := Scalar.remsi v2560 v2562
  let c0_i32_1681 : BitVec 32 := 0#32
  let v2565 : BitVec 1 := Scalar.cmpi .slt v2563 c0_i32_1681
  let c0_i32_1682 : BitVec 32 := 0#32
  let v2566 : BitVec 1 := Scalar.cmpi .slt v2562 c0_i32_1682
  let v2567 : BitVec 1 := Scalar.xori v2565 v2566
  let c0_i32_1680 : BitVec 32 := 0#32
  let v2564 : BitVec 1 := Scalar.cmpi .ne v2563 c0_i32_1680
  let v2568 : BitVec 1 := Scalar.andi v2567 v2564
  let v2569 : BitVec 32 := Scalar.addi v2563 v2562
  let v2570 : BitVec 32 := Scalar.select v2568 v2569 v2563
  let c1_i32_1683 : BitVec 32 := 1#32
  let v2571 : BitVec 32 := Scalar.muli v2570 c1_i32_1683
  let v2572 : BitVec 32 := Scalar.addi c0_i32_1684 v2571
  v2572.toNat
def k0_dev90 (d0 : Dev nD) : Nat :=
  let c0_i32_1697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1689 : BitVec 32 := 28#32
  let v2581 : BitVec 32 := Scalar.addi v2 c28_i32_1689
  let c32_i32_1690 : BitVec 32 := 32#32
  let c0_i32_1691 : BitVec 32 := 0#32
  let v2582 : BitVec 1 := Scalar.cmpi .eq c32_i32_1690 c0_i32_1691
  let c1_i32_1692 : BitVec 32 := 1#32
  let v2583 : BitVec 32 := Scalar.select v2582 c1_i32_1692 c32_i32_1690
  let v2584 : BitVec 32 := Scalar.remsi v2581 v2583
  let c0_i32_1694 : BitVec 32 := 0#32
  let v2586 : BitVec 1 := Scalar.cmpi .slt v2584 c0_i32_1694
  let c0_i32_1695 : BitVec 32 := 0#32
  let v2587 : BitVec 1 := Scalar.cmpi .slt v2583 c0_i32_1695
  let v2588 : BitVec 1 := Scalar.xori v2586 v2587
  let c0_i32_1693 : BitVec 32 := 0#32
  let v2585 : BitVec 1 := Scalar.cmpi .ne v2584 c0_i32_1693
  let v2589 : BitVec 1 := Scalar.andi v2588 v2585
  let v2590 : BitVec 32 := Scalar.addi v2584 v2583
  let v2591 : BitVec 32 := Scalar.select v2589 v2590 v2584
  let c1_i32_1696 : BitVec 32 := 1#32
  let v2592 : BitVec 32 := Scalar.muli v2591 c1_i32_1696
  let v2593 : BitVec 32 := Scalar.addi c0_i32_1697 v2592
  v2593.toNat
def k0_dev91 (d0 : Dev nD) : Nat :=
  let c0_i32_1710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1702 : BitVec 32 := 29#32
  let v2602 : BitVec 32 := Scalar.addi v2 c29_i32_1702
  let c32_i32_1703 : BitVec 32 := 32#32
  let c0_i32_1704 : BitVec 32 := 0#32
  let v2603 : BitVec 1 := Scalar.cmpi .eq c32_i32_1703 c0_i32_1704
  let c1_i32_1705 : BitVec 32 := 1#32
  let v2604 : BitVec 32 := Scalar.select v2603 c1_i32_1705 c32_i32_1703
  let v2605 : BitVec 32 := Scalar.remsi v2602 v2604
  let c0_i32_1707 : BitVec 32 := 0#32
  let v2607 : BitVec 1 := Scalar.cmpi .slt v2605 c0_i32_1707
  let c0_i32_1708 : BitVec 32 := 0#32
  let v2608 : BitVec 1 := Scalar.cmpi .slt v2604 c0_i32_1708
  let v2609 : BitVec 1 := Scalar.xori v2607 v2608
  let c0_i32_1706 : BitVec 32 := 0#32
  let v2606 : BitVec 1 := Scalar.cmpi .ne v2605 c0_i32_1706
  let v2610 : BitVec 1 := Scalar.andi v2609 v2606
  let v2611 : BitVec 32 := Scalar.addi v2605 v2604
  let v2612 : BitVec 32 := Scalar.select v2610 v2611 v2605
  let c1_i32_1709 : BitVec 32 := 1#32
  let v2613 : BitVec 32 := Scalar.muli v2612 c1_i32_1709
  let v2614 : BitVec 32 := Scalar.addi c0_i32_1710 v2613
  v2614.toNat
def k0_dev92 (d0 : Dev nD) : Nat :=
  let c0_i32_1723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1715 : BitVec 32 := 30#32
  let v2623 : BitVec 32 := Scalar.addi v2 c30_i32_1715
  let c32_i32_1716 : BitVec 32 := 32#32
  let c0_i32_1717 : BitVec 32 := 0#32
  let v2624 : BitVec 1 := Scalar.cmpi .eq c32_i32_1716 c0_i32_1717
  let c1_i32_1718 : BitVec 32 := 1#32
  let v2625 : BitVec 32 := Scalar.select v2624 c1_i32_1718 c32_i32_1716
  let v2626 : BitVec 32 := Scalar.remsi v2623 v2625
  let c0_i32_1720 : BitVec 32 := 0#32
  let v2628 : BitVec 1 := Scalar.cmpi .slt v2626 c0_i32_1720
  let c0_i32_1721 : BitVec 32 := 0#32
  let v2629 : BitVec 1 := Scalar.cmpi .slt v2625 c0_i32_1721
  let v2630 : BitVec 1 := Scalar.xori v2628 v2629
  let c0_i32_1719 : BitVec 32 := 0#32
  let v2627 : BitVec 1 := Scalar.cmpi .ne v2626 c0_i32_1719
  let v2631 : BitVec 1 := Scalar.andi v2630 v2627
  let v2632 : BitVec 32 := Scalar.addi v2626 v2625
  let v2633 : BitVec 32 := Scalar.select v2631 v2632 v2626
  let c1_i32_1722 : BitVec 32 := 1#32
  let v2634 : BitVec 32 := Scalar.muli v2633 c1_i32_1722
  let v2635 : BitVec 32 := Scalar.addi c0_i32_1723 v2634
  v2635.toNat
def k0_dev93 (d0 : Dev nD) : Nat :=
  let c0_i32_1736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1728 : BitVec 32 := 31#32
  let v2644 : BitVec 32 := Scalar.addi v2 c31_i32_1728
  let c32_i32_1729 : BitVec 32 := 32#32
  let c0_i32_1730 : BitVec 32 := 0#32
  let v2645 : BitVec 1 := Scalar.cmpi .eq c32_i32_1729 c0_i32_1730
  let c1_i32_1731 : BitVec 32 := 1#32
  let v2646 : BitVec 32 := Scalar.select v2645 c1_i32_1731 c32_i32_1729
  let v2647 : BitVec 32 := Scalar.remsi v2644 v2646
  let c0_i32_1733 : BitVec 32 := 0#32
  let v2649 : BitVec 1 := Scalar.cmpi .slt v2647 c0_i32_1733
  let c0_i32_1734 : BitVec 32 := 0#32
  let v2650 : BitVec 1 := Scalar.cmpi .slt v2646 c0_i32_1734
  let v2651 : BitVec 1 := Scalar.xori v2649 v2650
  let c0_i32_1732 : BitVec 32 := 0#32
  let v2648 : BitVec 1 := Scalar.cmpi .ne v2647 c0_i32_1732
  let v2652 : BitVec 1 := Scalar.andi v2651 v2648
  let v2653 : BitVec 32 := Scalar.addi v2647 v2646
  let v2654 : BitVec 32 := Scalar.select v2652 v2653 v2647
  let c1_i32_1735 : BitVec 32 := 1#32
  let v2655 : BitVec 32 := Scalar.muli v2654 c1_i32_1735
  let v2656 : BitVec 32 := Scalar.addi c0_i32_1736 v2655
  v2656.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x8192, .bf16⟩
  | .hbm, ⟨2, _⟩ => ⟨S2x256x128x64, .bf16⟩
  | .hbm, ⟨3, _⟩ => ⟨S2x256x128x64, .bf16⟩
  | .hbm, ⟨4, _⟩ => ⟨S8192x512, .bf16⟩
  | .hbm, ⟨5, _⟩ => ⟨S2x256x512, .f32⟩
  | .hbm, ⟨6, _⟩ => ⟨S512x8192, .f32⟩
  | .hbm, ⟨7, _⟩ => ⟨S2x256x128x64, .f32⟩
  | .hbm, ⟨8, _⟩ => ⟨S2x256x128x64, .f32⟩
  | .hbm, ⟨9, _⟩ => ⟨S8192x512, .f32⟩
  | .hbm, ⟨10, _⟩ => ⟨S2x256x8192, .f32⟩
  | .hbm, ⟨11, _⟩ => ⟨S2x256x128x64, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S2x128x256x256, .f32⟩
  | .hbm, ⟨24, _⟩ => ⟨S_, .f32⟩
  | .hbm, ⟨25, _⟩ => ⟨S2x128x256x256, .f32⟩
  | .hbm, ⟨26, _⟩ => ⟨S2x128x256x256, .f32⟩
  | .hbm, ⟨27, _⟩ => ⟨S1x1x256x256, .i1⟩
  | .hbm, ⟨28, _⟩ => ⟨S_, .f32⟩
  | .hbm, ⟨29, _⟩ => ⟨S_, .f32⟩
  | .hbm, ⟨30, _⟩ => ⟨S2x128x256x256, .i1⟩
  | .hbm, ⟨31, _⟩ => ⟨S2x128x256x256, .f32⟩
  | .hbm, ⟨32, _⟩ => ⟨S2x128x256x256, .f32⟩
  | .hbm, ⟨33, _⟩ => ⟨S_, .f32⟩
  | .hbm, ⟨34, _⟩ => ⟨S2x128x256, .f32⟩
  | .hbm, ⟨35, _⟩ => ⟨S2x128x256x1, .f32⟩
  | .hbm, ⟨36, _⟩ => ⟨S2x128x256x256, .f32⟩
  | .hbm, ⟨37, _⟩ => ⟨S2x128x256x256, .f32⟩
  | .hbm, ⟨38, _⟩ => ⟨S2x128x256x256, .f32⟩
  | .hbm, ⟨39, _⟩ => ⟨S_, .i1⟩
  | .hbm, ⟨40, _⟩ => ⟨S256, .i1⟩
  | .hbm, ⟨41, _⟩ => ⟨S1x1x256x1, .i1⟩
  | .hbm, ⟨42, _⟩ => ⟨S_, .f32⟩
  | .hbm, ⟨43, _⟩ => ⟨S2x128x256, .f32⟩
  | .hbm, ⟨44, _⟩ => ⟨S2x128x256x1, .f32⟩
  | .hbm, ⟨45, _⟩ => ⟨S_, .f32⟩
  | .hbm, ⟨46, _⟩ => ⟨S_, .f32⟩
  | .hbm, ⟨47, _⟩ => ⟨S2x128x256x1, .i1⟩
  | .hbm, ⟨48, _⟩ => ⟨S2x128x256x1, .f32⟩
  | .hbm, ⟨49, _⟩ => ⟨S2x128x256x1, .f32⟩
  | .hbm, ⟨50, _⟩ => ⟨S2x128x256x256, .f32⟩
  | .hbm, ⟨51, _⟩ => ⟨S2x128x256x256, .f32⟩
  | .hbm, ⟨52, _⟩ => ⟨S1x1x256x1, .i1⟩
  | .hbm, ⟨53, _⟩ => ⟨S_, .f32⟩
  | .hbm, ⟨54, _⟩ => ⟨S_, .f32⟩
  | .hbm, ⟨55, _⟩ => ⟨S2x128x256x256, .i1⟩
  | .hbm, ⟨56, _⟩ => ⟨S2x128x256x256, .f32⟩
  | .hbm, ⟨57, _⟩ => ⟨S2x128x256x256, .f32⟩
  | .hbm, ⟨58, _⟩ => ⟨S2x128x64x256, .f32⟩
  | .hbm, ⟨59, _⟩ => ⟨S2x256x128x64, .f32⟩
  | .hbm, ⟨60, _⟩ => ⟨S2x256x8192, .f32⟩
  | .hbm, ⟨61, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Loops.lean ====
/- The device's body written as a handful of loops.

   The printed body is straight-line code: it repeats each step of the protocol once per peer. Here the
   same body is written with one loop per phase (`loop`), over tables that pair a peer's offset with the
   device the printed code computes for it, and `body_eq` says that the two are the same program. -/
module

public import proofs.«01_k».proof.Proof.Gen.KernelIdeal.Skeleton

@[expose] public section

noncomputable section

namespace Cert.KernelIdeal.Hand

open Idealize.ShloMosaic Idealize.SL.Sem Cert.KernelIdeal.Gen

variable {F : FTy → Type} [FloatOps F]

/-- The programs of one device of this kernel. -/
abbrev Code (F : FTy → Type) := Prog (TpuEff nD τ sig (Elt F) Λ₀ .tc)

/-- Run `f` on each element of a list, in order. -/
def loop {α : Type} : List α → (α → Code F PUnit) → Code F PUnit
  | [], _ => .ret ⟨⟩
  | a :: l, f => (f a).bind fun _ => loop l f

/-- The sixteen row indices of half a partial result. -/
def rows16 : List (Fin 16) := [0, 1, 2, 3, 4, 5, 6, 7, 8, 9, 10, 11, 12, 13, 14, 15]

/-- The sixty-two send semaphores split into the two phases' thirty-one. -/
def all31 : List (Fin 31) := [0, 1, 2, 3, 4, 5, 6, 7, 8, 9, 10, 11, 12, 13, 14, 15, 16, 17, 18, 19, 20, 21, 22, 23, 24, 25, 26, 27, 28, 29, 30]

/-- The devices the barrier signals go to, each with its offset (less one). -/
def sigTab : List (Fin 31 × (Dev nD → Dev nD)) :=
  [(0, fun d => ⟨k0_dev1 d, k0_dev1_lt d⟩),
   (1, fun d => ⟨k0_dev2 d, k0_dev2_lt d⟩),
   (2, fun d => ⟨k0_dev3 d, k0_dev3_lt d⟩),
   (3, fun d => ⟨k0_dev4 d, k0_dev4_lt d⟩),
   (4, fun d => ⟨k0_dev5 d, k0_dev5_lt d⟩),
   (5, fun d => ⟨k0_dev6 d, k0_dev6_lt d⟩),
   (6, fun d => ⟨k0_dev7 d, k0_dev7_lt d⟩),
   (7, fun d => ⟨k0_dev8 d, k0_dev8_lt d⟩),
   (8, fun d => ⟨k0_dev9 d, k0_dev9_lt d⟩),
   (9, fun d => ⟨k0_dev10 d, k0_dev10_lt d⟩),
   (10, fun d => ⟨k0_dev11 d, k0_dev11_lt d⟩),
   (11, fun d => ⟨k0_dev12 d, k0_dev12_lt d⟩),
   (12, fun d => ⟨k0_dev13 d, k0_dev13_lt d⟩),
   (13, fun d => ⟨k0_dev14 d, k0_dev14_lt d⟩),
   (14, fun d => ⟨k0_dev15 d, k0_dev15_lt d⟩),
   (15, fun d => ⟨k0_dev16 d, k0_dev16_lt d⟩),
   (16, fun d => ⟨k0_dev17 d, k0_dev17_lt d⟩),
   (17, fun d => ⟨k0_dev18 d, k0_dev18_lt d⟩),
   (18, fun d => ⟨k0_dev19 d, k0_dev19_lt d⟩),
   (19, fun d => ⟨k0_dev20 d, k0_dev20_lt d⟩),
   (20, fun d => ⟨k0_dev21 d, k0_dev21_lt d⟩),
   (21, fun d => ⟨k0_dev22 d, k0_dev22_lt d⟩),
   (22, fun d => ⟨k0_dev23 d, k0_dev23_lt d⟩),
   (23, fun d => ⟨k0_dev24 d, k0_dev24_lt d⟩),
   (24, fun d => ⟨k0_dev25 d, k0_dev25_lt d⟩),
   (25, fun d => ⟨k0_dev26 d, k0_dev26_lt d⟩),
   (26, fun d => ⟨k0_dev27 d, k0_dev27_lt d⟩),
   (27, fun d => ⟨k0_dev28 d, k0_dev28_lt d⟩),
   (28, fun d => ⟨k0_dev29 d, k0_dev29_lt d⟩),
   (29, fun d => ⟨k0_dev30 d, k0_dev30_lt d⟩),
   (30, fun d => ⟨k0_dev31 d, k0_dev31_lt d⟩)]

/-- The devices the first phase sends to, each with its offset (less one). -/
def rsTab : List (Fin 31 × (Dev nD → Dev nD)) :=
  [(0, fun d => ⟨k0_dev32 d, k0_dev32_lt d⟩),
   (1, fun d => ⟨k0_dev33 d, k0_dev33_lt d⟩),
   (2, fun d => ⟨k0_dev34 d, k0_dev34_lt d⟩),
   (3, fun d => ⟨k0_dev35 d, k0_dev35_lt d⟩),
   (4, fun d => ⟨k0_dev36 d, k0_dev36_lt d⟩),
   (5, fun d => ⟨k0_dev37 d, k0_dev37_lt d⟩),
   (6, fun d => ⟨k0_dev38 d, k0_dev38_lt d⟩),
   (7, fun d => ⟨k0_dev39 d, k0_dev39_lt d⟩),
   (8, fun d => ⟨k0_dev40 d, k0_dev40_lt d⟩),
   (9, fun d => ⟨k0_dev41 d, k0_dev41_lt d⟩),
   (10, fun d => ⟨k0_dev42 d, k0_dev42_lt d⟩),
   (11, fun d => ⟨k0_dev43 d, k0_dev43_lt d⟩),
   (12, fun d => ⟨k0_dev44 d, k0_dev44_lt d⟩),
   (13, fun d => ⟨k0_dev45 d, k0_dev45_lt d⟩),
   (14, fun d => ⟨k0_dev46 d, k0_dev46_lt d⟩),
   (15, fun d => ⟨k0_dev47 d, k0_dev47_lt d⟩),
   (16, fun d => ⟨k0_dev48 d, k0_dev48_lt d⟩),
   (17, fun d => ⟨k0_dev49 d, k0_dev49_lt d⟩),
   (18, fun d => ⟨k0_dev50 d, k0_dev50_lt d⟩),
   (19, fun d => ⟨k0_dev51 d, k0_dev51_lt d⟩),
   (20, fun d => ⟨k0_dev52 d, k0_dev52_lt d⟩),
   (21, fun d => ⟨k0_dev53 d, k0_dev53_lt d⟩),
   (22, fun d => ⟨k0_dev54 d, k0_dev54_lt d⟩),
   (23, fun d => ⟨k0_dev55 d, k0_dev55_lt d⟩),
   (24, fun d => ⟨k0_dev56 d, k0_dev56_lt d⟩),
   (25, fun d => ⟨k0_dev57 d, k0_dev57_lt d⟩),
   (26, fun d => ⟨k0_dev58 d, k0_dev58_lt d⟩),
   (27, fun d => ⟨k0_dev59 d, k0_dev59_lt d⟩),
   (28, fun d => ⟨k0_dev60 d, k0_dev60_lt d⟩),
   (29, fun d => ⟨k0_dev61 d, k0_dev61_lt d⟩),
   (30, fun d => ⟨k0_dev62 d, k0_dev62_lt d⟩)]

/-- The devices the second phase sends to, each with its offset (less one). -/
def agTab : List (Fin 31 × (Dev nD → Dev nD)) :=
  [(0, fun d => ⟨k0_dev63 d, k0_dev63_lt d⟩),
   (1, fun d => ⟨k0_dev64 d, k0_dev64_lt d⟩),
   (2, fun d => ⟨k0_dev65 d, k0_dev65_lt d⟩),
   (3, fun d => ⟨k0_dev66 d, k0_dev66_lt d⟩),
   (4, fun d => ⟨k0_dev67 d, k0_dev67_lt d⟩),
   (5, fun d => ⟨k0_dev68 d, k0_dev68_lt d⟩),
   (6, fun d => ⟨k0_dev69 d, k0_dev69_lt d⟩),
   (7, fun d => ⟨k0_dev70 d, k0_dev70_lt d⟩),
   (8, fun d => ⟨k0_dev71 d, k0_dev71_lt d⟩),
   (9, fun d => ⟨k0_dev72 d, k0_dev72_lt d⟩),
   (10, fun d => ⟨k0_dev73 d, k0_dev73_lt d⟩),
   (11, fun d => ⟨k0_dev74 d, k0_dev74_lt d⟩),
   (12, fun d => ⟨k0_dev75 d, k0_dev75_lt d⟩),
   (13, fun d => ⟨k0_dev76 d, k0_dev76_lt d⟩),
   (14, fun d => ⟨k0_dev77 d, k0_dev77_lt d⟩),
   (15, fun d => ⟨k0_dev78 d, k0_dev78_lt d⟩),
   (16, fun d => ⟨k0_dev79 d, k0_dev79_lt d⟩),
   (17, fun d => ⟨k0_dev80 d, k0_dev80_lt d⟩),
   (18, fun d => ⟨k0_dev81 d, k0_dev81_lt d⟩),
   (19, fun d => ⟨k0_dev82 d, k0_dev82_lt d⟩),
   (20, fun d => ⟨k0_dev83 d, k0_dev83_lt d⟩),
   (21, fun d => ⟨k0_dev84 d, k0_dev84_lt d⟩),
   (22, fun d => ⟨k0_dev85 d, k0_dev85_lt d⟩),
   (23, fun d => ⟨k0_dev86 d, k0_dev86_lt d⟩),
   (24, fun d => ⟨k0_dev87 d, k0_dev87_lt d⟩),
   (25, fun d => ⟨k0_dev88 d, k0_dev88_lt d⟩),
   (26, fun d => ⟨k0_dev89 d, k0_dev89_lt d⟩),
   (27, fun d => ⟨k0_dev90 d, k0_dev90_lt d⟩),
   (28, fun d => ⟨k0_dev91 d, k0_dev91_lt d⟩),
   (29, fun d => ⟨k0_dev92 d, k0_dev92_lt d⟩),
   (30, fun d => ⟨k0_dev93 d, k0_dev93_lt d⟩)]

/-- The peer offset `r + 1` as the word the printed code passes. -/
abbrev word (r : Fin 31) : BitVec 32 := BitVec.ofNat 32 (1 + r.val)

/-! ## The pure computation -/

/-- Scores of one head: the scaled product of queries and keys, with the entries outside the window
    replaced by a large negative number. -/
def scores (q : FVec F S256x64 .f32) (k : Vec F S1x256x64 .bf16) : FVec F S256x256 .f32 :=
  select k0_pay1
    (mulf (matmul dot_S256x64_S256x64_S256x256_1_1_0_0_n_n none (truncf .bf16 q bitsLt_bf16_f32)
        (shapeCast S256x64 k shapeCasts_S1x256x64_S256x64) (constant S256x256 .f32 0x00000000#32))
      (broadcast S256x256 (Scalar.ofBits .f32 0x3E000000#32)))
    (broadcast S256x256 (Scalar.ofBits .f32 0xCE6E6B28#32))

/-- The exponentials of the scores, each row shifted by its largest entry. -/
def expScores (s : FVec F S256x256 .f32) : FVec F S256x256 .f32 :=
  exp (subf s (broadcastTo S256x256 (shapeCast S256x1
    (multiReduction .maximumf [1] S256 s 0xFF800000#32 reduces_S256x256_S256 (.inl rfl) rfl)
    shapeCasts_S256_S256x1) broadcasts_S256x1_S256x256))

/-- Each row divided by its sum. -/
def normRows (w : FVec F S256x256 .f32) : FVec F S256x256 .f32 :=
  divf w (broadcastTo S256x256 (shapeCast S256x1
    (multiReduction .add [1] S256 w 0x00000000#32 reduces_S256x256_S256 (.inl rfl) rfl)
    shapeCasts_S256_S256x1) broadcasts_S256x1_S256x256)

/-- One head's contribution to the partial result: softmax of the scores, times the values, times
    the head's rows of the output weights. -/
def headOut (q : FVec F S256x64 .f32) (k v : Vec F S1x256x64 .bf16) (wo : FVec F S64x512 .bf16) : FVec F S256x512 .f32 :=
  matmul dot_S256x64_S64x512_S256x512_1_0_0_1_n_n none
    (truncf .bf16 (matmul dot_S256x256_S256x64_S256x64_1_0_0_1_n_n none
      (truncf .bf16 (normRows (expScores (scores q k))) bitsLt_bf16_f32)
      (shapeCast S256x64 v shapeCasts_S1x256x64_S256x64) (constant S256x64 .f32 0x00000000#32)) bitsLt_bf16_f32)
    wo (constant S256x512 .f32 0x00000000#32)

/-- The queries of the device's four heads, for one batch entry. -/
def queries (wq : Vec F S512x256 .bf16) (x : Vec F S1x256x512 .bf16) : FVec F S256x256 .f32 :=
  matmul dot_S256x512_S512x256_S256x256_1_0_0_1_n_n none (shapeCast S256x512 x shapeCasts_S1x256x512_S256x512)
    (shapeCast S512x256 wq shapeCasts_S512x256_S512x256) (constant S256x256 .f32 0x00000000#32)

/-- The partial result of one batch entry: the sum of the four heads' contributions. -/
def partialOut (wq : Vec F S512x256 .bf16) (wo : Vec F S256x512 .bf16) (x : Vec F S1x256x512 .bf16)
    (k0 v0 k1 v1 k2 v2 k3 v3 : Vec F S1x256x64 .bf16) : FVec F S256x512 .f32 :=
  let q := queries wq x
  let o : FVec F S256x512 .bf16 := shapeCast S256x512 wo shapeCasts_S256x512_S256x512
  addf (addf (addf (addf (broadcast S256x512 (Scalar.ofBits .f32 0x00000000#32))
    (headOut (extractStridedSlice S256x64 ![0, 0] q slices_S256x256_o0_0_S256x64) k0 v0
      (extractStridedSlice S64x512 ![0, 0] o slices_S256x512_o0_0_S64x512)))
    (headOut (extractStridedSlice S256x64 ![0, 64] q slices_S256x256_o0_64_S256x64) k1 v1
      (extractStridedSlice S64x512 ![64, 0] o slices_S256x512_o64_0_S64x512)))
    (headOut (extractStridedSlice S256x64 ![0, 128] q slices_S256x256_o0_128_S256x64) k2 v2
      (extractStridedSlice S64x512 ![128, 0] o slices_S256x512_o128_0_S64x512)))
    (headOut (extractStridedSlice S256x64 ![0, 192] q slices_S256x256_o0_192_S256x64) k3 v3
      (extractStridedSlice S64x512 ![192, 0] o slices_S256x512_o192_0_S64x512))

/-- Sixteen consecutive rows of a partial result lie inside it. -/
theorem slices_rows (i : Fin 16) : S256x512.Slices ![16 * i.val, 0] S16x512 := by
  revert i; decide

/-- Chunk `i` of one batch entry's partial result, as the block that is stored. -/
def chunk (a : FVec F S256x512 .f32) (i : Fin 16) : FVec F S1x16x512 .f32 :=
  shapeCast S1x16x512 (extractStridedSlice S16x512 ![16 * i.val, 0] a (slices_rows i)) shapeCasts_S16x512_S1x16x512

/-! ## Views -/

section
variable (a5 a6 : Memref sig .tc .vmem S32x16x512 .f32) (a7 : DmaSems sig S62) (a8 : DmaSems sig S32)

/-- The barrier semaphore. -/
def barSem : Sem sig := (SemArray.scalar (sig.barrier 0 rfl) : Sems sig S_).sem

/-- A chunk of a buffer of 32 chunks, as a 16 × 512 array. -/
def chunkAt (off : Fin 3 → Nat) (h : ∀ a, off a + S1x16x512.size a ≤ S32x16x512.size a) :
    Memref sig .tc .vmem S16x512 .f32 :=
  (a5.slice (Rect.unit (s := S32x16x512) off S1x16x512.size h) (fun _ => rfl)).squeeze S16x512 squeezes_S1x16x512_S16x512

/-- One of 32 semaphores. -/
def semAt (off : Fin 1 → Nat) (h : ∀ a, off a + S1.size a ≤ S32.size a) : DmaSem sig :=
  ((a8.slice (Rect.unit (s := S32) off S1.size h)).squeeze S_ squeezes_S1_S_).sem

/-- One of the 62 send semaphores. -/
def sendAt (off : Fin 1 → Nat) (h : ∀ a, off a + S1.size a ≤ S62.size a) : DmaSem sig :=
  ((a7.slice (Rect.unit (s := S62) off S1.size h)).squeeze S_ squeezes_S1_S_).sem

/-- The first round's send semaphores lie in the array. -/
theorem send1_inb (r : Fin 31) : ∀ a, (![r.val] : Fin 1 → Nat) a + S1.size a ≤ S62.size a := by
  revert r; decide

/-- The second round's send semaphores lie in the array. -/
theorem send2_inb (r : Fin 31) : ∀ a, (![31 + r.val] : Fin 1 → Nat) a + S1.size a ≤ S62.size a := by
  revert r; decide

/-- Every chunk lies in the buffer of chunks. -/
theorem row_inb (i : Fin 32) : ∀ a, (![i.val, 0, 0] : Fin 3 → Nat) a + S1x16x512.size a ≤ S32x16x512.size a := by
  revert i; decide

/-- The load of a chunk, as a block. -/
def loadChunk (off : Fin 3 → Nat) (h : ∀ a, off a + S1x16x512.size a ≤ S32x16x512.size a) : Code F (Vec F S1x16x512 .f32) :=
  Prog.lift (.load a5 (Rect.unit (s := S32x16x512) off S1x16x512.size h).toLoadRect (View.loadsAt_vmem h_S1x16x512))

/-- The store of a chunk, as a block. -/
def storeChunk (off : Fin 3 → Nat) (h : ∀ a, off a + S1x16x512.size a ≤ S32x16x512.size a) (v : FVec F S1x16x512 .f32) : Code F PUnit :=
  Prog.lift (.store a5 (Rect.unit (s := S32x16x512) off S1x16x512.size h) v Finset.univ (View.stores_vmem_bits_univ h_S1x16x512 rfl) (.inl rfl))

/-- A chunk is read and then overwritten. -/
def putChunk (off : Fin 3 → Nat) (h : ∀ a, off a + S1x16x512.size a ≤ S32x16x512.size a) (v : FVec F S1x16x512 .f32) : Code F PUnit :=
  (loadChunk a5 off h).bind fun _ => storeChunk a5 off h v

/-- A copy of one chunk into a peer. -/
def sendChunk (src dst : Memref sig .tc .vmem S16x512 .f32) (p : Dev nD) (sS sR : DmaSem sig)
    (h₁ : src.view.WordExact) (h₂ : dst.view.WordExact) : Code F PUnit :=
  Prog.lift (.enqueueDma src (.remote (Dev.tc p) dst (.dma sS)) (.dma sR) h₁ h₂ ⟨⟨rfl, Or.inl rfl⟩, trivial⟩)

end

section
variable (arg0 : Memref sig .tc .vmem S2x256x512 .bf16) (arg1 : Memref sig .tc .vmem S512x256 .bf16)
    (arg2 arg3 : Memref sig .tc .vmem S2x256x256 .bf16) (arg4 : Memref sig .tc .vmem S256x512 .bf16)
    (arg5 arg6 : Memref sig .tc .vmem S32x16x512 .f32) (arg7 : DmaSems sig S62) (arg8 arg9 : DmaSems sig S32)

/-- Batch entry 0: the loads, the partial result, and the stores of its sixteen chunks. -/
def batch0 (wq : Vec F S512x256 .bf16) (wo : Vec F S256x512 .bf16) : Code F PUnit :=
  (Prog.lift (.load arg0 (Rect.unit (s := S2x256x512) ![0, 0, 0] S1x256x512.size inb_S2x256x512_S1x256x512_0_0_0).toLoadRect (View.loadsAt_vmem h_S1x256x512))).bind fun x =>
  (Prog.lift (.load arg2 (Rect.unit (s := S2x256x256) ![0, 0, 0] S1x256x64.size inb_S2x256x256_S1x256x64_0_0_0).toLoadRect (View.loadsAt_vmem h_S1x256x64))).bind fun k0 =>
  (Prog.lift (.load arg3 (Rect.unit (s := S2x256x256) ![0, 0, 0] S1x256x64.size inb_S2x256x256_S1x256x64_0_0_0).toLoadRect (View.loadsAt_vmem h_S1x256x64))).bind fun v0 =>
  (Prog.lift (.load arg2 (Rect.unit (s := S2x256x256) ![0, 0, 64] S1x256x64.size inb_S2x256x256_S1x256x64_0_0_64).toLoadRect (View.loadsAt_vmem h_S1x256x64))).bind fun k1 =>
  (Prog.lift (.load arg3 (Rect.unit (s := S2x256x256) ![0, 0, 64] S1x256x64.size inb_S2x256x256_S1x256x64_0_0_64).toLoadRect (View.loadsAt_vmem h_S1x256x64))).bind fun v1 =>
  (Prog.lift (.load arg2 (Rect.unit (s := S2x256x256) ![0, 0, 128] S1x256x64.size inb_S2x256x256_S1x256x64_0_0_128).toLoadRect (View.loadsAt_vmem h_S1x256x64))).bind fun k2 =>
  (Prog.lift (.load arg3 (Rect.unit (s := S2x256x256) ![0, 0, 128] S1x256x64.size inb_S2x256x256_S1x256x64_0_0_128).toLoadRect (View.loadsAt_vmem h_S1x256x64))).bind fun v2 =>
  (Prog.lift (.load arg2 (Rect.unit (s := S2x256x256) ![0, 0, 192] S1x256x64.size inb_S2x256x256_S1x256x64_0_0_192).toLoadRect (View.loadsAt_vmem h_S1x256x64))).bind fun k3 =>
  (Prog.lift (.load arg3 (Rect.unit (s := S2x256x256) ![0, 0, 192] S1x256x64.size inb_S2x256x256_S1x256x64_0_0_192).toLoadRect (View.loadsAt_vmem h_S1x256x64))).bind fun v3 =>
  loop rows16 fun i => putChunk arg5 ![(i.val), 0, 0] (row_inb ⟨i.val, by omega⟩)
    (chunk (partialOut wq wo x k0 v0 k1 v1 k2 v2 k3 v3) i)

/-- Batch entry 1: the loads, the partial result, and the stores of its sixteen chunks. -/
def batch1 (wq : Vec F S512x256 .bf16) (wo : Vec F S256x512 .bf16) : Code F PUnit :=
  (Prog.lift (.load arg0 (Rect.unit (s := S2x256x512) ![1, 0, 0] S1x256x512.size inb_S2x256x512_S1x256x512_1_0_0).toLoadRect (View.loadsAt_vmem h_S1x256x512))).bind fun x =>
  (Prog.lift (.load arg2 (Rect.unit (s := S2x256x256) ![1, 0, 0] S1x256x64.size inb_S2x256x256_S1x256x64_1_0_0).toLoadRect (View.loadsAt_vmem h_S1x256x64))).bind fun k0 =>
  (Prog.lift (.load arg3 (Rect.unit (s := S2x256x256) ![1, 0, 0] S1x256x64.size inb_S2x256x256_S1x256x64_1_0_0).toLoadRect (View.loadsAt_vmem h_S1x256x64))).bind fun v0 =>
  (Prog.lift (.load arg2 (Rect.unit (s := S2x256x256) ![1, 0, 64] S1x256x64.size inb_S2x256x256_S1x256x64_1_0_64).toLoadRect (View.loadsAt_vmem h_S1x256x64))).bind fun k1 =>
  (Prog.lift (.load arg3 (Rect.unit (s := S2x256x256) ![1, 0, 64] S1x256x64.size inb_S2x256x256_S1x256x64_1_0_64).toLoadRect (View.loadsAt_vmem h_S1x256x64))).bind fun v1 =>
  (Prog.lift (.load arg2 (Rect.unit (s := S2x256x256) ![1, 0, 128] S1x256x64.size inb_S2x256x256_S1x256x64_1_0_128).toLoadRect (View.loadsAt_vmem h_S1x256x64))).bind fun k2 =>
  (Prog.lift (.load arg3 (Rect.unit (s := S2x256x256) ![1, 0, 128] S1x256x64.size inb_S2x256x256_S1x256x64_1_0_128).toLoadRect (View.loadsAt_vmem h_S1x256x64))).bind fun v2 =>
  (Prog.lift (.load arg2 (Rect.unit (s := S2x256x256) ![1, 0, 192] S1x256x64.size inb_S2x256x256_S1x256x64_1_0_192).toLoadRect (View.loadsAt_vmem h_S1x256x64))).bind fun k3 =>
  (Prog.lift (.load arg3 (Rect.unit (s := S2x256x256) ![1, 0, 192] S1x256x64.size inb_S2x256x256_S1x256x64_1_0_192).toLoadRect (View.loadsAt_vmem h_S1x256x64))).bind fun v3 =>
  loop rows16 fun i => putChunk arg5 ![(16 + i.val), 0, 0] (row_inb ⟨16 + i.val, by omega⟩)
    (chunk (partialOut wq wo x k0 v0 k1 v1 k2 v2 k3 v3) i)

/-- The device's partial result, computed and stored chunk by chunk. -/
def computePart : Code F PUnit :=
  (Prog.lift (.load arg1 (Rect.unit (s := S512x256) ![0, 0] S512x256.size inb_S512x256_S512x256_0_0).toLoadRect (View.loadsAt_vmem h_S512x256))).bind fun wq =>
  (Prog.lift (.load arg4 (Rect.unit (s := S256x512) ![0, 0] S256x512.size inb_S256x512_S256x512_0_0).toLoadRect (View.loadsAt_vmem h_S256x512))).bind fun wo =>
  (batch0 arg0 arg2 arg3 arg5 wq wo).bind fun _ => batch1 arg0 arg2 arg3 arg5 wq wo

/-- Signal every peer, then wait for all of them. -/
def barrierPart (tab : List (Fin 31 × (Dev nD → Dev nD))) (d : Dev nD) : Code F PUnit :=
  (loop tab fun e => semSignalWord (e.2 d) barSem 1#32).bind fun _ =>
  semWaitWord barSem 31#32

/-- Send every peer its chunk of this device's partial result. -/
def rsSends (tab : List (Fin 31 × (Dev nD → Dev nD))) (d : Dev nD) : Code F PUnit :=
  loop tab fun e =>
    sendChunk (chunkAt arg5 (k0_off3 d (word e.1)) (k0_off3_inb d e.1)) (chunkAt arg6 (k0_off2 d) (k0_off2_inb d)) (e.2 d)
      (sendAt arg7 ![e.1.val] (send1_inb e.1)) (semAt arg8 (k0_off1 d) (k0_off1_inb d))
      ((View.wordExact_bits rfl).reshape _ _) ((View.wordExact_bits rfl).reshape _ _)

/-- Copy this device's own chunk next to the incoming ones. -/
def ownPart (d : Dev nD) : Code F PUnit :=
  (loadChunk arg5 (k0_off4 d) (k0_off4_inb d)).bind fun v =>
  putChunk arg6 (k0_off4 d) (k0_off4_inb d) (k0_pay58 v)

/-- Wait for one incoming chunk of each peer. -/
def recvWaits (a : Memref sig .tc .vmem S32x16x512 .f32) (s : DmaSems sig S32) (d : Dev nD) : Code F PUnit :=
  loop all31 fun r =>
    Prog.lift (.waitDma2 (semAt s (k0_off5 d (word r)) (k0_off5_inb d r))
      (chunkAt a (k0_off3 d (word r)) (k0_off3_inb d r)) (chunkAt a (k0_off3 d (word r)) (k0_off3_inb d r))
      ((View.wordExact_bits rfl).reshape _ _) ((View.wordExact_bits rfl).reshape _ _))

/-- Sum the gathered chunks into this device's chunk of the result. -/
def reducePart (d : Dev nD) : Code F PUnit :=
  (Prog.lift (.load arg6 (Rect.unit (s := S32x16x512) ![0, 0, 0] S32x16x512.size inb_S32x16x512_S32x16x512_0_0_0).toLoadRect
    (View.loadsAt_vmem h_S32x16x512))).bind fun v =>
  putChunk arg5 (k0_off4 d) (k0_off4_inb d) (k0_pay59 v)

/-- Send the reduced chunk to every peer. -/
def agSends (tab : List (Fin 31 × (Dev nD → Dev nD))) (d : Dev nD) : Code F PUnit :=
  loop tab fun e =>
    sendChunk (chunkAt arg5 (k0_off2 d) (k0_off2_inb d)) (chunkAt arg5 (k0_off2 d) (k0_off2_inb d)) (e.2 d)
      (sendAt arg7 ![31 + e.1.val] (send2_inb e.1)) (semAt arg9 (k0_off1 d) (k0_off1_inb d))
      ((View.wordExact_bits rfl).reshape _ _) ((View.wordExact_bits rfl).reshape _ _)

/-- Wait for the first phase's copies to have left. -/
def sendWaits1 (d : Dev nD) : Code F PUnit :=
  loop all31 fun r =>
    Prog.lift (.waitDma2 (sendAt arg7 ![r.val] (send1_inb r))
      (chunkAt arg6 (k0_off2 d) (k0_off2_inb d)) (chunkAt arg5 (k0_off3 d (word r)) (k0_off3_inb d r))
      ((View.wordExact_bits rfl).reshape _ _) ((View.wordExact_bits rfl).reshape _ _))

/-- Wait for the second phase's copies to have left. -/
def sendWaits2 (d : Dev nD) : Code F PUnit :=
  loop all31 fun r =>
    Prog.lift (.waitDma2 (sendAt arg7 ![31 + r.val] (send2_inb r))
      (chunkAt arg5 (k0_off2 d) (k0_off2_inb d)) (chunkAt arg5 (k0_off2 d) (k0_off2_inb d))
      ((View.wordExact_bits rfl).reshape _ _) ((View.wordExact_bits rfl).reshape _ _))

/-- The communication of device `d`, phase after phase. -/
def talkPart (d : Dev nD) : Code F PUnit :=
  (barrierPart sigTab d).bind fun _ =>
  (rsSends arg5 arg6 arg7 arg8 rsTab d).bind fun _ =>
  (ownPart arg5 arg6 d).bind fun _ =>
  (recvWaits arg6 arg8 d).bind fun _ =>
  (reducePart arg5 arg6 d).bind fun _ =>
  (agSends arg5 arg7 arg9 agTab d).bind fun _ =>
  (recvWaits arg5 arg9 d).bind fun _ =>
  (sendWaits1 arg5 arg6 arg7 d).bind fun _ =>
  sendWaits2 arg5 arg7 d

/-- The whole body. -/
def looped : Code F PUnit :=
  (Prog.lift .deviceId).bind fun d =>
  (computePart arg0 arg1 arg2 arg3 arg4 arg5).bind fun _ =>
  talkPart arg5 arg6 arg7 arg8 arg9 d

end

end Cert.KernelIdeal.Hand

end
-- ==== Proof.Addr.lean ====
/- The devices and chunks the communication addresses, in closed form. -/
module

public import proofs.«01_k».proof.Proof.Loops

@[expose] public section

noncomputable section

namespace Cert.KernelIdeal.Hand

open Idealize.ShloMosaic Idealize.ShloMosaic.TcCoe Idealize.SL.Sem Cert.KernelIdeal.Gen

/-! ## Peers -/

/-- The peer at offset `r + 1`. -/
def pe (c : Dev nD) (r : Fin 31) : Dev nD := ⟨(c.val + r.val + 1) % 32, Nat.mod_lt _ (by decide)⟩

/-- The offset that leads back. -/
def rv (r : Fin 31) : Fin 31 := ⟨30 - r.val, by omega⟩

/-- From device `c`'s peer at offset `r`, the reverse offset leads back to `c`. -/
theorem pe_rv (c : Dev nD) (r : Fin 31) : pe (pe c r) (rv r) = c := by
  apply Fin.ext
  have hc : c.val < 32 := c.isLt
  simp only [pe, rv]; omega

/-- Reversing an offset twice gives it back. -/
theorem rv_rv (r : Fin 31) : rv (rv r) = r := by
  apply Fin.ext; simp only [rv]; omega

/-- No device is its own peer. -/
theorem pe_ne (c : Dev nD) (r : Fin 31) : pe c r ≠ c := by
  have hc : c.val < 32 := c.isLt
  intro h; have := congrArg Fin.val h
  simp only [pe] at this; omega

/-- Different offsets lead to different peers. -/
theorem pe_inj (c : Dev nD) : Function.Injective (pe c) := by
  intro r s h
  have hc : c.val < 32 := c.isLt
  have := congrArg Fin.val h
  apply Fin.ext
  simp only [pe] at this; omega

/-- Every other device is a peer. -/
theorem pe_surj {c j : Dev nD} (h : j ≠ c) : ∃ r, pe c r = j := by
  have hc : c.val < 32 := c.isLt
  have hj : j.val < 32 := j.isLt
  have hne : j.val ≠ c.val := fun e => h (Fin.ext e)
  refine ⟨⟨(j.val + 31 - c.val) % 32, by omega⟩, Fin.ext ?_⟩
  simp only [pe]; omega

/-! ## The printed addresses -/

/-- The address computation of the printed code: the remainder of `c + w` by 32, rounded towards minus infinity. -/
def addr (c : Dev nD) (w : BitVec 32) : BitVec 32 :=
  let v : BitVec 32 := Scalar.addi (Scalar.remsi (Scalar.divsi (Dev.word c) 1#32) 32#32) w
  let m : BitVec 32 := Scalar.select (Scalar.cmpi .eq (32#32 : BitVec 32) 0#32) 1#32 32#32
  Scalar.select (Scalar.andi (Scalar.xori (Scalar.cmpi .slt (Scalar.remsi v m) 0#32) (Scalar.cmpi .slt m 0#32))
    (Scalar.cmpi .ne (Scalar.remsi v m) 0#32)) (Scalar.addi (Scalar.remsi v m) m) (Scalar.remsi v m)

/-- The index word that the kernel computes at an offset is the peer's number. -/
theorem addr_eq : ∀ (c : Dev nD) (r : Fin 31), (addr c (word r)).toNat = (pe c r).val := by decide +kernel

/-- The same as a device number. -/
def devAddr (c : Dev nD) (w : BitVec 32) : Nat := (Scalar.addi (0#32 : BitVec 32) (Scalar.muli (addr c w) 1#32)).toNat

/-- The device address that the kernel computes at an offset is the peer's. -/
theorem devAddr_eq : ∀ (c : Dev nD) (r : Fin 31), devAddr c (word r) = (pe c r).val := by decide +kernel

/-- The offsets of a peer's chunk in a buffer of chunks. -/
theorem off3_eq (c : Dev nD) (r : Fin 31) : k0_off3 c (word r) = ![(pe c r).val, 0, 0] := by
  rw [← addr_eq]; rfl

/-- The offset of a peer's semaphore in an array of semaphores. -/
theorem off5_eq (c : Dev nD) (r : Fin 31) : k0_off5 c (word r) = ![(pe c r).val] := by
  rw [← addr_eq]; rfl

/-- The table of peers, from the address computation. -/
def peTab : List (Fin 31 × (Dev nD → Dev nD)) :=
  all31.map fun r => (r, fun c => ⟨devAddr c (word r), (devAddr_eq c r).symm ▸ (pe c r).isLt⟩)

/-- The table of peers holds, at each offset, that offset's peer. -/
theorem peTab_eq (c : Dev nD) : ∀ e ∈ peTab, e.2 c = pe c e.1 := by
  intro e he
  obtain ⟨r, -, rfl⟩ := List.mem_map.mp he
  exact Fin.ext (devAddr_eq c r)

/-- The signals go to the peers in the table's order. -/
theorem sigTab_pe : sigTab = peTab := rfl
/-- The first copies go to the peers in the table's order. -/
theorem rsTab_pe : rsTab = peTab := rfl
/-- The second copies go to the peers in the table's order. -/
theorem agTab_pe : agTab = peTab := rfl

/-- The table lists every offset once, in order. -/
theorem peTab_fst : peTab.map Prod.fst = all31 := rfl

end Cert.KernelIdeal.Hand

end
-- ==== Proof.Views.lean ====
/- The chunks of the two exchange buffers, the semaphores, and the communication with every address in
   closed form.

   A chunk is a row of a buffer of 32 chunks. The lemmas here say which elements a chunk's view covers and
   what a read or a write through it is, so that the protocol can speak of rows only. -/
module

public import proofs.«01_k».proof.Proof.Addr
public import Idealize.ShloMosaic.Lib.ValueLayout
public import Idealize.ShloMosaic.Lib.ViewIndex
public import Idealize.ShloMosaic.Lib.Pipeline.Kit

@[expose] public section

noncomputable section

namespace Cert.KernelIdeal.Hand

open Idealize.ShloMosaic Idealize.ShloMosaic.TcCoe Idealize.SL.Sem Cert.KernelIdeal.Gen
open Idealize.ShloMosaic.ValueIdx

variable {F : FTy → Type} [FloatOps F]

/-! ## The two buffers and their rows -/

/-- The output buffer, in which the partial result is made and the reduced chunks arrive. -/
abbrev outM : Memref sig .tc .vmem S32x16x512 .f32 := Memref.whole cc0_stg5_0
/-- The buffer the peers' partial chunks arrive in. -/
abbrev rsM : Memref sig .tc .vmem S32x16x512 .f32 := Memref.whole cc0_scratch0

/-- Contents of a buffer of 32 chunks. -/
abbrev Big (F : FTy → Type) : Type := S32x16x512.Idx → Elt F .f32

/-- The elements of chunk `p`. -/
def rowSet (p : Fin 32) : Finset S32x16x512.Idx := Finset.univ.filter fun i => (i 0).val = p.val

/-- The entries of chunk `p` are those whose first coordinate is `p`. -/
theorem mem_rowSet {p : Fin 32} {i : S32x16x512.Idx} : i ∈ rowSet p ↔ (i 0).val = p.val := by
  unfold rowSet; rw [Finset.mem_filter]; exact ⟨fun h => h.2, fun h => ⟨Finset.mem_univ _, h⟩⟩

/-- Different chunks share no entry. -/
theorem rowSet_disjoint (p q : Fin 32) (h : p ≠ q) : Disjoint (rowSet p) (rowSet q) := by
  rw [Finset.disjoint_left]
  intro i hi hj
  exact h (Fin.ext ((mem_rowSet.mp hi).symm.trans (mem_rowSet.mp hj)))

/-- The chunks are all of the buffer. -/
theorem rowSet_cover : Finset.univ.biUnion rowSet = (Finset.univ : Finset S32x16x512.Idx) := by
  ext i
  simp only [Finset.mem_biUnion, Finset.mem_univ, true_and, iff_true]
  exact ⟨⟨(i 0).val, (i 0).isLt⟩, mem_rowSet.mpr rfl⟩

/-- The element of chunk `p` at a place. -/
abbrev at3 (p : Fin 32) (x : Fin 16) (y : Fin 512) : S32x16x512.Idx := ix3 p x y

/-- An entry of a chunk, by its coordinates. -/
theorem at3_of_mem {p : Fin 32} {i : S32x16x512.Idx} (h : i ∈ rowSet p) : i = at3 p (i 1) (i 2) :=
  Shape.idx3_ext (mem_rowSet.mp h) rfl rfl

/-- An entry of chunk `p` lies in it. -/
theorem at3_mem (p : Fin 32) (x : Fin 16) (y : Fin 512) : at3 p x y ∈ rowSet p := mem_rowSet.mpr rfl

/-- Chunk `p` of a buffer. -/
abbrev row (a : Memref sig .tc .vmem S32x16x512 .f32) (p : Fin 32) : Memref sig .tc .vmem S16x512 .f32 :=
  chunkAt a ![p.val, 0, 0] (row_inb p)

/-- The rectangle of chunk `p`. -/
abbrev rowRect (p : Fin 32) : Rect S32x16x512 := Rect.unit (s := S32x16x512) ![p.val, 0, 0] S1x16x512.size (row_inb p)

section Emb
variable (a : Memref sig .tc .vmem S32x16x512 .f32) (p : Fin 32)

/-- Where the entries of a chunk's rectangle lie. -/
theorem rowRect_emb (x : Fin 16) (y : Fin 512) (z : Fin 1) : (rowRect p).emb (ix3 z x y) = at3 p x y := by
  have hz : z.val = 0 := by omega
  refine Shape.idx3_ext ?_ ?_ ?_
  · rw [Rect.emb_apply]; show p.val + 1 * z.val = p.val; omega
  · rw [Rect.emb_apply]; show 0 + 1 * x.val = x.val; omega
  · rw [Rect.emb_apply]; show 0 + 1 * y.val = y.val; omega

/-- Where the entries of a chunk lie. -/
theorem row_emb (x : Fin 16) (y : Fin 512) : (row a p).view.emb (ix2 x y) = a.view.emb (at3 p x y) := by
  show a.view.emb ((rowRect p).emb (Shape.reshapeEquiv _ (ix2 x y))) = _
  rw [reshapeEquiv_ix2_1ab, rowRect_emb]

/-- The entries of a chunk's rectangle. -/
theorem rowRect_set : (rowRect p).set = rowSet p := by
  ext i
  rw [Rect.mem_set_unit, mem_rowSet]
  have h1 : (i 1).val < 16 := (i 1).isLt
  have h2 : (i 2).val < 512 := (i 2).isLt
  constructor
  · intro h
    have h0 := h 0
    have e1 : (![p.val, 0, 0] : Fin 3 → Nat) 0 = p.val := rfl
    have e2 : S1x16x512.size 0 = 1 := rfl
    rw [e1, e2] at h0; omega
  · intro h a
    match a with
    | ⟨0, _⟩ => show p.val ≤ (i 0).val ∧ (i 0).val < p.val + 1; omega
    | ⟨1, _⟩ => show 0 ≤ (i 1).val ∧ (i 1).val < 0 + 16; omega
    | ⟨2, _⟩ => show 0 ≤ (i 2).val ∧ (i 2).val < 0 + 512; omega

end Emb

/-- The entries of a chunk of the output buffer. -/
theorem out_row_set (p : Fin 32) : (row outM p).view.set = rowSet p := by
  show (((View.whole cc0_stg5_0).slice (rowRect p)).reshape S16x512 _).set = _
  rw [View.set_reshape, View.set_slice_whole]; exact rowRect_set p

/-- The entries of a chunk of the receive buffer. -/
theorem rs_row_set (p : Fin 32) : (row rsM p).view.set = rowSet p := by
  show (((View.whole cc0_scratch0).slice (rowRect p)).reshape S16x512 _).set = _
  rw [View.set_reshape, View.set_slice_whole]; exact rowRect_set p

/-- The entries that an access to a chunk of the output buffer touches. -/
theorem out_access_set (p : Fin 32) : (outM.access (rowRect p)).set = rowSet p := by
  show ((View.whole cc0_stg5_0).slice (rowRect p)).set = _
  rw [View.set_slice_whole]; exact rowRect_set p

/-- The entries that an access to a chunk of the receive buffer touches. -/
theorem rs_access_set (p : Fin 32) : (rsM.access (rowRect p)).set = rowSet p := by
  show ((View.whole cc0_scratch0).slice (rowRect p)).set = _
  rw [View.set_slice_whole]; exact rowRect_set p

/-- Chunk `q` of the first contents, put at chunk `p`, element by element. -/
theorem copy_out_rs (p q : Fin 32) (fd fs : Big F) (i : S32x16x512.Idx) (hi : i ∈ rowSet p) :
    (row rsM p).view.write (Elt F) fd ((row outM q).view.read (Elt F) fs) Finset.univ i = fs (at3 q (i 1) (i 2)) := by
  have e : i = (row rsM p).view.emb (ix2 (i 1) (i 2)) := (at3_of_mem hi).trans (row_emb rsM p _ _).symm
  refine (congrArg _ e).trans ((View.write_emb_of_mem (v := (row rsM p).view) fd _ (Finset.mem_univ (ix2 (i 1) (i 2)))).trans ?_)
  show fs ((row outM q).view.emb (ix2 (i 1) (i 2))) = _
  exact congrArg fs (row_emb outM q _ _)

/-- The same between two chunks of the output buffers. -/
theorem copy_out_out (p q : Fin 32) (fd fs : Big F) (i : S32x16x512.Idx) (hi : i ∈ rowSet p) :
    (row outM p).view.write (Elt F) fd ((row outM q).view.read (Elt F) fs) Finset.univ i = fs (at3 q (i 1) (i 2)) := by
  have e : i = (row outM p).view.emb (ix2 (i 1) (i 2)) := (at3_of_mem hi).trans (row_emb outM p _ _).symm
  refine (congrArg _ e).trans ((View.write_emb_of_mem (v := (row outM p).view) fd _ (Finset.mem_univ (ix2 (i 1) (i 2)))).trans ?_)
  show fs ((row outM q).view.emb (ix2 (i 1) (i 2))) = _
  exact congrArg fs (row_emb outM q _ _)

/-- A chunk of the output buffer stored as a block, on the chunk; -/
theorem store_out_mem (p : Fin 32) (fd : Big F) (w : S1x16x512.Idx → Elt F .f32) (i : S32x16x512.Idx) (hi : i ∈ rowSet p) :
    (outM.access (rowRect p)).write (Elt F) fd w Finset.univ i = w (ix3 (0 : Fin 1) (i 1) (i 2)) := by
  have e : i = (outM.access (rowRect p)).emb (ix3 (0 : Fin 1) (i 1) (i 2)) := (at3_of_mem hi).trans (rowRect_emb p _ _ _).symm
  exact (congrArg _ e).trans (View.write_emb_of_mem (v := outM.access (rowRect p)) fd w (Finset.mem_univ (ix3 (0 : Fin 1) (i 1) (i 2))))

/-- and off it. -/
theorem store_out_not_mem (p : Fin 32) (fd : Big F) (w : S1x16x512.Idx → Elt F .f32) (i : S32x16x512.Idx) (hi : i ∉ rowSet p) :
    (outM.access (rowRect p)).write (Elt F) fd w Finset.univ i = fd i := by
  refine View.write_of_not_mem (v := outM.access (rowRect p)) fd w Finset.univ ?_
  rw [View.setOn_univ, out_access_set]; exact hi

/-- A chunk of the receive buffer stored as a block, on the chunk. -/
theorem store_rs_mem (p : Fin 32) (fd : Big F) (w : S1x16x512.Idx → Elt F .f32) (i : S32x16x512.Idx) (hi : i ∈ rowSet p) :
    (rsM.access (rowRect p)).write (Elt F) fd w Finset.univ i = w (ix3 (0 : Fin 1) (i 1) (i 2)) := by
  have e : i = (rsM.access (rowRect p)).emb (ix3 (0 : Fin 1) (i 1) (i 2)) := (at3_of_mem hi).trans (rowRect_emb p _ _ _).symm
  exact (congrArg _ e).trans (View.write_emb_of_mem (v := rsM.access (rowRect p)) fd w (Finset.mem_univ (ix3 (0 : Fin 1) (i 1) (i 2))))

/-- A chunk of the output buffer read as a block. -/
theorem load_out (p : Fin 32) (f : Big F) :
    (outM.access (rowRect p)).read (Elt F) f = fun j : S1x16x512.Idx => f (at3 p (j 1) (j 2)) := by
  funext j
  have hj : j = ix3 (n0 := 1) (n1 := 16) (n2 := 512) (j 0) (j 1) (j 2) := Shape.idx3_ext rfl rfl rfl
  exact congrArg f ((congrArg (rowRect p).emb hj).trans (rowRect_emb p _ _ _))

/-- The whole receive buffer read. -/
theorem load_rs (f : Big F) :
    (rsM.access (Rect.unit (s := S32x16x512) ![0, 0, 0] S32x16x512.size inb_S32x16x512_S32x16x512_0_0_0)).read (Elt F) f = f := by
  funext j
  refine congrArg f (?_ : (Rect.unit (s := S32x16x512) ![0, 0, 0] S32x16x512.size inb_S32x16x512_S32x16x512_0_0_0).emb j = j)
  refine Shape.idx3_ext ?_ ?_ ?_
  · rw [Rect.emb_apply]; show 0 + 1 * (j 0).val = (j 0).val; omega
  · rw [Rect.emb_apply]; show 0 + 1 * (j 1).val = (j 1).val; omega
  · rw [Rect.emb_apply]; show 0 + 1 * (j 2).val = (j 2).val; omega

/-! ## The semaphores -/

/-- A semaphore of the kernel's own: the two phases' send semaphores, then the two phases' receive semaphores. -/
abbrev Slot := (Fin 31 ⊕ Fin 31) ⊕ (Fin 32 ⊕ Fin 32)

/-- Which DMA semaphore it is. -/
def enc : Slot → DmaSem sig
  | .inl (.inl r) => ⟨6 + r.val, by have := r.isLt; show _ < 132; omega⟩
  | .inl (.inr r) => ⟨37 + r.val, by have := r.isLt; show _ < 132; omega⟩
  | .inr (.inl p) => ⟨68 + p.val, by have := p.isLt; show _ < 132; omega⟩
  | .inr (.inr p) => ⟨100 + p.val, by have := p.isLt; show _ < 132; omega⟩

/-- Which of the kernel's own semaphores a DMA semaphore is. -/
def dec (k : DmaSem sig) : Option Slot :=
  if h0 : k.val < 6 then none
  else if h1 : k.val < 37 then some (.inl (.inl ⟨k.val - 6, by omega⟩))
  else if h2 : k.val < 68 then some (.inl (.inr ⟨k.val - 37, by omega⟩))
  else if h3 : k.val < 100 then some (.inr (.inl ⟨k.val - 68, by omega⟩))
  else some (.inr (.inr ⟨k.val - 100, by have : k.val < 132 := k.isLt; omega⟩))

/-- A semaphore's number tells its slot. -/
theorem dec_enc : ∀ s, dec (enc s) = some s := by decide +kernel

/-- Different slots have different numbers. -/
theorem enc_inj : Function.Injective enc := fun a b h => Option.some.inj ((dec_enc a).symm.trans ((congrArg dec h).trans (dec_enc b)))

/-- The number of a first copy's send semaphore. -/
theorem send1_eq : ∀ r : Fin 31, sendAt cc0_scratch1 ![r.val] (send1_inb r) = enc (.inl (.inl r)) := by decide +kernel
/-- The number of a second copy's send semaphore. -/
theorem send2_eq : ∀ r : Fin 31, sendAt cc0_scratch1 ![31 + r.val] (send2_inb r) = enc (.inl (.inr r)) := by decide +kernel

/-- Every receive semaphore lies in its array. -/
theorem one_inb (p : Fin 32) : ∀ a, (![p.val] : Fin 1 → Nat) a + S1.size a ≤ S32.size a := by
  revert p; decide

/-- The number of a first copy's receive semaphore. -/
theorem rs_eq : ∀ p : Fin 32, semAt cc0_scratch2 ![p.val] (one_inb p) = enc (.inr (.inl p)) := by decide +kernel
/-- The number of a second copy's receive semaphore. -/
theorem ag_eq : ∀ p : Fin 32, semAt cc0_scratch3 ![p.val] (one_inb p) = enc (.inr (.inr p)) := by decide +kernel

/-! ## The addresses in closed form -/

/-- A chunk depends on its offsets only. -/
theorem chunkAt_congr (a : Memref sig .tc .vmem S32x16x512 .f32) {off off' : Fin 3 → Nat} (e : off = off')
    (h : ∀ a, off a + S1x16x512.size a ≤ S32x16x512.size a) (h' : ∀ a, off' a + S1x16x512.size a ≤ S32x16x512.size a) :
    chunkAt a off h = chunkAt a off' h' := by subst e; rfl

/-- A semaphore depends on its offset only. -/
theorem semAt_congr (a : DmaSems sig S32) {off off' : Fin 1 → Nat} (e : off = off')
    (h : ∀ a, off a + S1.size a ≤ S32.size a) (h' : ∀ a, off' a + S1.size a ≤ S32.size a) :
    semAt a off h = semAt a off' h' := by subst e; rfl

/-- A copy depends on its source, place, device and semaphores only. -/
theorem sendChunk_congr {src src' dst dst' : Memref sig .tc .vmem S16x512 .f32} {p p' : Dev nD} {sS sS' sR sR' : DmaSem sig}
    (e₁ : src = src') (e₂ : dst = dst') (e₃ : p = p') (e₄ : sS = sS') (e₅ : sR = sR')
    (h₁ : src.view.WordExact) (h₂ : dst.view.WordExact) (h₁' : src'.view.WordExact) (h₂' : dst'.view.WordExact) :
    sendChunk (F := F) src dst p sS sR h₁ h₂ = sendChunk src' dst' p' sS' sR' h₁' h₂' := by
  subst e₁; subst e₂; subst e₃; subst e₄; subst e₅; rfl

/-- The wait for a copy between two chunks. -/
def waitChunk (s : DmaSem sig) (src dst : Memref sig .tc .vmem S16x512 .f32) (h₁ : src.view.WordExact) (h₂ : dst.view.WordExact) :
    Code F PUnit := Prog.lift (.waitDma2 s src dst h₁ h₂)

/-- A wait depends on its semaphore and its chunks only. -/
theorem waitChunk_congr {s s' : DmaSem sig} {src src' dst dst' : Memref sig .tc .vmem S16x512 .f32}
    (e₀ : s = s') (e₁ : src = src') (e₂ : dst = dst')
    (h₁ : src.view.WordExact) (h₂ : dst.view.WordExact) (h₁' : src'.view.WordExact) (h₂' : dst'.view.WordExact) :
    waitChunk (F := F) s src dst h₁ h₂ = waitChunk s' src' dst' h₁' h₂' := by
  subst e₀; subst e₁; subst e₂; rfl

/-- A chunk is a whole number of words. -/
theorem row_exact (a : Memref sig .tc .vmem S32x16x512 .f32) (p : Fin 32) : (row a p).view.WordExact :=
  (View.wordExact_bits rfl).reshape _ _

/-- Loops with equal steps are equal. -/
theorem loop_congr {α : Type} {l : List α} {f g : α → Code F PUnit} (h : ∀ a ∈ l, f a = g a) : loop l f = loop l g := by
  induction l with
  | nil => rfl
  | cons a l ih =>
    unfold loop
    rw [h a List.mem_cons_self, ih fun b hb => h b (List.mem_cons_of_mem _ hb)]

/-- A loop over a mapped list. -/
theorem loop_map {α β : Type} (g : α → β) (l : List α) (f : β → Code F PUnit) : loop (l.map g) f = loop l (fun a => f (g a)) := by
  induction l with
  | nil => rfl
  | cons a l ih => unfold List.map; unfold loop; rw [ih]

/-! ## The communication, its addresses in closed form -/

/-- Signal every peer. -/
def signals (c : Dev nD) : Code F PUnit := loop all31 fun r => semSignalWord (pe c r) barSem 1#32

/-- Send every peer its chunk. -/
def rsSendsC (c : Dev nD) : Code F PUnit :=
  loop all31 fun r => sendChunk (row outM (pe c r)) (row rsM c) (pe c r) (enc (.inl (.inl r))) (enc (.inr (.inl c)))
    (row_exact _ _) (row_exact _ _)

/-- Copy the own chunk next to the incoming ones. -/
def ownPartC (c : Dev nD) : Code F PUnit :=
  (loadChunk outM ![c.val, 0, 0] (row_inb c)).bind fun v => putChunk rsM ![c.val, 0, 0] (row_inb c) (k0_pay58 v)

/-- Wait for the peers' partial chunks. -/
def rsWaitsC (c : Dev nD) : Code F PUnit :=
  loop all31 fun r => waitChunk (enc (.inr (.inl (pe c r)))) (row rsM (pe c r)) (row rsM (pe c r)) (row_exact _ _) (row_exact _ _)

/-- Sum the gathered chunks. -/
def reducePartC (c : Dev nD) : Code F PUnit :=
  (Prog.lift (.load rsM (Rect.unit (s := S32x16x512) ![0, 0, 0] S32x16x512.size inb_S32x16x512_S32x16x512_0_0_0).toLoadRect
    (View.loadsAt_vmem h_S32x16x512))).bind fun v => putChunk outM ![c.val, 0, 0] (row_inb c) (k0_pay59 v)

/-- Send the reduced chunk to every peer. -/
def agSendsC (c : Dev nD) : Code F PUnit :=
  loop all31 fun r => sendChunk (row outM c) (row outM c) (pe c r) (enc (.inl (.inr r))) (enc (.inr (.inr c)))
    (row_exact _ _) (row_exact _ _)

/-- Wait for the peers' reduced chunks. -/
def agWaitsC (c : Dev nD) : Code F PUnit :=
  loop all31 fun r => waitChunk (enc (.inr (.inr (pe c r)))) (row outM (pe c r)) (row outM (pe c r)) (row_exact _ _) (row_exact _ _)

/-- Wait for the first phase's copies to have left. -/
def sendWaits1C (c : Dev nD) : Code F PUnit :=
  loop all31 fun r => waitChunk (enc (.inl (.inl r))) (row rsM c) (row outM (pe c r)) (row_exact _ _) (row_exact _ _)

/-- Wait for the second phase's copies to have left. -/
def sendWaits2C (c : Dev nD) : Code F PUnit :=
  loop all31 fun r => waitChunk (enc (.inl (.inr r))) (row outM c) (row outM c) (row_exact _ _) (row_exact _ _)

/-- The communication of device `c`. -/
def talkC (c : Dev nD) : Code F PUnit :=
  (signals c).bind fun _ => (semWaitWord barSem 31#32 : Code F PUnit).bind fun _ => (rsSendsC c).bind fun _ => (ownPartC c).bind fun _ =>
  (rsWaitsC c).bind fun _ => (reducePartC c).bind fun _ => (agSendsC c).bind fun _ => (agWaitsC c).bind fun _ =>
  (sendWaits1C c).bind fun _ => sendWaits2C c

/-- A chunk's write depends on its offsets only. -/
theorem putChunk_congr (a : Memref sig .tc .vmem S32x16x512 .f32) {off off' : Fin 3 → Nat} (e : off = off')
    (h : ∀ a, off a + S1x16x512.size a ≤ S32x16x512.size a) (h' : ∀ a, off' a + S1x16x512.size a ≤ S32x16x512.size a)
    (v : FVec F S1x16x512 .f32) : putChunk a off h v = putChunk a off' h' v := by subst e; rfl

/-- A chunk's load depends on its offsets only. -/
theorem loadChunk_congr (a : Memref sig .tc .vmem S32x16x512 .f32) {off off' : Fin 3 → Nat} (e : off = off')
    (h : ∀ a, off a + S1x16x512.size a ≤ S32x16x512.size a) (h' : ∀ a, off' a + S1x16x512.size a ≤ S32x16x512.size a) :
    loadChunk (F := F) a off h = loadChunk a off' h' := by subst e; rfl

/-- The first copies, by peer. -/
theorem rsSends_eq (c : Dev nD) : rsSends (F := F) outM rsM cc0_scratch1 cc0_scratch2 rsTab c = rsSendsC c := by
  unfold rsSends rsSendsC
  rw [rsTab_pe, ← peTab_fst, loop_map]
  refine loop_congr fun e he => sendChunk_congr (chunkAt_congr _ (off3_eq c e.1) _ _) (chunkAt_congr _ (k0_off2_eq c) _ _) (peTab_eq c e he)
    (send1_eq e.1) ((semAt_congr _ (k0_off1_eq c) _ _).trans (rs_eq c)) _ _ _ _

/-- The second copies, by peer. -/
theorem agSends_eq (c : Dev nD) : agSends (F := F) outM cc0_scratch1 cc0_scratch3 agTab c = agSendsC c := by
  unfold agSends agSendsC
  rw [agTab_pe, ← peTab_fst, loop_map]
  refine loop_congr fun e he => sendChunk_congr (chunkAt_congr _ (k0_off2_eq c) _ _) (chunkAt_congr _ (k0_off2_eq c) _ _) (peTab_eq c e he)
    (send2_eq e.1) ((semAt_congr _ (k0_off1_eq c) _ _).trans (ag_eq c)) _ _ _ _

/-- The barrier's signals, by peer, then its wait. -/
theorem signals_eq (c : Dev nD) : barrierPart (F := F) sigTab c = (signals c).bind fun _ => semWaitWord barSem 31#32 := by
  unfold barrierPart signals
  rw [sigTab_pe, ← peTab_fst, loop_map]
  exact congrArg (fun p : Code F PUnit => p.bind fun _ => semWaitWord barSem 31#32)
    (loop_congr fun e he => congrArg (fun d => semSignalWord d barSem 1#32) (peTab_eq c e he))

/-- The waits for the first copies' arrivals, by peer. -/
theorem rsWaits_eq (c : Dev nD) : recvWaits (F := F) rsM cc0_scratch2 c = rsWaitsC c :=
  loop_congr fun r _ => waitChunk_congr ((semAt_congr _ (off5_eq c r) _ _).trans (rs_eq _)) (chunkAt_congr _ (off3_eq c r) _ _)
    (chunkAt_congr _ (off3_eq c r) _ _) _ _ _ _

/-- The waits for the second copies' arrivals, by peer. -/
theorem agWaits_eq (c : Dev nD) : recvWaits (F := F) outM cc0_scratch3 c = agWaitsC c :=
  loop_congr fun r _ => waitChunk_congr ((semAt_congr _ (off5_eq c r) _ _).trans (ag_eq _)) (chunkAt_congr _ (off3_eq c r) _ _)
    (chunkAt_congr _ (off3_eq c r) _ _) _ _ _ _

/-- The waits for the first copies' sends, by peer. -/
theorem sendWaits1_eq (c : Dev nD) : sendWaits1 (F := F) outM rsM cc0_scratch1 c = sendWaits1C c :=
  loop_congr fun r _ => waitChunk_congr (send1_eq r) (chunkAt_congr _ (k0_off2_eq c) _ _) (chunkAt_congr _ (off3_eq c r) _ _) _ _ _ _

/-- The waits for the second copies' sends, by peer. -/
theorem sendWaits2_eq (c : Dev nD) : sendWaits2 (F := F) outM cc0_scratch1 c = sendWaits2C c :=
  loop_congr fun r _ => waitChunk_congr (send2_eq r) (chunkAt_congr _ (k0_off2_eq c) _ _) (chunkAt_congr _ (k0_off2_eq c) _ _) _ _ _ _

/-- The device's own chunk, moved to its receive buffer. -/
theorem ownPart_eq (c : Dev nD) : ownPart (F := F) outM rsM c = ownPartC c := by
  unfold ownPart ownPartC
  rw [loadChunk_congr outM (k0_off4_eq c) _ (row_inb c)]
  congr 1; funext v
  exact putChunk_congr rsM (k0_off4_eq c) _ _ _

/-- The sum of the received chunks, written to the output buffer. -/
theorem reducePart_eq (c : Dev nD) : reducePart (F := F) outM rsM c = reducePartC c := by
  unfold reducePart reducePartC
  congr 1; funext v
  exact putChunk_congr outM (k0_off4_eq c) _ _ _

/-- Sequencing is associative. -/
theorem Prog_bind_assoc' {α β γ : Type} (p : Code F α) (f : α → Code F β) (g : β → Code F γ) :
    (p.bind f).bind g = p.bind fun x => (f x).bind g := by
  induction p with
  | ret a => rfl
  | op e k ih => exact congrArg _ (funext fun x => ih x)

/-- The communication of the printed body is the one in closed form. -/
theorem talk_eq (c : Dev nD) : talkPart (F := F) outM rsM cc0_scratch1 cc0_scratch2 cc0_scratch3 c = talkC c := by
  unfold talkPart talkC
  rw [signals_eq, rsSends_eq, ownPart_eq, rsWaits_eq, reducePart_eq, agSends_eq, agWaits_eq, sendWaits1_eq, sendWaits2_eq, Prog_bind_assoc']

end Cert.KernelIdeal.Hand

end
-- ==== Proof.Protocol.lean ====
/- The protocol of the communication.

   Every device first signals every peer that its two buffers may be written, and waits for the thirty-one
   signals. It then copies to each peer that peer's chunk of its partial result, into its own place of the
   peer's receive buffer. The copy carries along the chunk it was read from: the peer may overwrite it. Once a
   device has the thirty-one chunks and its own, it sums them, and copies the sum into every peer's output
   buffer, over the chunk it was sent.

   A signal hands over the places of the receive buffer; a first copy hands over the place of the second. -/
module

public import proofs.«01_k».proof.Proof.Views
public import proofs.«01_k».proof.Proof.Gen.KernelIdeal.Regions
public import Idealize.ShloMosaic.Lib.Pipeline.Regions
public import Idealize.ShloMosaic.Lib.Pipeline.BigSepL
public import Idealize.ShloMosaic.Lib.Rounds
public import Idealize.ShloMosaic.Lib.Ring
public import Idealize.ShloMosaic.Lib.Ring.Tabled

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen
open Idealize.ShloMosaic.Ring (sharesN pointsTo_nths)

variable {F : FTy → Type} [FloatOps F]

/-- The ghost state: the staging pipeline's rounds and the protocol's, whose duties are told apart by a peer's offset. -/
abbrev UU : Type := UR sig nD τ × URounds (GSem nD τ sig) (Fin 31)

local notation "𝕄" => MT nD τ sig Unit (Elt F) ℕ UU ℕ

/-- Where the staging pipeline's ghost state lies. -/
abbrev EP : Emb (UR sig nD τ) (MT nD τ sig Unit (Elt F) ℕ UU ℕ) := embL
/-- Where the protocol's ghost state lies. -/
abbrev ER : Emb (URounds (GSem nD τ sig) (Fin 31)) (MT nD τ sig Unit (Elt F) ℕ UU ℕ) := embR

/-! ## Cells, contents, places -/

/-- A device's barrier semaphore. -/
abbrev barCell (c : Dev nD) : GSem nD τ sig := ((c : Thread nD τ), .reg barSem)
/-- The kernel's own semaphores. -/
abbrev osem (s : Slot) : SemLoc sig := .dma (enc s)
/-- One of a device's own semaphores. -/
abbrev slotCell (c : Dev nD) (s : Slot) : GSem nD τ sig := ((c : Thread nD τ), osem s)
/-- The send semaphore of a device's first copy at an offset. -/
abbrev send1Cell (c : Dev nD) (r : Fin 31) : GSem nD τ sig := slotCell c (.inl (.inl r))
/-- The send semaphore of a device's second copy at an offset. -/
abbrev send2Cell (c : Dev nD) (r : Fin 31) : GSem nD τ sig := slotCell c (.inl (.inr r))
/-- The receive semaphore of a device for a peer's first copy. -/
abbrev rsCell (c : Dev nD) (p : Fin 32) : GSem nD τ sig := slotCell c (.inr (.inl p))
/-- The receive semaphore of a device for a peer's second copy. -/
abbrev agCell (c : Dev nD) (p : Fin 32) : GSem nD τ sig := slotCell c (.inr (.inr p))

/-- What a chunk's copy credits. -/
abbrev N : ℕ := (row rsM 0).view.dmaCredit
/-- A copy credits something. -/
theorem N_pos : 0 < N := View.dmaCredit_pos _ (by decide)
/-- A copy into any place of a receive buffer credits the same. -/
theorem N_rs (p : Fin 32) : (row rsM p).view.dmaCredit = N := rfl
/-- A copy into any place of an output buffer credits the same. -/
theorem N_out (p : Fin 32) : (row outM p).view.dmaCredit = N := rfl

/-- Chunk `p` of device `c`'s output buffer. -/
abbrev outPt (c : Dev nD) (p : Fin 32) (q : PosShare TreeShare)
    (f : Buf (Elt F) ((row outM p).view.loc (c : Thread nD τ))) : sProp 𝕄 :=
  (row outM p).view.loc (c : Thread nD τ) ↦[(row outM p).view.set]{q} f
/-- Chunk `p` of device `c`'s receive buffer. -/
abbrev rsPt (c : Dev nD) (p : Fin 32) (f : Buf (Elt F) ((row rsM p).view.loc (c : Thread nD τ))) : sProp 𝕄 :=
  (row rsM p).view.loc (c : Thread nD τ) ↦[(row rsM p).view.set]{fullShare} f

/-- A chunk of an output buffer may be paid into a semaphore. -/
instance outPt_storable (c : Dev nD) (p : Fin 32) (q : PosShare TreeShare)
    (f : Buf (Elt F) ((row outM p).view.loc (c : Thread nD τ))) : BI.Storable (upEmb : UEmb _ 𝕄) (outPt c p q f) := by
  infer_instance
/-- A chunk of a receive buffer may be paid into a semaphore. -/
instance rsPt_storable (c : Dev nD) (p : Fin 32)
    (f : Buf (Elt F) ((row rsM p).view.loc (c : Thread nD τ))) : BI.Storable (upEmb : UEmb _ 𝕄) (rsPt c p f) := by
  infer_instance

/-- Only the chunk's own entries matter (output buffer). -/
theorem outPt_congr (c : Dev nD) (p : Fin 32) (q : PosShare TreeShare) {f g : Big F} (h : ∀ i ∈ rowSet p, f i = g i) :
    (outPt c p q f : sProp 𝕄) = outPt c p q g :=
  pointsTo_congr fun i hi => h i (by rwa [out_row_set p] at hi)

/-- Only the chunk's own entries matter (receive buffer). -/
theorem rsPt_congr (c : Dev nD) (p : Fin 32) {f g : Big F} (h : ∀ i ∈ rowSet p, f i = g i) :
    (rsPt c p f : sProp 𝕄) = rsPt c p g :=
  pointsTo_congr fun i hi => h i (by rwa [rs_row_set p] at hi)

variable (P : Dev nD → Big F)

/-- The receive buffer of device `c`, complete: in place `p`, chunk `c` of device `p`'s partial result. -/
def RSb (c : Dev nD) : Big F := fun i => P (⟨(i 0).val, (i 0).isLt⟩ : Fin 32) (at3 c (i 1) (i 2))

/-- The output buffer, complete: in place `p`, the sum device `p` made. -/
def AG : Big F := fun i => k0_pay59 (RSb P (⟨(i 0).val, (i 0).isLt⟩ : Fin 32)) (ix3 (0 : Fin 1) (i 1) (i 2))

/-- The complete receive buffer at an entry of place `p`. -/
theorem RSb_row (c p : Fin 32) (i : S32x16x512.Idx) (hi : i ∈ rowSet p) : RSb P c i = P p (at3 c (i 1) (i 2)) := by
  have e : (⟨(i 0).val, (i 0).isLt⟩ : Fin 32) = p := Fin.ext (mem_rowSet.mp hi)
  unfold RSb; rw [e]

/-- The complete output buffer at an entry of place `p`. -/
theorem AG_row (p : Fin 32) (i : S32x16x512.Idx) (hi : i ∈ rowSet p) :
    AG P i = k0_pay59 (RSb P p) (ix3 (0 : Fin 1) (i 1) (i 2)) := by
  have e : (⟨(i 0).val, (i 0).isLt⟩ : Fin 32) = p := Fin.ext (mem_rowSet.mp hi)
  unfold AG; rw [e]

/-- The part of the reduced chunk lent to the copy to peer `r`. -/
abbrev shr (r : Fin 31) : PosShare TreeShare := sharesN 31 fullShare r

/-! ## The schedule -/

/-- Paid to device `c`'s barrier cell by the peer at offset `s`: that peer's place for `c`'s chunk, and that its two
    receive cells for `c` are open. -/
def barPay (c : Dev nD) (s : Fin 31) : sProp 𝕄 :=
  iprop((∃ f, rsPt (pe c s) c f) ∗ reached ER (rsCell (pe c s) c) 0 ∗ reached ER (agCell (pe c s) c) 0)

/-- Paid to device `c`'s own semaphores. A first copy brings the chunk and the place it was read from; a second copy
    brings the sum, and gives its source back to the sender. -/
def slotPay (c : Dev nD) : Slot → sProp 𝕄
  | .inl (.inl _) => iprop(emp)
  | .inl (.inr r) => outPt c c (shr r) (AG P)
  | .inr (.inl p) => iprop(rsPt c p (RSb P c) ∗ outPt p c fullShare (P p))
  | .inr (.inr p) => outPt c p fullShare (AG P)

/-- One payment on each, but none on the receive semaphores a device has for itself. -/
def slotDuties (c : Dev nD) : Slot → Finset (Fin 31)
  | .inl _ => {0}
  | .inr (.inl p) => if p = c then ∅ else {0}
  | .inr (.inr p) => if p = c then ∅ else {0}

/-- One round: thirty-one signals on a barrier cell, one copy on each of the kernel's own cells. -/
def sched : Rounds.Schedule (GSem nD τ sig) (Fin 31) 𝕄 where
  duties g r :=
    if r = 0 ∧ g.1.2 = .tc then
      match g.2 with
      | .reg _ => Finset.univ
      | .dma k => match dec k with
        | none => ∅
        | some s => slotDuties g.1.1 s
    else ∅
  unitless _ := False
  amount g _ _ := match g.2 with
    | .reg _ => 1
    | .dma _ => N
  payload g _ d := match g.2 with
    | .reg _ => barPay g.1.1 d
    | .dma k => match dec k with
      | none => iprop(emp)
      | some s => slotPay P g.1.1 s
  amount_pos g _ _ _ := by
    cases g.2 with
    | reg _ => exact Nat.one_pos
    | dma _ => exact N_pos

/-- What is paid to a device's own semaphores may be stored. -/
instance slotPay_storable (c : Dev nD) (s : Slot) : BI.Storable (upEmb : UEmb _ 𝕄) (slotPay P c s) := by
  rcases s with (r | r) | (p | p)
  · show BI.Storable upEmb (iprop(emp) : sProp 𝕄); infer_instance
  · show BI.Storable upEmb (outPt c c (shr r) (AG P)); exact outPt_storable ..
  · show BI.Storable upEmb (iprop(rsPt c p (RSb P c) ∗ outPt p c fullShare (P p)) : sProp 𝕄)
    haveI := rsPt_storable c p (RSb P c)
    haveI := outPt_storable p c fullShare (P p)
    infer_instance
  · show BI.Storable upEmb (outPt c p fullShare (AG P)); exact outPt_storable ..

/-- What is paid to a barrier cell may be stored. -/
instance barPay_storable (c : Dev nD) (s : Fin 31) : BI.Storable (upEmb : UEmb _ 𝕄) (barPay (F := F) c s) := by
  unfold barPay; infer_instance

/-- Every payment of the schedule may be stored. -/
instance sched_payload_storable (g : GSem nD τ sig) (r : ℕ) (d : Fin 31) :
    BI.Storable (upEmb : UEmb _ 𝕄) ((sched P).payload g r d) := by
  obtain ⟨t, sm⟩ := g
  cases sm with
  | reg b => show BI.Storable upEmb (barPay t.1 d); infer_instance
  | dma k =>
    show BI.Storable upEmb (match dec k with | none => iprop(emp) | some s => slotPay P t.1 s)
    cases dec k with
    | none => show BI.Storable upEmb (iprop(emp) : sProp 𝕄); infer_instance
    | some s => show BI.Storable upEmb (slotPay P t.1 s); infer_instance

section Sched
variable (c : Dev nD)

/-- A barrier cell expects a payment of every peer. -/
theorem duties_bar : (sched P).duties (barCell c) 0 = Finset.univ := by
  dsimp only [sched]; exact if_pos ⟨rfl, rfl⟩

/-- A device's own semaphore expects at most one payment. -/
theorem duties_slot (s : Slot) : (sched P).duties (slotCell c s) 0 = slotDuties c s := by
  dsimp only [sched]; rw [if_pos ⟨rfl, rfl⟩, dec_enc]

/-- Nothing is paid after the first round. -/
theorem duties_later (g : GSem nD τ sig) : ∀ r, 1 ≤ r → (sched P).duties g r = ∅ :=
  fun r hr => by dsimp only [sched]; rw [if_neg (fun h => by omega)]

/-- A barrier payment is one unit. -/
theorem amount_bar (u : Fin 31) : (sched P).amount (barCell c) 0 u = 1 := rfl
/-- A copy's payment is the chunk's credit. -/
theorem amount_slot (s : Slot) (u : Fin 31) : (sched P).amount (slotCell c s) 0 u = N := rfl

/-- What a barrier payment carries. -/
theorem payload_bar (u : Fin 31) : (sched P).payload (barCell c) 0 u = barPay c u := rfl
/-- What a copy's payment carries. -/
theorem payload_slot (s : Slot) (u : Fin 31) : (sched P).payload (slotCell c s) 0 u = slotPay P c s := by
  show (match dec (enc s) with | none => iprop(emp) | some s => slotPay P c s) = _
  rw [dec_enc]

/-- The receive semaphore for a peer's first copy expects one payment. -/
theorem slotDuties_rs {p : Fin 32} (h : p ≠ c) : slotDuties c (.inr (.inl p)) = {0} := if_neg h
/-- The receive semaphore for a peer's second copy expects one payment. -/
theorem slotDuties_ag {p : Fin 32} (h : p ≠ c) : slotDuties c (.inr (.inr p)) = {0} := if_neg h

/-- A barrier cell expects 31 units. -/
theorem expect_bar : (sched P).expect (barCell c) 0 = 31 := by
  unfold Schedule.expect Schedule.amountOf
  rw [duties_bar, Finset.sum_congr rfl fun u _ => amount_bar P c u, Finset.sum_const, Finset.card_univ]; rfl

/-- A semaphore with one payment expects a chunk's credit. -/
theorem expect_slot (s : Slot) (h : slotDuties c s = {0}) : (sched P).expect (slotCell c s) 0 = N := by
  unfold Schedule.expect Schedule.amountOf
  rw [duties_slot, h, Finset.sum_singleton, amount_slot]

/-- All the barrier payments, as a list over the peers. -/
theorem rest_bar : bigSep ((sched P).duties (barCell c) 0 \ ∅) (fun u => (sched P).payload (barCell c) 0 u)
    = bigSepL all31 fun u => (barPay c u : sProp 𝕄) := by
  rw [Finset.sdiff_empty, duties_bar, bigSep_univ_eq_bigSepL all31 (by decide) (by decide)]
  rfl

/-- The single payment of one of a device's own semaphores. -/
theorem rest_slot (s : Slot) (h : slotDuties c s = {0}) :
    bigSep ((sched P).duties (slotCell c s) 0 \ ∅) (fun u => (sched P).payload (slotCell c s) 0 u) = slotPay P c s := by
  rw [Finset.sdiff_empty, duties_slot, h, bigSep_singleton, payload_slot]

end Sched

/-! ## What a device owes; the levels -/

/-- The barrier units it has still to pay. -/
def tB (c : Dev nD) (l : List (Fin 31)) : CellTallies nD τ sig Unit := (l.map fun r => tallyAt (barCell (pe c r)) () 1).sum
/-- The first copies it has still to make. -/
def tR (c : Dev nD) (l : List (Fin 31)) : CellTallies nD τ sig Unit := (l.map fun r => tallyAt (rsCell (pe c r) c) () N).sum
/-- The second copies it has still to make. -/
def tA (c : Dev nD) (l : List (Fin 31)) : CellTallies nD τ sig Unit := (l.map fun r => tallyAt (agCell (pe c r) c) () N).sum

/-- All a device owes at launch. -/
def O₀ (c : Dev nD) : CellTallies nD τ sig Unit := tB c all31 + (tR c all31 + tA c all31)

/-- The levels' labels: one on every semaphore of a TensorCore. -/
def L (g : GSem nD τ sig) : Finset Unit := if g.1.2 = .tc then {()} else ∅

/-- Barrier cells at 1, the first copies' receive cells at 2, the second copies' at 3, the rest at 0. -/
def lv (g : GSem nD τ sig) (_ : Unit) : ℕ := match g.2 with
  | .reg _ => 1
  | .dma k => match dec k with
    | some (.inr (.inl _)) => 2
    | some (.inr (.inr _)) => 3
    | _ => 0

/-- No other core's semaphores carry a label. -/
theorem L_of_ne (g : GSem nD τ sig) (h : g.1.2 ≠ .tc) : L g = ∅ := if_neg h
/-- Every semaphore of a TensorCore carries the label. -/
theorem L_tc (c : Dev nD) (sm : SemLoc sig) : () ∈ L ((c : Thread nD τ), sm) := by
  unfold L; rw [if_pos rfl]; exact Finset.mem_singleton_self _

/-- The barrier's level. -/
theorem lv_bar (c : Dev nD) : lv (barCell c) () = 1 := rfl
/-- The level of the first copies' receive semaphores. -/
theorem lv_rs (c : Dev nD) (p : Fin 32) : lv (rsCell c p) () = 2 := by
  show (match dec (enc (.inr (.inl p))) with | some (.inr (.inl _)) => 2 | some (.inr (.inr _)) => 3 | _ => 0) = 2
  rw [dec_enc]
/-- The level of the second copies' receive semaphores. -/
theorem lv_ag (c : Dev nD) (p : Fin 32) : lv (agCell c p) () = 3 := by
  show (match dec (enc (.inr (.inr p))) with | some (.inr (.inl _)) => 2 | some (.inr (.inr _)) => 3 | _ => 0) = 3
  rw [dec_enc]

/-- A cell a sum of single payments pays to is one of them. -/
theorem lsum_pos {f : Fin 31 → GSem nD τ sig} {n : ℕ} {g : GSem nD τ sig} {u : Unit} : ∀ {l : List (Fin 31)},
    0 < ((l.map fun r => (tallyAt (f r) () n : CellTallies nD τ sig Unit)).sum) g u → ∃ r, g = f r
  | [], h => absurd h (Nat.lt_irrefl 0)
  | r :: l, h => by
    rw [List.map_cons, List.sum_cons, Pi.add_apply, Finsupp.add_apply] at h
    rcases Nat.add_pos_iff_pos_or_pos.mp h with h | h
    · rw [tallyAt_apply] at h
      split at h
      · next hg => exact ⟨r, hg.1⟩
      · exact absurd h (Nat.lt_irrefl 0)
    · exact lsum_pos h

/-- A cell owed by a sum is owed by one of its terms. -/
theorem add_pos_or {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

/-- The barrier units owed, the next one apart. -/
theorem tB_cons (c : Dev nD) (r : Fin 31) (l : List (Fin 31)) (O : CellTallies nD τ sig Unit) :
    tB c (r :: l) + O = (tB c l + O) + tallyAt (barCell (pe c r)) () 1 := by
  unfold tB; rw [List.map_cons, List.sum_cons, add_comm (tallyAt _ _ _), add_right_comm]
/-- The first copies owed, the next one apart. -/
theorem tR_cons (c : Dev nD) (r : Fin 31) (l : List (Fin 31)) (O : CellTallies nD τ sig Unit) :
    tR c (r :: l) + O = (tR c l + O) + tallyAt (rsCell (pe c r) c) () N := by
  unfold tR; rw [List.map_cons, List.sum_cons, add_comm (tallyAt _ _ _), add_right_comm]
/-- The second copies owed, the next one apart. -/
theorem tA_cons (c : Dev nD) (r : Fin 31) (l : List (Fin 31)) :
    tA c (r :: l) = tA c l + tallyAt (agCell (pe c r) c) () N := by
  unfold tA; rw [List.map_cons, List.sum_cons, add_comm (tallyAt _ _ _)]

/-- The barrier is waited for before any copy. -/
theorem mayWait_bar (c : Dev nD) :
    (levAts L lv : sProp 𝕄) ⊢ MayWait (c : Thread nD τ) (.reg barSem) () (tR c all31 + tA c all31) :=
  MayOwe.of_cut (L := L) (lev := lv) 1 (fun p hp => by rw [Finset.mem_singleton.mp hp]; exact L_tc _ _)
    (fun g u hg => by
      rcases add_pos_or hg with h | h
      · obtain ⟨r, rfl⟩ := lsum_pos h; exact L_tc _ _
      · obtain ⟨r, rfl⟩ := lsum_pos h; exact L_tc _ _)
    (fun p hp => by rw [Finset.mem_singleton.mp hp]; exact le_rfl)
    (fun g u hg => by
      rcases add_pos_or hg with h | h
      · obtain ⟨r, rfl⟩ := lsum_pos h; rw [show u = () from rfl, lv_rs]; decide
      · obtain ⟨r, rfl⟩ := lsum_pos h; rw [show u = () from rfl, lv_ag]; decide)

/-- The first copies are waited for before any second copy. -/
theorem mayWait_rs (c : Dev nD) (p : Fin 32) :
    (levAts L lv : sProp 𝕄) ⊢ MayWait (c : Thread nD τ) (osem (.inr (.inl p))) () (tA c all31) :=
  MayOwe.of_cut (L := L) (lev := lv) 2 (fun p hp => by rw [Finset.mem_singleton.mp hp]; exact L_tc _ _)
    (fun g u hg => by obtain ⟨r, rfl⟩ := lsum_pos hg; exact L_tc _ _)
    (fun q hq => by rw [Finset.mem_singleton.mp hq]; exact (lv_rs c p).le)
    (fun g u hg => by obtain ⟨r, rfl⟩ := lsum_pos hg; rw [show u = () from rfl, lv_ag]; decide)

/-! ## The protocol's ghost state -/

/-- The barrier cells, by device. -/
def barEmb : Dev nD ↪ GSem nD τ sig := ⟨fun c => barCell c, fun _ _ h => congrArg (fun g : GSem nD τ sig => g.1.1) h⟩

/-- Different slots are different semaphores. -/
theorem osem_inj : Function.Injective osem := fun a b h => enc_inj (SemLoc.dma.inj h)

/-- The kernels' own cells, by device and slot. -/
def slotEmb : Dev nD × Slot ↪ GSem nD τ sig :=
  ⟨fun ck => slotCell ck.1 ck.2, fun _ _ h =>
    Prod.ext (congrArg (fun g : GSem nD τ sig => g.1.1) h) (osem_inj (congrArg Prod.snd h))⟩

/-- The barrier cells, and the kernels' own. -/
abbrev barCells : Finset (GSem nD τ sig) := Finset.univ.map barEmb
/-- The kernels' own cells. -/
abbrev slotCells : Finset (GSem nD τ sig) := Finset.univ.map slotEmb

/-- A barrier cell is one of the protocol's cells. -/
theorem bar_mem (c : Dev nD) : barCell c ∈ (barCells ∪ slotCells : Finset (GSem nD τ sig)) :=
  Finset.mem_union_left _ (Finset.mem_map_of_mem barEmb (Finset.mem_univ c))
/-- A kernel's own cell is one of the protocol's cells. -/
theorem slot_mem (c : Dev nD) (s : Slot) : slotCell c s ∈ (barCells ∪ slotCells : Finset (GSem nD τ sig)) :=
  Finset.mem_union_right _ (Finset.mem_map_of_mem slotEmb (Finset.mem_univ (c, s)))

/-- What every device may consult: the invariants, and that the barrier cells are open. -/
def records (κ : GSem nD τ sig → ℕ) : sProp 𝕄 :=
  iprop((bigSep (barCells ∪ slotCells) fun g => cellInv ER (sched P) (κ g) g) ∗ bigSep barCells fun g => reached ER g 0)

/-- What every device may consult can be consulted again and again. -/
instance records_persistent (κ : GSem nD τ sig → ℕ) : BI.Persistent (records P κ) := by unfold records; infer_instance

/-- The invariant of one of the protocol's cells. -/
theorem inv_mem (κ : GSem nD τ sig → ℕ) {g : GSem nD τ sig} (hg : g ∈ (barCells ∪ slotCells : Finset (GSem nD τ sig))) :
    (bigSep (barCells ∪ slotCells) fun g => (cellInv ER (sched P) (κ g) g : sProp 𝕄)) ⊢ cellInv ER (sched P) (κ g) g :=
  bigSep_elim hg

/-- A barrier cell is open. -/
theorem reached_mem (c : Dev nD) : (bigSep barCells fun g => (reached ER g 0 : sProp 𝕄)) ⊢ reached ER (barCell c) 0 :=
  bigSep_elim (Finset.mem_map_of_mem barEmb (Finset.mem_univ c))

/-- The records hold a barrier cell's invariant. -/
theorem inv_bar (κ : GSem nD τ sig → ℕ) (c : Dev nD) : records P κ ⊢ cellInv ER (sched P) (κ (barCell c)) (barCell c) := by
  unfold records
  iintro ⟨HI, -⟩
  iapply (inv_mem P κ (bar_mem c)); iexact HI

/-- The records hold the invariant of a kernel's own cell. -/
theorem inv_slot (κ : GSem nD τ sig → ℕ) (c : Dev nD) (s : Slot) :
    records P κ ⊢ cellInv ER (sched P) (κ (slotCell c s)) (slotCell c s) := by
  unfold records
  iintro ⟨HI, -⟩
  iapply (inv_mem P κ (slot_mem c s)); iexact HI

/-- The records say that a barrier cell is open. -/
theorem reached_bar (κ : GSem nD τ sig → ℕ) (c : Dev nD) : records P κ ⊢ reached ER (barCell c) 0 := by
  unfold records
  iintro ⟨-, HR⟩
  iapply (reached_mem (F := F) c); iexact HR

/-- The payments device `c` makes towards its peer `r`, and on its own two send cells for it. -/
def tokSlot (c : Dev nD) (r : Fin 31) : Fin 5 → GSem nD τ sig × ℕ × Fin 31
  | 0 => (barCell (pe c r), 0, rv r)
  | 1 => (rsCell (pe c r) c, 0, 0)
  | 2 => (agCell (pe c r) c, 0, 0)
  | 3 => (send1Cell c r, 0, 0)
  | 4 => (send2Cell c r, 0, 0)

/-- The tokens of those payments. -/
def toks (c : Dev nD) (r : Fin 31) : sProp 𝕄 :=
  iprop(dutyTok ER (barCell (pe c r)) 0 (rv r) ∗ dutyTok ER (rsCell (pe c r) c) 0 0 ∗ dutyTok ER (agCell (pe c r) c) 0 0
    ∗ dutyTok ER (send1Cell c r) 0 0 ∗ dutyTok ER (send2Cell c r) 0 0)

/-- What stays with device `c` from launch: its place on its barrier cell, the right to open its own cells, its tokens. -/
def linear (c : Dev nD) : sProp 𝕄 :=
  iprop(atPos ER (barCell c) 0 ∅ 0 ∗ (bigSep Finset.univ fun s => openTok ER (slotCell c s))
    ∗ bigSep Finset.univ fun r => toks c r)

/-- The credits it waits with. -/
def credits (c : Dev nD) : sProp 𝕄 :=
  iprop(cred (tallyAt (barCell c) () 31) ∗ (bigSep Finset.univ fun r => cred (tallyAt (rsCell c (pe c r)) () N))
    ∗ bigSep Finset.univ fun r => cred (tallyAt (agCell c (pe c r)) () N))

/-- What it carries from launch to the kernel. -/
def Tk (c : Dev nD) : sProp 𝕄 := iprop((∃ κ, records P κ ∗ linear c) ∗ credits c)

/-- The same once its own cells are open. -/
def opened (κ : GSem nD τ sig → ℕ) (c : Dev nD) : sProp 𝕄 :=
  iprop(records P κ ∗ atPos ER (barCell c) 0 ∅ 0
    ∗ (bigSep Finset.univ fun s => iprop(atPos ER (slotCell c s) 0 ∅ 0 ∗ reached ER (slotCell c s) 0))
    ∗ bigSep Finset.univ fun r => toks c r)

/-- A cell whose payments are all collected gives its counter back at zero. -/
theorem close (κ : ℕ) (g : GSem nD τ sig) :
    iprop(cellInv ER (sched P) κ g ∗ atPos ER g 1 ∅ 0) ⊢ (|={Set.univ}=> semVal g 0 : sProp 𝕄) :=
  Rounds.cell_close ER (sched P) (Set.mem_univ κ) id (duties_later P g)

/-- A cell that expects no payment gives its counter back at zero. -/
theorem close0 (κ : ℕ) (c : Dev nD) (s : Slot) (h : slotDuties c s = ∅) :
    iprop(cellInv ER (sched P) κ (slotCell c s) ∗ atPos ER (slotCell c s) 0 ∅ 0) ⊢ (|={Set.univ}=> semVal (slotCell c s) 0 : sProp 𝕄) :=
  Rounds.cell_close ER (sched P) (Set.mem_univ κ) id fun r _ => by
    rcases Nat.eq_zero_or_pos r with rfl | hr
    · rw [duties_slot, h]
    · exact duties_later P _ r hr

end Cert.KernelIdeal.Hand

end
-- ==== Proof.Phases.lean ====
/- The communication's phases, one lemma each: what a phase takes and what it gives. -/
module

public import proofs.«01_k».proof.Proof.Protocol

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-- No loop of the program carries a variant. -/
abbrev 𝒱₀ : Variants := Variants.none

/-- The weakest precondition of code run by device `c`. -/
abbrev wpc {α : Type} (c : Dev nD) (p : Code F α) (Q : α → sProp 𝕄) : sProp 𝕄 :=
  wp frame (wpE (defs₀ (F := F)) 𝒱₀ (c : Thread nD τ) none) Set.univ p Q

/-- A sequence of two programs, proved one after the other. -/
theorem wpc_bind {α β : Type} (c : Dev nD) (p : Code F α) (k : α → Code F β) (Q : β → sProp 𝕄) :
    wpc c (p.bind k) Q = wpc c p (fun a => wpc c (k a) Q) := wp_bind _ _ _ p k Q

/-- A loop keeps an invariant that may speak of the rounds left, and turns what is given for each round into what the
    round yields. -/
theorem wp_loop {α : Type} (c : Dev nD) (f : α → Code F PUnit) (I : List α → sProp 𝕄) (Pre Post : α → sProp 𝕄)
    (h : ∀ a l (Q : PUnit → sProp 𝕄), iprop(I (a :: l) ∗ Pre a ∗ ((I l ∗ Post a) -∗ Q ⟨⟩)) ⊢ wpc c (f a) Q) :
    ∀ l (Kt : PUnit → sProp 𝕄), iprop(I l ∗ bigSepL l Pre ∗ ((I [] ∗ bigSepL l Post) -∗ Kt ⟨⟩)) ⊢ wpc c (loop l f) Kt
  | [], Kt => by
    show _ ⊢ wpc c (.ret ⟨⟩) Kt
    rw [wpc, wp_ret]
    iintro ⟨HI, HP, Hk⟩
    imodintro
    iapply Hk
    isplitl [HI]; · iexact HI
    iexact HP
  | a :: l, Kt => by
    show _ ⊢ wpc c ((f a).bind fun _ => loop l f) Kt
    rw [wpc_bind, bigSepL_cons' a l Pre, bigSepL_cons' a l Post]
    iintro ⟨HI, ⟨Ha, HP⟩, Hk⟩
    iapply (h a l _)
    isplitl [HI]; · iexact HI
    isplitl [Ha]; · iexact Ha
    iintro ⟨HI, Hpa⟩
    iapply (wp_loop c f I Pre Post h l Kt)
    isplitl [HI]; · iexact HI
    isplitl [HP]; · iexact HP
    iintro ⟨HI, HPs⟩
    iapply Hk
    isplitl [HI]; · iexact HI
    isplitl [Hpa]; · iexact Hpa
    iexact HPs

variable (P : Dev nD → Big F)

/-! ## The signals -/

/-- One barrier signal: it hands the peer the place for its chunk. -/
theorem signal_step (κ : GSem nD τ sig → ℕ) (c : Dev nD) (O : CellTallies nD τ sig Unit) (r : Fin 31) (l : List (Fin 31))
    (Q : PUnit → sProp 𝕄) :
    iprop((records P κ ∗ ∃ W, owes (c : Thread nD τ) (tB c (r :: l) + O) W)
        ∗ (dutyTok ER (barCell (pe c r)) 0 (rv r) ∗ (∃ f, rsPt c (pe c r) f) ∗ reached ER (rsCell c (pe c r)) 0 ∗ reached ER (agCell c (pe c r)) 0)
        ∗ (((records P κ ∗ ∃ W, owes (c : Thread nD τ) (tB c l + O) W) ∗ emp) -∗ Q ⟨⟩))
      ⊢ wpc c (semSignalWord (pe c r) barSem 1#32 : Code F PUnit) Q := by
  show _ ⊢ wpc c (.op (.semSignal (pe c r : Thread nD τ) barSem 1) .ret) Q
  iintro ⟨⟨#HR, ⟨%W, HO⟩⟩, ⟨Ht, Hs, Hr1, Hr2⟩, Hk⟩
  iapply (Rounds.wp_signal 𝒱₀ ER (sched P) (c : Thread nD τ) none (dst := (pe c r : Thread nD τ)) (sem := barSem) (r := 0) (d := rv r)
      (κ := κ (barCell (pe c r)))
      (by rw [duties_bar]; exact Finset.mem_univ _) (amount_bar P (pe c r) (rv r)) () (tB c l + O) (tB_cons c r l O)) $$ [HO Ht Hs Hr1 Hr2]
  · isplitr; · iapply (inv_bar P κ (pe c r)); iexact HR
    isplitl [HO]; · iexact HO
    isplitl [Ht]; · iexact Ht
    isplitl [Hs Hr1 Hr2]
    · rw [payload_bar]; unfold barPay; rw [pe_rv]
      isplitl [Hs]; · iexact Hs
      isplitl [Hr1]; · iexact Hr1
      iexact Hr2
    · iapply (reached_bar P κ (pe c r)); iexact HR
  iintro HO
  rw [wp_ret]; imodintro
  iapply Hk
  isplitl [HO]
  · isplitr; · iexact HR
    iexists W; iexact HO
  iempintro

/-- All barrier signals, in order. -/
theorem signals_run (κ : GSem nD τ sig → ℕ) (c : Dev nD) (O : CellTallies nD τ sig Unit) (Kt : PUnit → sProp 𝕄) :
    iprop((records P κ ∗ ∃ W, owes (c : Thread nD τ) (tB c all31 + O) W)
        ∗ (bigSepL all31 fun r => iprop(dutyTok ER (barCell (pe c r)) 0 (rv r) ∗ (∃ f, rsPt c (pe c r) f)
            ∗ reached ER (rsCell c (pe c r)) 0 ∗ reached ER (agCell c (pe c r)) 0))
        ∗ (((records P κ ∗ ∃ W, owes (c : Thread nD τ) (tB c [] + O) W) ∗ bigSepL all31 fun _ => iprop(emp)) -∗ Kt ⟨⟩))
      ⊢ wpc c (signals c : Code F PUnit) Kt :=
  wp_loop c _ (fun l => iprop(records P κ ∗ ∃ W, owes (c : Thread nD τ) (tB c l + O) W)) _ (fun _ => iprop(emp))
    (fun r l Q => signal_step P κ c O r l Q) all31 Kt

/-! ## The barrier -/

/-- The wait on the barrier: it yields the places for this device's chunks at all its peers. -/
theorem barrier_run (κ : GSem nD τ sig → ℕ) (c : Dev nD) (Q : PUnit → sProp 𝕄) :
    iprop((records P κ ∗ levAts L lv ∗ ∃ W, owes (c : Thread nD τ) (tR c all31 + tA c all31) W)
        ∗ (cred (tallyAt (barCell c) () 31) ∗ atPos ER (barCell c) 0 ∅ 0)
        ∗ (((∃ W, owes (c : Thread nD τ) (tR c all31 + tA c all31) W) ∗ atPos ER (barCell c) 1 ∅ 0 ∗ bigSepL all31 fun u => barPay c u) -∗ Q ⟨⟩))
      ⊢ wpc c (semWaitWord barSem 31#32 : Code F PUnit) Q := by
  show _ ⊢ wpc c (.op (.semWait barSem 31) .ret) Q
  iintro ⟨⟨#HR, #HL, ⟨%W, HO⟩⟩, ⟨Hc, Ha⟩, Hk⟩
  iapply (Rounds.wp_wait_rest_token 𝒱₀ ER (sched P) (c : Thread nD τ) none (κ := κ (barCell c))
      (wpE_semWait_eq 𝒱₀ (c : Thread nD τ) none Set.univ) (Set.mem_univ _) () (O := tR c all31 + tA c all31) (W := W) (R := 0) (m := 0) (T := ∅)
      ((Nat.zero_add 31).trans (expect_bar P c).symm)) $$ [Hc HO Ha]
  · isplitr; · iapply (inv_bar P κ c); iexact HR
    isplitl [Hc]; · iexact Hc
    isplitl [HO]; · iexact HO
    isplitr; · iapply (mayWait_bar (F := F) c); iexact HL
    iexact Ha
  iintro ⟨HO, Ha, -, Hpay⟩
  ihave Hp := (Entails.of_eq (rest_bar P c)) $$ Hpay
  rw [wp_ret]; imodintro
  iapply Hk
  isplitl [HO]; · iexists _; iexact HO
  isplitl [Ha]; · iexact Ha
  iexact Hp

/-! ## The copies -/

/-- One first copy is started: the chunk goes to the peer's receive buffer. -/
theorem rsSend_step (κ : GSem nD τ sig → ℕ) (c : Dev nD) (O : CellTallies nD τ sig Unit) (r : Fin 31) (l : List (Fin 31))
    (Q : PUnit → sProp 𝕄) :
    iprop((records P κ ∗ ∃ W, owes (c : Thread nD τ) (tR c (r :: l) + O) W)
        ∗ (outPt c (pe c r) fullShare (P c) ∗ barPay c r ∗ dutyTok ER (rsCell (pe c r) c) 0 0 ∗ dutyTok ER (send1Cell c r) 0 0
          ∗ reached ER (send1Cell c r) 0)
        ∗ (((records P κ ∗ ∃ W, owes (c : Thread nD τ) (tR c l + O) W)
          ∗ (cred (tallyAt (send1Cell c r) () N) ∗ reached ER (agCell (pe c r) c) 0)) -∗ Q ⟨⟩))
      ⊢ wpc c (sendChunk (row outM (pe c r)) (row rsM c) (pe c r) (enc (.inl (.inl r))) (enc (.inr (.inl c)))
          (row_exact _ _) (row_exact _ _) : Code F PUnit) Q := by
  unfold barPay
  iintro ⟨⟨#HR, ⟨%W, HO⟩⟩, ⟨Hsrc, ⟨⟨%fd, Hdst⟩, #Hr2, #Hr3⟩, Ht2, Ht1, #Hr1⟩, Hk⟩
  iapply (Rounds.wp_send_landing_pointsTo 𝒱₀ ER (sched P) (c : Thread nD τ) none (c' := (pe c r : Thread nD τ))
      (src := row outM (pe c r)) (dst := row rsM c)
      (sS := osem (.inl (.inl r))) (sem := osem (.inr (.inl c))) (q := fullShare) (fs := P c) (κ₁ := κ (send1Cell c r)) (κ₂ := κ (rsCell (pe c r) c))
      (r₁ := 0) (r₂ := 0) (d₁ := 0) (d₂ := 0) (fd := fd)
      (by rw [duties_slot]; exact Finset.mem_singleton_self _)
      (by rw [duties_slot, slotDuties_rs _ (pe_ne c r).symm]; exact Finset.mem_singleton_self _)
      () () N rfl (amount_slot P c (.inl (.inl r)) 0) (amount_slot P (pe c r) (.inr (.inl c)) 0) (tR c l + O) (tR_cons c r l O) (W := W)
      (by rw [payload_slot]; exact BI.Entails.refl _)
      (by
        rw [payload_slot]
        show _ ⊢ iprop(rsPt (pe c r) c (RSb P (pe c r)) ∗ outPt c (pe c r) fullShare (P c))
        refine sep_mono_left (Entails.of_eq (rsPt_congr (pe c r) c fun i hi => ?_))
        exact (copy_out_rs c (pe c r) fd (P c) i hi).trans (RSb_row P (pe c r) c i hi).symm)) $$ [Hsrc Hdst HO Ht1 Ht2]
  · isplitr; · iapply (inv_slot P κ c (.inl (.inl r))); iexact HR
    isplitr; · iapply (inv_slot P κ (pe c r) (.inr (.inl c))); iexact HR
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨HcS, HO⟩
  rw [wp_ret]; imodintro
  iapply Hk
  isplitl [HO]
  · isplitr; · iexact HR
    iexists W; iexact HO
  isplitl [HcS]; · iexact HcS
  iexact Hr3

/-- All first copies are started, in order. -/
theorem rsSends_run (κ : GSem nD τ sig → ℕ) (c : Dev nD) (O : CellTallies nD τ sig Unit) (Kt : PUnit → sProp 𝕄) :
    iprop((records P κ ∗ ∃ W, owes (c : Thread nD τ) (tR c all31 + O) W)
        ∗ (bigSepL all31 fun r => iprop(outPt c (pe c r) fullShare (P c) ∗ barPay c r ∗ dutyTok ER (rsCell (pe c r) c) 0 0
          ∗ dutyTok ER (send1Cell c r) 0 0 ∗ reached ER (send1Cell c r) 0))
        ∗ (((records P κ ∗ ∃ W, owes (c : Thread nD τ) (tR c [] + O) W)
          ∗ bigSepL all31 fun r => iprop(cred (tallyAt (send1Cell c r) () N) ∗ reached ER (agCell (pe c r) c) 0)) -∗ Kt ⟨⟩))
      ⊢ wpc c (rsSendsC c : Code F PUnit) Kt :=
  wp_loop c _ (fun l => iprop(records P κ ∗ ∃ W, owes (c : Thread nD τ) (tR c l + O) W)) _ _
    (fun r l Q => rsSend_step P κ c O r l Q) all31 Kt

/-- One second copy is started: the summed chunk goes to the peer's output buffer. -/
theorem agSend_step (κ : GSem nD τ sig → ℕ) (c : Dev nD) (r : Fin 31) (l : List (Fin 31)) (Q : PUnit → sProp 𝕄) :
    iprop((records P κ ∗ ∃ W, owes (c : Thread nD τ) (tA c (r :: l)) W)
        ∗ (outPt c c (shr r) (AG P) ∗ outPt (pe c r) c fullShare (P (pe c r)) ∗ dutyTok ER (agCell (pe c r) c) 0 0
          ∗ dutyTok ER (send2Cell c r) 0 0 ∗ reached ER (send2Cell c r) 0 ∗ reached ER (agCell (pe c r) c) 0)
        ∗ (((records P κ ∗ ∃ W, owes (c : Thread nD τ) (tA c l) W) ∗ cred (tallyAt (send2Cell c r) () N)) -∗ Q ⟨⟩))
      ⊢ wpc c (sendChunk (row outM c) (row outM c) (pe c r) (enc (.inl (.inr r))) (enc (.inr (.inr c)))
          (row_exact _ _) (row_exact _ _) : Code F PUnit) Q := by
  iintro ⟨⟨#HR, ⟨%W, HO⟩⟩, ⟨Hsrc, Hdst, Ht2, Ht1, #Hr1, #Hr2⟩, Hk⟩
  iapply (Rounds.wp_send_pointsTo 𝒱₀ ER (sched P) (c : Thread nD τ) none (c' := (pe c r : Thread nD τ))
      (src := row outM c) (dst := row outM c)
      (sS := osem (.inl (.inr r))) (sem := osem (.inr (.inr c))) (q := shr r) (fs := AG P) (κ₁ := κ (send2Cell c r)) (κ₂ := κ (agCell (pe c r) c))
      (r₁ := 0) (r₂ := 0) (d₁ := 0) (d₂ := 0) (fd := P (pe c r))
      (by rw [duties_slot]; exact Finset.mem_singleton_self _)
      (by rw [duties_slot, slotDuties_ag _ (pe_ne c r).symm]; exact Finset.mem_singleton_self _)
      () () N rfl (amount_slot P c (.inl (.inr r)) 0) (amount_slot P (pe c r) (.inr (.inr c)) 0) (tA c l) (tA_cons c r l) (W := W)
      (by rw [payload_slot]; exact BI.Entails.refl _)
      (by
        rw [payload_slot]
        show _ ⊢ outPt (pe c r) c fullShare (AG P)
        refine Entails.of_eq (outPt_congr (pe c r) c fullShare fun i hi => ?_)
        refine (copy_out_out c c (P (pe c r)) (AG P) i hi).trans (congrArg (AG P) (at3_of_mem hi).symm))) $$ [Hsrc Hdst HO Ht1 Ht2]
  · isplitr; · iapply (inv_slot P κ c (.inl (.inr r))); iexact HR
    isplitr; · iapply (inv_slot P κ (pe c r) (.inr (.inr c))); iexact HR
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨HcS, HO⟩
  rw [wp_ret]; imodintro
  iapply Hk
  isplitl [HO]
  · isplitr; · iexact HR
    iexists W; iexact HO
  iexact HcS

/-- All second copies are started, in order. -/
theorem agSends_run (κ : GSem nD τ sig → ℕ) (c : Dev nD) (Kt : PUnit → sProp 𝕄) :
    iprop((records P κ ∗ ∃ W, owes (c : Thread nD τ) (tA c all31) W)
        ∗ (bigSepL all31 fun r => iprop(outPt c c (shr r) (AG P) ∗ outPt (pe c r) c fullShare (P (pe c r)) ∗ dutyTok ER (agCell (pe c r) c) 0 0
          ∗ dutyTok ER (send2Cell c r) 0 0 ∗ reached ER (send2Cell c r) 0 ∗ reached ER (agCell (pe c r) c) 0))
        ∗ (((records P κ ∗ ∃ W, owes (c : Thread nD τ) (tA c []) W)
          ∗ bigSepL all31 fun r => cred (tallyAt (send2Cell c r) () N)) -∗ Kt ⟨⟩))
      ⊢ wpc c (agSendsC c : Code F PUnit) Kt :=
  wp_loop c _ (fun l => iprop(records P κ ∗ ∃ W, owes (c : Thread nD τ) (tA c l) W)) _ _
    (fun r l Q => agSend_step P κ c r l Q) all31 Kt

/-! ## The waits for copies -/

/-- One wait on one of the kernel's own semaphores yields what its copy pays. -/
theorem wait_step (κ : GSem nD τ sig → ℕ) (c : Dev nD) (s : Slot) (hs : slotDuties c s = {0}) (O : CellTallies nD τ sig Unit)
    (hO : (levAts L lv : sProp 𝕄) ⊢ MayWait (c : Thread nD τ) (osem s) () O)
    (src dst : Memref sig .tc .vmem S16x512 .f32) (h₁ : src.view.WordExact) (h₂ : dst.view.WordExact) (hN : dst.view.dmaCredit = N)
    (Q : PUnit → sProp 𝕄) :
    iprop((records P κ ∗ levAts L lv ∗ ∃ W, owes (c : Thread nD τ) O W)
        ∗ (cred (tallyAt (slotCell c s) () N) ∗ atPos ER (slotCell c s) 0 ∅ 0)
        ∗ (((records P κ ∗ levAts L lv ∗ ∃ W, owes (c : Thread nD τ) O W) ∗ (atPos ER (slotCell c s) 1 ∅ 0 ∗ slotPay P c s)) -∗ Q ⟨⟩))
      ⊢ wpc c (waitChunk (enc s) src dst h₁ h₂ : Code F PUnit) Q := by
  iintro ⟨⟨#HR, #HL, ⟨%W, HO⟩⟩, ⟨Hc, Ha⟩, Hk⟩
  ihave Hc := (show (cred (tallyAt (slotCell c s) () N) : sProp 𝕄) ⊢ cred (tallyAt (slotCell c s) () dst.view.dmaCredit) from
    Entails.of_eq (by rw [hN])) $$ Hc
  iapply (Rounds.wp_wait_rest_token 𝒱₀ ER (sched P) (c : Thread nD τ) none (κ := κ (slotCell c s))
      (wpE_waitDma2_eq (src := src) (dst := dst) 𝒱₀ (c : Thread nD τ) none Set.univ) (Set.mem_univ _) () (O := O) (W := W) (R := 0) (m := 0) (T := ∅)
      ((Nat.zero_add _).trans (hN.trans (expect_slot P c s hs).symm))) $$ [Hc HO Ha]
  · isplitr; · iapply (inv_slot P κ c s); iexact HR
    isplitl [Hc]; · iexact Hc
    isplitl [HO]; · iexact HO
    isplitr; · iapply hO; iexact HL
    iexact Ha
  iintro ⟨HO, Ha, -, Hpay⟩
  ihave Hp := (Entails.of_eq (rest_slot P c s hs)) $$ Hpay
  rw [wp_ret]; imodintro
  iapply Hk
  isplitl [HO]
  · isplitr; · iexact HR
    isplitr; · iexact HL
    iexists _; iexact HO
  isplitl [Ha]; · iexact Ha
  iexact Hp

/-- Thirty-one waits, one on each of a family of the own cells. -/
theorem waits_run (κ : GSem nD τ sig → ℕ) (c : Dev nD) (s : Fin 31 → Slot) (hs : ∀ r, slotDuties c (s r) = {0}) (O : CellTallies nD τ sig Unit)
    (hO : ∀ r, (levAts L lv : sProp 𝕄) ⊢ MayWait (c : Thread nD τ) (osem (s r)) () O)
    (src dst : Fin 31 → Memref sig .tc .vmem S16x512 .f32) (h₁ : ∀ r, (src r).view.WordExact) (h₂ : ∀ r, (dst r).view.WordExact)
    (hN : ∀ r, (dst r).view.dmaCredit = N) (Kt : PUnit → sProp 𝕄) :
    iprop((records P κ ∗ levAts L lv ∗ ∃ W, owes (c : Thread nD τ) O W)
        ∗ (bigSepL all31 fun r => iprop(cred (tallyAt (slotCell c (s r)) () N) ∗ atPos ER (slotCell c (s r)) 0 ∅ 0))
        ∗ (((records P κ ∗ levAts L lv ∗ ∃ W, owes (c : Thread nD τ) O W)
          ∗ bigSepL all31 fun r => iprop(atPos ER (slotCell c (s r)) 1 ∅ 0 ∗ slotPay P c (s r))) -∗ Kt ⟨⟩))
      ⊢ wpc c (loop all31 fun r => waitChunk (enc (s r)) (src r) (dst r) (h₁ r) (h₂ r) : Code F PUnit) Kt :=
  wp_loop c _ (fun _ => iprop(records P κ ∗ levAts L lv ∗ ∃ W, owes (c : Thread nD τ) O W)) _ _
    (fun r _ Q => wait_step P κ c (s r) (hs r) O (hO r) (src r) (dst r) (h₁ r) (h₂ r) (hN r) Q) all31 Kt

end Cert.KernelIdeal.Hand

end
-- ==== Proof.Local.lean ====
/- The two steps of the communication that move no data between devices, and the cutting of a family over the mesh
   into a device's own member and its peers'. -/
module

public import proofs.«01_k».proof.Proof.Phases

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-! ## Families over the mesh -/

/-- A resource for every device is one for device `c` and one for each of its peers. -/
theorem peers {M : Type} [URA M] (c : Fin 32) (Φ : Fin 32 → sProp M) :
    bigSep Finset.univ Φ = iprop(Φ c ∗ bigSepL all31 fun r => Φ (pe c r)) := by
  have e : (Finset.univ.erase c : Finset (Fin 32)) = Finset.univ.map ⟨pe c, pe_inj c⟩ := by
    ext j
    simp only [Finset.mem_erase, Finset.mem_univ, and_true, Finset.mem_map, true_and, Function.Embedding.coeFn_mk]
    exact ⟨fun h => pe_surj h, fun ⟨r, hr⟩ => hr ▸ pe_ne c r⟩
  rw [bigSep_univ_at Φ c, e, BI.bigSep_map]
  exact congrArg (fun X => iprop(Φ c ∗ X)) (bigSep_univ_eq_bigSepL all31 (by decide) (by decide) _)

/-- A resource for every offset, as a list in order. -/
theorem listed {M : Type} [URA M] (Φ : Fin 31 → sProp M) : bigSep Finset.univ Φ = bigSepL all31 Φ :=
  bigSep_univ_eq_bigSepL all31 (by decide) (by decide) Φ

/-- The same of two resources for every offset. -/
theorem listed_sep {M : Type} [URA M] (Φ Ψ : Fin 31 → sProp M) :
    bigSepL all31 (fun i => iprop(Φ i ∗ Ψ i)) = iprop(bigSepL all31 Φ ∗ bigSepL all31 Ψ) := by
  rw [← listed, ← listed, ← listed, bigSep_sep']

/-! ## The buffers whole and in chunks -/

/-- The output buffer of device `c`, whole. -/
abbrev outW (c : Dev nD) (f : Buf (Elt F) ((c : Thread nD τ).loc cc0_stg5_0)) : sProp 𝕄 := ((c : Thread nD τ).loc cc0_stg5_0) ↦{fullShare} f
/-- The receive buffer of device `c`, whole. -/
abbrev rsW (c : Dev nD) (f : Buf (Elt F) ((c : Thread nD τ).loc cc0_scratch0)) : sProp 𝕄 := ((c : Thread nD τ).loc cc0_scratch0) ↦{fullShare} f

/-- The output buffer is its 32 chunks. -/
theorem out_split (c : Dev nD) (f : Big F) : (outW c f : sProp 𝕄) = bigSep Finset.univ fun p => outPt c p fullShare f := by
  refine (Idealize.ShloMosaic.Ring.pointsTo_blocks (ℓ := (c : Thread nD τ).loc cc0_stg5_0) rowSet rowSet_disjoint rowSet_cover f).trans ?_
  exact BI.bigSep_congr fun p _ => (congrArg (fun S => (((c : Thread nD τ).loc cc0_stg5_0) ↦[S]{fullShare} f : sProp 𝕄)) (out_row_set p)).symm

/-- The receive buffer is its 32 chunks. -/
theorem rs_split (c : Dev nD) (f : Big F) : (rsW c f : sProp 𝕄) = bigSep Finset.univ fun p => rsPt c p f := by
  refine (Idealize.ShloMosaic.Ring.pointsTo_blocks (ℓ := (c : Thread nD τ).loc cc0_scratch0) rowSet rowSet_disjoint rowSet_cover f).trans ?_
  exact BI.bigSep_congr fun p _ => (congrArg (fun S => (((c : Thread nD τ).loc cc0_scratch0) ↦[S]{fullShare} f : sProp 𝕄)) (rs_row_set p)).symm

/-- The list of offsets. -/
theorem all31_eq : List.finRange (30 + 1) = all31 := by decide

/-- A chunk of the output buffer is cut into 31 shares, one for each copy that reads it. -/
theorem out_shares (c p : Dev nD) (f : Big F) :
    (outPt c p fullShare f : sProp 𝕄) ⊣⊢ bigSepL all31 fun r => outPt c p (shr r) f := by
  have h := Idealize.ShloMosaic.Ring.pointsTo_nths (Ix := Unit) (Name := ℕ) (U := UU) (Lvl := ℕ)
    (ℓ := (row outM p).view.loc (c : Thread nD τ)) (I := (row outM p).view.set) f 30 fullShare
  rw [all31_eq] at h
  exact h

/-! ## A chunk overwritten -/

/-- A chunk of the output buffer overwritten, with any elements held that hold the chunk. -/
theorem put_out (c : Dev nD) (p : Fin 32) (S : Finset S32x16x512.Idx) (hS : rowSet p ⊆ S) (f : Big F) (v : S1x16x512.Idx → Elt F .f32)
    (Q : PUnit → sProp 𝕄) :
    iprop((((c : Thread nD τ).loc cc0_stg5_0) ↦[S]{fullShare} f)
        ∗ ((((c : Thread nD τ).loc cc0_stg5_0) ↦[S]{fullShare} ((outM.access (rowRect p)).write (Elt F) f v Finset.univ)) -∗ Q ⟨⟩))
      ⊢ wpc c (putChunk outM ![p.val, 0, 0] (row_inb p) v : Code F PUnit) Q := by
  unfold putChunk
  rw [wpc_bind]
  iintro ⟨H, Hk⟩
  iapply (wp_load_rect (m := outM) (r := rowRect p) (hl := View.loadsAt_vmem h_S1x16x512) 𝒱₀ (c : Thread nD τ) none Set.univ (S := S) (q := fullShare) (f := f)
    (by rw [out_access_set]; exact hS)) $$ [H]
  · iexact H
  iintro H
  rw [wp_ret]; imodintro
  iapply (wp_store (m := outM) (r := rowRect p) (w := v) (Mk := Finset.univ) (hx := View.stores_vmem_bits_univ h_S1x16x512 rfl) (hm := .inl rfl) 𝒱₀ (c : Thread nD τ) none Set.univ (S := S) (f := f)
    (by rw [View.setOn_univ, out_access_set]; exact hS)) $$ [H]
  · iexact H
  iintro H
  rw [wp_ret]; imodintro
  iapply Hk; iexact H

/-- A chunk of the receive buffer overwritten. -/
theorem put_rs (c : Dev nD) (p : Fin 32) (f : Big F) (v : S1x16x512.Idx → Elt F .f32) (Q : PUnit → sProp 𝕄) :
    iprop(rsPt c p f ∗ (rsPt c p ((rsM.access (rowRect p)).write (Elt F) f v Finset.univ) -∗ Q ⟨⟩))
      ⊢ wpc c (putChunk rsM ![p.val, 0, 0] (row_inb p) v : Code F PUnit) Q := by
  unfold putChunk
  rw [wpc_bind]
  iintro ⟨H, Hk⟩
  iapply (wp_load_rect (m := rsM) (r := rowRect p) (hl := View.loadsAt_vmem h_S1x16x512) 𝒱₀ (c : Thread nD τ) none Set.univ (S := (row rsM p).view.set) (q := fullShare) (f := f)
    (by rw [rs_access_set, rs_row_set])) $$ [H]
  · iexact H
  iintro H
  rw [wp_ret]; imodintro
  iapply (wp_store (m := rsM) (r := rowRect p) (w := v) (Mk := Finset.univ) (hx := View.stores_vmem_bits_univ h_S1x16x512 rfl) (hm := .inl rfl) 𝒱₀ (c : Thread nD τ) none Set.univ (S := (row rsM p).view.set) (f := f)
    (by rw [View.setOn_univ, rs_access_set, rs_row_set])) $$ [H]
  · iexact H
  iintro H
  rw [wp_ret]; imodintro
  iapply Hk; iexact H

variable (P : Dev nD → Big F)

/-- The reshape of a loaded chunk to its own shape changes nothing. -/
theorem pay58_id (v : Vec F S1x16x512 .f32) : k0_pay58 v = v := shapeCast_shapeCast v _ _

/-- The own chunk goes to its place in the receive buffer. -/
theorem own_run (c : Dev nD) (f : Big F) (Q : PUnit → sProp 𝕄) :
    iprop(outPt c c fullShare (P c) ∗ rsPt c c f ∗ ((outPt c c fullShare (P c) ∗ rsPt c c (RSb P c)) -∗ Q ⟨⟩))
      ⊢ wpc c (ownPartC c : Code F PUnit) Q := by
  unfold ownPartC
  rw [wpc_bind]
  iintro ⟨H, Hr, Hk⟩
  iapply (wp_load_rect (m := outM) (r := rowRect c) (hl := View.loadsAt_vmem h_S1x16x512) 𝒱₀ (c : Thread nD τ) none Set.univ (S := (row outM c).view.set) (q := fullShare) (f := P c)
    (by rw [out_access_set, out_row_set])) $$ [H]
  · iexact H
  iintro H
  rw [wp_ret]; imodintro
  iapply (put_rs c c f _ Q)
  isplitl [Hr]; · iexact Hr
  iintro Hr
  iapply Hk
  isplitl [H]; · iexact H
  have e : ∀ i ∈ rowSet c, (rsM.access (rowRect c)).write (Elt F) f (k0_pay58 ((outM.access (rowRect c)).read (Elt F) (P c))) Finset.univ i = RSb P c i :=
    fun i hi => by rw [store_rs_mem c f _ i hi, RSb_row P c c i hi, load_out, pay58_id]
  iapply (Entails.of_eq (rsPt_congr (F := F) c c e)) $$ Hr

/-- The gathered chunks are summed into the own chunk of the output buffer. -/
theorem reduce_run (c : Dev nD) (Q : PUnit → sProp 𝕄) :
    iprop(outPt c c fullShare (P c) ∗ rsW c (RSb P c) ∗ ((outPt c c fullShare (AG P) ∗ rsW c (RSb P c)) -∗ Q ⟨⟩))
      ⊢ wpc c (reducePartC c : Code F PUnit) Q := by
  unfold reducePartC
  rw [wpc_bind]
  iintro ⟨H, Hr, Hk⟩
  iapply (wp_load_rect (m := rsM) (hl := View.loadsAt_vmem h_S32x16x512) 𝒱₀ (c : Thread nD τ) none Set.univ (S := Finset.univ) (q := fullShare) (f := RSb P c)
    (Finset.subset_univ _)) $$ [Hr]
  · iexact Hr
  iintro Hr
  rw [wp_ret]; imodintro
  iapply (put_out c c (row outM c).view.set (by rw [out_row_set]) (P c) _ Q)
  isplitl [H]; · iexact H
  iintro H
  iapply Hk
  have e : ∀ i ∈ rowSet c, (outM.access (rowRect c)).write (Elt F) (P c) (k0_pay59 ((rsM.access (Rect.unit (s := S32x16x512) ![0, 0, 0] S32x16x512.size
      inb_S32x16x512_S32x16x512_0_0_0)).read (Elt F) (RSb P c))) Finset.univ i = AG P i :=
    fun i hi => by rw [store_out_mem c (P c) _ i hi, AG_row P c i hi, load_rs]
  isplitl [H]
  · iapply (show ((((c : Thread nD τ).loc cc0_stg5_0) ↦[(row outM c).view.set]{fullShare} _ : sProp 𝕄)) ⊢ outPt c c fullShare (AG P) from
      Entails.of_eq (outPt_congr (F := F) c c fullShare e)) $$ H
  iexact Hr

end Cert.KernelIdeal.Hand

end
-- ==== Proof.Talk.lean ====
/- The communication of one device, run from the partial result in its output buffer to the whole reduced result. -/
module

public import proofs.«01_k».proof.Proof.Local

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-- Two resources for every offset, put together. -/
theorem zip2 (Φ Ψ : Fin 31 → sProp 𝕄) :
    iprop(bigSepL all31 Φ ∗ bigSepL all31 Ψ) ⊢ bigSepL all31 fun r => iprop(Φ r ∗ Ψ r) := Entails.of_eq (listed_sep Φ Ψ).symm

/-- Two resources for every offset, taken apart. -/
theorem unzip2 (Φ Ψ : Fin 31 → sProp 𝕄) :
    (bigSepL all31 fun r => iprop(Φ r ∗ Ψ r)) ⊢ iprop(bigSepL all31 Φ ∗ bigSepL all31 Ψ) := Entails.of_eq (listed_sep Φ Ψ)

/-- The kernel's own semaphores, sorted: the two send families, and of each receive family the own one and the peers'. -/
theorem slots_split (c : Fin 32) (Φ : Slot → sProp 𝕄) :
    bigSep Finset.univ Φ
      = iprop(((bigSepL all31 fun r => Φ (.inl (.inl r))) ∗ (bigSepL all31 fun r => Φ (.inl (.inr r))))
        ∗ ((Φ (.inr (.inl c)) ∗ bigSepL all31 fun r => Φ (.inr (.inl (pe c r)))) ∗ (Φ (.inr (.inr c)) ∗ bigSepL all31 fun r => Φ (.inr (.inr (pe c r)))))) := by
  rw [Idealize.SL.BI.bigSep_univ_sum, Idealize.SL.BI.bigSep_univ_sum, Idealize.SL.BI.bigSep_univ_sum, peers c, peers c, listed, listed]
  rfl

/-- A device's rights to pay, kind by kind. -/
theorem toks_split (c : Fin 32) : (bigSep Finset.univ fun r => (toks c r : sProp 𝕄))
    ⊢ iprop((bigSepL all31 fun r => dutyTok ER (barCell (pe c r)) 0 (rv r)) ∗ (bigSepL all31 fun r => dutyTok ER (rsCell (pe c r) c) 0 0)
      ∗ (bigSepL all31 fun r => dutyTok ER (agCell (pe c r) c) 0 0) ∗ (bigSepL all31 fun r => dutyTok ER (send1Cell c r) 0 0)
      ∗ (bigSepL all31 fun r => dutyTok ER (send2Cell c r) 0 0)) := by
  rw [listed]
  show (bigSepL all31 fun r => iprop(_ ∗ _)) ⊢ _
  rw [listed_sep, listed_sep, listed_sep, listed_sep]

variable (P : Dev nD → Big F)

/-- Ghost state may be updated after a program. -/
theorem wpc_fupd {α : Type} (c : Dev nD) (p : Code F α) (Q : α → sProp 𝕄) :
    wpc c p (fun a => iprop(|={Set.univ}=> Q a)) ⊢ wpc c p Q := wp_fupd _ _ _ p Q

/-- A device that owes nothing may wait for anything. -/
theorem mayWait_none (c : Dev nD) (sm : SemLoc sig) : (levAts L lv : sProp 𝕄) ⊢ MayWait (c : Thread nD τ) sm () 0 := by
  rw [MayWait_zero]; iintro -; iempintro

/-- Cells whose round is over close at zero. -/
theorem close_all (κ : GSem nD τ sig → ℕ) (c : Dev nD) (s : Fin 31 → Slot) :
    iprop(records P κ ∗ bigSepL all31 fun r => atPos ER (slotCell c (s r)) 1 ∅ 0)
      ⊢ (|={Set.univ}=> bigSepL all31 fun r => semVal (slotCell c (s r)) 0 : sProp 𝕄) := by
  rw [← listed, ← listed]
  refine (bigSep_with_persistent (Ψ := fun r => iprop(|={Set.univ}=> semVal (slotCell c (s r)) 0)) fun r _ => ?_).trans (bigSep_fupd _ _)
  exact (sep_mono_left (inv_slot P κ c (s r))).trans (close P _ _)

/-- The barrier cell, closed after its wait. -/
theorem bar_close (κ : GSem nD τ sig → ℕ) (c : Dev nD) :
    iprop(records P κ ∗ atPos ER (barCell c) 1 ∅ 0) ⊢ (|={Set.univ}=> semVal (barCell c) 0 : sProp 𝕄) :=
  (sep_mono_left (inv_bar P κ c)).trans (close P _ _)

/-- An unused receive semaphore, closed. -/
theorem own_close (κ : GSem nD τ sig → ℕ) (c : Dev nD) (s : Slot) (h : slotDuties c s = ∅) :
    iprop(records P κ ∗ atPos ER (slotCell c s) 0 ∅ 0) ⊢ (|={Set.univ}=> semVal (slotCell c s) 0 : sProp 𝕄) :=
  (sep_mono_left (inv_slot P κ c s)).trans (close0 P _ c s h)

/-- The chunks of a buffer, each with some contents, as a list. -/
theorem ex_listed (c : Dev nD) (f : Big F) :
    (bigSepL all31 fun r => (rsPt c (pe c r) f : sProp 𝕄)) ⊢ bigSepL all31 fun r => iprop(∃ g, rsPt c (pe c r) g) :=
  bigSepL_mono fun r _ => by iintro H; iexists f; iexact H

/-- After the first round's waits the receive buffer is complete and the places sent from are at hand. -/
theorem rs_got (c : Dev nD) : (bigSepL all31 fun r => slotPay P c (.inr (.inl (pe c r))))
    ⊢ iprop((bigSepL all31 fun r => rsPt c (pe c r) (RSb P c)) ∗ bigSepL all31 fun r => outPt (pe c r) c fullShare (P (pe c r))) :=
  unzip2 _ _

/-- After the last waits the shares of the reduced chunk are one again. -/
theorem shares_got (c : Dev nD) : (bigSepL all31 fun r => slotPay P c (.inl (.inr r))) ⊢ outPt c c fullShare (AG P) :=
  (out_shares c c (AG P)).2

/-- What the communication leaves. -/
def talkPost (c : Dev nD) : sProp 𝕄 :=
  iprop((∃ W, owes (c : Thread nD τ) 0 W) ∗ outW c (AG P) ∗ (∃ f, rsW c f) ∗ semVal (barCell c) 0
    ∗ bigSep Finset.univ fun s => semVal (slotCell c s) 0)

/-- The whole exchange, from the barrier to the last wait. -/
theorem talk_run (κ : GSem nD τ sig → ℕ) (c : Dev nD) (f₀ : Big F) (Kt : PUnit → sProp 𝕄) :
    iprop(opened P κ c ∗ credits c ∗ levAts L lv ∗ outW c (P c) ∗ rsW c f₀ ∗ (∃ W, owes (c : Thread nD τ) (O₀ c) W)
        ∗ (talkPost P c -∗ Kt ⟨⟩)) ⊢ wpc c (talkC c : Code F PUnit) Kt := by
  unfold talkC
  rw [wpc_bind, out_split, rs_split, peers c, peers c]
  unfold opened credits
  rw [slots_split c (fun s => iprop(atPos ER (slotCell c s) 0 ∅ 0 ∗ reached ER (slotCell c s) 0)), listed (fun r => cred (tallyAt (rsCell c (pe c r)) () N)),
    listed (fun r => cred (tallyAt (agCell c (pe c r)) () N))]
  iintro ⟨⟨#HR, Hbar, ⟨⟨Hs1, Hs2⟩, ⟨⟨Hrc, -⟩, Hrs⟩, ⟨⟨Hac, -⟩, Hag⟩⟩, Htok⟩, ⟨HcB, HcR, HcA⟩, #HL, ⟨Hoc, Hop⟩, ⟨Hbc, Hbp⟩, HO, Hk⟩
  ihave ⟨Hs1, Hr1⟩ := (unzip2 _ _) $$ Hs1
  ihave ⟨Hs2, Hr2⟩ := (unzip2 _ _) $$ Hs2
  ihave ⟨Hrs, Hrr⟩ := (unzip2 _ _) $$ Hrs
  ihave ⟨Hag, Har⟩ := (unzip2 _ _) $$ Hag
  ihave ⟨Ht0, Ht1, Ht2, Ht3, Ht4⟩ := (toks_split c) $$ Htok
  ihave Hbp := (ex_listed c f₀) $$ Hbp
  -- the signals
  iapply (signals_run P κ c (tR c all31 + tA c all31) _)
  isplitl [HO]
  · isplitr; · iexact HR
    iexact HO
  isplitl [Ht0 Hbp Hrr Har]
  · iapply (zip2 _ _)
    isplitl [Ht0]; · iexact Ht0
    iapply (zip2 _ _)
    isplitl [Hbp]; · iexact Hbp
    iapply (zip2 _ _)
    isplitl [Hrr]; · iexact Hrr
    iexact Har
  iintro ⟨⟨-, HO⟩, -⟩
  ihave HO := (show iprop(∃ W, owes (c : Thread nD τ) (tB c [] + (tR c all31 + tA c all31)) W)
    ⊢ (iprop(∃ W, owes (c : Thread nD τ) (tR c all31 + tA c all31) W) : sProp 𝕄) from Entails.of_eq (by
      rw [show tB c [] = 0 from rfl, zero_add])) $$ HO
  -- the barrier
  rw [wpc_bind]
  iapply (barrier_run P κ c _)
  isplitl [HO]
  · isplitr; · iexact HR
    isplitr; · iexact HL
    iexact HO
  isplitl [HcB Hbar]
  · isplitl [HcB]; · iexact HcB
    iexact Hbar
  iintro ⟨HO, Hbar, Hpay⟩
  -- the first copies
  rw [wpc_bind]
  iapply (rsSends_run P κ c (tA c all31) _)
  isplitl [HO]
  · isplitr; · iexact HR
    iexact HO
  isplitl [Hop Hpay Ht1 Ht3 Hr1]
  · iapply (zip2 _ _)
    isplitl [Hop]; · iexact Hop
    iapply (zip2 _ _)
    isplitl [Hpay]; · iexact Hpay
    iapply (zip2 _ _)
    isplitl [Ht1]; · iexact Ht1
    iapply (zip2 _ _)
    isplitl [Ht3]; · iexact Ht3
    iexact Hr1
  iintro ⟨⟨-, HO⟩, Hcs⟩
  ihave ⟨Hcs, Har⟩ := (unzip2 _ _) $$ Hcs
  ihave HO := (show iprop(∃ W, owes (c : Thread nD τ) (tR c [] + tA c all31) W)
    ⊢ (iprop(∃ W, owes (c : Thread nD τ) (tA c all31) W) : sProp 𝕄) from Entails.of_eq (by rw [show tR c [] = 0 from rfl, zero_add])) $$ HO
  -- the own chunk
  rw [wpc_bind]
  iapply (own_run P c f₀ _)
  isplitl [Hoc]; · iexact Hoc
  isplitl [Hbc]; · iexact Hbc
  iintro ⟨Hoc, Hbc⟩
  -- the peers' chunks
  rw [wpc_bind]
  iapply (waits_run P κ c (fun r => .inr (.inl (pe c r))) (fun r => slotDuties_rs c (pe_ne c r)) (tA c all31) (fun r => mayWait_rs c (pe c r)) _ _ _ _
    (fun r => N_rs (pe c r)) _)
  isplitl [HO]
  · isplitr; · iexact HR
    isplitr; · iexact HL
    iexact HO
  isplitl [HcR Hrs]
  · iapply (zip2 _ _)
    isplitl [HcR]; · iexact HcR
    iexact Hrs
  iintro ⟨⟨-, -, HO⟩, Hw⟩
  ihave ⟨Hrs, Hw⟩ := (unzip2 _ _) $$ Hw
  ihave ⟨Hbp, Hop⟩ := (rs_got P c) $$ Hw
  -- the sum
  rw [wpc_bind]
  iapply (reduce_run P c _)
  isplitl [Hoc]; · iexact Hoc
  isplitl [Hbc Hbp]
  · rw [rs_split, peers c]
    isplitl [Hbc]; · iexact Hbc
    iexact Hbp
  iintro ⟨Hoc, Hb⟩
  -- the second copies
  rw [wpc_bind]
  ihave Hoc := (out_shares c c (AG P)).1 $$ Hoc
  iapply (agSends_run P κ c _)
  isplitl [HO]
  · isplitr; · iexact HR
    iexact HO
  isplitl [Hoc Hop Ht2 Ht4 Hr2 Har]
  · iapply (zip2 _ _)
    isplitl [Hoc]; · iexact Hoc
    iapply (zip2 _ _)
    isplitl [Hop]; · iexact Hop
    iapply (zip2 _ _)
    isplitl [Ht2]; · iexact Ht2
    iapply (zip2 _ _)
    isplitl [Ht4]; · iexact Ht4
    iapply (zip2 _ _)
    isplitl [Hr2]; · iexact Hr2
    iexact Har
  iintro ⟨⟨-, HO⟩, Hcs2⟩
  ihave HO := (show iprop(∃ W, owes (c : Thread nD τ) (tA c []) W)
    ⊢ (iprop(∃ W, owes (c : Thread nD τ) 0 W) : sProp 𝕄) from Entails.of_eq rfl) $$ HO
  -- the peers' sums
  rw [wpc_bind]
  iapply (waits_run P κ c (fun r => .inr (.inr (pe c r))) (fun r => slotDuties_ag c (pe_ne c r)) 0 (fun r => mayWait_none c _) _ _ _ _
    (fun r => N_out (pe c r)) _)
  isplitl [HO]
  · isplitr; · iexact HR
    isplitr; · iexact HL
    iexact HO
  isplitl [HcA Hag]
  · iapply (zip2 _ _)
    isplitl [HcA]; · iexact HcA
    iexact Hag
  iintro ⟨⟨-, -, HO⟩, Hw⟩
  ihave ⟨Hag, Hop⟩ := (unzip2 _ _) $$ Hw
  -- the first copies have left
  rw [wpc_bind]
  iapply (waits_run P κ c (fun r => .inl (.inl r)) (fun r => rfl) 0 (fun r => mayWait_none c _) _ _ _ _ (fun r => N_out (pe c r)) _)
  isplitl [HO]
  · isplitr; · iexact HR
    isplitr; · iexact HL
    iexact HO
  isplitl [Hcs Hs1]
  · iapply (zip2 _ _)
    isplitl [Hcs]; · iexact Hcs
    iexact Hs1
  iintro ⟨⟨-, -, HO⟩, Hw⟩
  ihave ⟨Hs1, -⟩ := (unzip2 _ _) $$ Hw
  -- the second copies have left
  iapply (wpc_fupd c _ _)
  iapply (waits_run P κ c (fun r => .inl (.inr r)) (fun r => rfl) 0 (fun r => mayWait_none c _) _ _ _ _ (fun r => N_out c) _)
  isplitl [HO]
  · isplitr; · iexact HR
    isplitr; · iexact HL
    iexact HO
  isplitl [Hcs2 Hs2]
  · iapply (zip2 _ _)
    isplitl [Hcs2]; · iexact Hcs2
    iexact Hs2
  iintro ⟨⟨-, -, HO⟩, Hw⟩
  ihave ⟨Hs2, Hoc⟩ := (unzip2 _ _) $$ Hw
  ihave Hoc := (shares_got P c) $$ Hoc
  -- the cells close
  imod (bar_close P κ c) $$ [Hbar] with Hbar
  · isplitr; · iexact HR
    iexact Hbar
  imod (own_close P κ c (.inr (.inl c)) (if_pos rfl)) $$ [Hrc] with Hrc
  · isplitr; · iexact HR
    iexact Hrc
  imod (own_close P κ c (.inr (.inr c)) (if_pos rfl)) $$ [Hac] with Hac
  · isplitr; · iexact HR
    iexact Hac
  imod (close_all P κ c (fun r => .inl (.inl r))) $$ [Hs1] with Hs1
  · isplitr; · iexact HR
    iexact Hs1
  imod (close_all P κ c (fun r => .inl (.inr r))) $$ [Hs2] with Hs2
  · isplitr; · iexact HR
    iexact Hs2
  imod (close_all P κ c (fun r => .inr (.inl (pe c r)))) $$ [Hrs] with Hrs
  · isplitr; · iexact HR
    iexact Hrs
  imod (close_all P κ c (fun r => .inr (.inr (pe c r)))) $$ [Hag] with Hag
  · isplitr; · iexact HR
    iexact Hag
  imodintro
  iapply Hk
  unfold talkPost
  isplitl [HO]; · iexact HO
  isplitl [Hoc Hop]
  · rw [out_split, peers c]
    isplitl [Hoc]; · iexact Hoc
    iexact Hop
  isplitl [Hb]; · iexists _; iexact Hb
  isplitl [Hbar]; · iexact Hbar
  rw [slots_split c (fun s => semVal (slotCell c s) 0)]
  isplitl [Hs1 Hs2]
  · isplitl [Hs1]; · iexact Hs1
    iexact Hs2
  isplitl [Hrc Hrs]
  · isplitl [Hrc]; · iexact Hrc
    iexact Hrs
  isplitl [Hac]; · iexact Hac
  iexact Hag

end Cert.KernelIdeal.Hand

end
-- ==== Proof.Compute.lean ====
/- The device's own work before any communication: its partial result, stored chunk by chunk in the output buffer. -/
module

public import proofs.«01_k».proof.Proof.Talk

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen

variable {F : FTy → Type} [FloatOps F]

local notation "𝕄" => MT nD τ sig Unit (Elt F) ℕ UU ℕ

/-! ## One batch entry, for either -/

/-- A batch entry of `x` lies inside it. -/
theorem x_inb (b : Fin 2) : ∀ a, (![b.val, 0, 0] : Fin 3 → Nat) a + S1x256x512.size a ≤ S2x256x512.size a := by
  revert b; decide

/-- A head's 64 columns of a batch entry lie inside the device's keys and values. -/
theorem kv_inb (b : Fin 2) (h : Fin 4) : ∀ a, (![b.val, 0, 64 * h.val] : Fin 3 → Nat) a + S1x256x64.size a ≤ S2x256x256.size a := by
  revert b h; decide

/-- Rows `b` of the activations. -/
abbrev xRect (b : Fin 2) : Rect S2x256x512 := Rect.unit (s := S2x256x512) ![b.val, 0, 0] S1x256x512.size (x_inb b)
/-- Head `h` of batch entry `b`, of the keys or the values. -/
abbrev kvRect (b : Fin 2) (h : Fin 4) : Rect S2x256x256 := Rect.unit (s := S2x256x256) ![b.val, 0, 64 * h.val] S1x256x64.size (kv_inb b h)

/-- Where chunk `i` of batch entry `b` is stored. -/
def place (b : Fin 2) (i : Fin 16) : Fin 32 := ⟨16 * b.val + i.val, by omega⟩

/-- Different chunks of a batch entry go to different places of the output buffer. -/
theorem place_inj (b : Fin 2) : Function.Injective (place b) := fun i j h => by
  have := congrArg Fin.val h
  simp only [place] at this
  exact Fin.ext (by omega)

section Views
variable (arg0 : Memref sig .tc .vmem S2x256x512 .bf16) (arg2 arg3 : Memref sig .tc .vmem S2x256x256 .bf16)
    (arg5 : Memref sig .tc .vmem S32x16x512 .f32)

/-- The load of one head. -/
def loadHead (a : Memref sig .tc .vmem S2x256x256 .bf16) (b : Fin 2) (h : Fin 4) : Code F (Vec F S1x256x64 .bf16) :=
  Prog.lift (.load a (kvRect b h).toLoadRect (View.loadsAt_vmem h_S1x256x64))

/-- Batch entry `b`: the loads, the partial result, the stores of its chunks. -/
def batchAt (b : Fin 2) (wq : Vec F S512x256 .bf16) (wo : Vec F S256x512 .bf16) : Code F PUnit :=
  (Prog.lift (.load arg0 (xRect b).toLoadRect (View.loadsAt_vmem h_S1x256x512))).bind fun x =>
  (loadHead arg2 b 0).bind fun k0 => (loadHead arg3 b 0).bind fun v0 =>
  (loadHead arg2 b 1).bind fun k1 => (loadHead arg3 b 1).bind fun v1 =>
  (loadHead arg2 b 2).bind fun k2 => (loadHead arg3 b 2).bind fun v2 =>
  (loadHead arg2 b 3).bind fun k3 => (loadHead arg3 b 3).bind fun v3 =>
  loop rows16 fun i => putChunk arg5 ![(place b i).val, 0, 0] (row_inb (place b i)) (chunk (partialOut wq wo x k0 v0 k1 v1 k2 v2 k3 v3) i)

/-- The text for the second batch entry is the general text at 1. -/
theorem batch1_eq (wq : Vec F S512x256 .bf16) (wo : Vec F S256x512 .bf16) : batch1 arg0 arg2 arg3 arg5 wq wo = batchAt arg0 arg2 arg3 arg5 1 wq wo := rfl

/-- Storing a chunk depends on its place only. -/
theorem putChunk_at {p q : ℕ} (h : p = q) (hp : ∀ a, (![p, 0, 0] : Fin 3 → Nat) a + S1x16x512.size a ≤ S32x16x512.size a)
    (hq : ∀ a, (![q, 0, 0] : Fin 3 → Nat) a + S1x16x512.size a ≤ S32x16x512.size a) (v : FVec F S1x16x512 .f32) :
    putChunk arg5 ![p, 0, 0] hp v = putChunk arg5 ![q, 0, 0] hq v := by
  subst h; rfl

/-- The text for the first batch entry is the general text at 0. -/
theorem batch0_eq (wq : Vec F S512x256 .bf16) (wo : Vec F S256x512 .bf16) : batch0 arg0 arg2 arg3 arg5 wq wo = batchAt arg0 arg2 arg3 arg5 0 wq wo := by
  have e : ∀ a : FVec F S256x512 .f32,
      (loop rows16 fun i => putChunk arg5 ![(i.val), 0, 0] (row_inb ⟨i.val, by omega⟩) (chunk a i))
        = loop rows16 fun i => putChunk arg5 ![(place 0 i).val, 0, 0] (row_inb (place 0 i)) (chunk a i) := fun a =>
    congrArg (loop rows16) (funext fun i => putChunk_at arg5 (by simp [place]) _ _ _)
  unfold batch0 batchAt
  simp only [e]
  rfl

end Views

/-! ## The stores -/

/-- The output buffer after some chunks of `a` were stored. -/
def putAll (a : FVec F S256x512 .f32) (b : Fin 2) : List (Fin 16) → Big F → Big F
  | [], f => f
  | i :: l, f => putAll a b l ((outM.access (rowRect (place b i))).write (Elt F) f (chunk a i) Finset.univ)

/-- Writing chunks leaves an entry alone that lies in none of them. -/
theorem putAll_off (a : FVec F S256x512 .f32) (b : Fin 2) (j : S32x16x512.Idx) : ∀ (l : List (Fin 16)) (f : Big F),
    (∀ i ∈ l, j ∉ rowSet (place b i)) → putAll a b l f j = f j
  | [], _, _ => rfl
  | i :: l, f, h => by
    show putAll a b l _ j = _
    rw [putAll_off a b j l _ (fun k hk => h k (List.mem_cons_of_mem _ hk)), store_out_not_mem _ _ _ _ (h i List.mem_cons_self)]

/-- Writing chunks sets an entry of one of them to that chunk's contents. -/
theorem putAll_on (a : FVec F S256x512 .f32) (b : Fin 2) (j : S32x16x512.Idx) (i : Fin 16) (hj : j ∈ rowSet (place b i)) :
    ∀ (l : List (Fin 16)) (f : Big F), i ∈ l → putAll a b l f j = chunk a i (ix3 (0 : Fin 1) (j 1) (j 2))
  | [], _, h => absurd h (List.not_mem_nil)
  | k :: l, f, h => by
    show putAll a b l _ j = _
    by_cases hl : i ∈ l
    · exact putAll_on a b j i hj l _ hl
    · obtain rfl : i = k := by
        rcases List.mem_cons.mp h with h | h
        · exact h
        · exact absurd h hl
      rw [putAll_off a b j l _ (fun k hk hjk => hl (by
        have e : place b i = place b k := Fin.ext ((mem_rowSet.mp hj).symm.trans (mem_rowSet.mp hjk))
        rw [place_inj b e]; exact hk)), store_out_mem _ _ _ _ hj]

/-- A run of chunk writes leaves the buffer with all of them written. -/
theorem puts_run (c : Dev nD) (a : FVec F S256x512 .f32) (b : Fin 2) : ∀ (l : List (Fin 16)) (f : Big F) (Q : PUnit → sProp 𝕄),
    iprop(outW c f ∗ (outW c (putAll a b l f) -∗ Q ⟨⟩))
      ⊢ wpc c (loop l fun i => putChunk outM ![(place b i).val, 0, 0] (row_inb (place b i)) (chunk a i) : Code F PUnit) Q
  | [], f, Q => by
    show _ ⊢ wpc c (.ret ⟨⟩) Q
    rw [wpc, wp_ret]
    iintro ⟨H, Hk⟩
    imodintro
    iapply Hk; iexact H
  | i :: l, f, Q => by
    show _ ⊢ wpc c ((putChunk outM ![(place b i).val, 0, 0] (row_inb (place b i)) (chunk a i)).bind fun _ =>
      loop l fun i => putChunk outM ![(place b i).val, 0, 0] (row_inb (place b i)) (chunk a i)) Q
    rw [wpc_bind]
    iintro ⟨H, Hk⟩
    iapply (put_out c (place b i) Finset.univ (Finset.subset_univ _) f (chunk a i) _)
    isplitl [H]; · iexact H
    iintro H
    iapply (puts_run c a b l _ Q)
    isplitl [H]; · iexact H
    iexact Hk

/-! ## The loads -/

/-- Contents of the five input buffers. -/
structure Ins (F : FTy → Type) where
  x : S2x256x512.Idx → Elt F .bf16
  wq : S512x256.Idx → Elt F .bf16
  k : S2x256x256.Idx → Elt F .bf16
  v : S2x256x256.Idx → Elt F .bf16
  wo : S256x512.Idx → Elt F .bf16

/-- The five input buffers of device `c`, whole. -/
def insW (c : Dev nD) (g : Ins F) : sProp 𝕄 :=
  iprop((((c : Thread nD τ).loc cc0_stg0_0) ↦{fullShare} g.x) ∗ (((c : Thread nD τ).loc cc0_stg1_0) ↦{fullShare} g.wq)
    ∗ (((c : Thread nD τ).loc cc0_stg2_0) ↦{fullShare} g.k) ∗ (((c : Thread nD τ).loc cc0_stg3_0) ↦{fullShare} g.v)
    ∗ (((c : Thread nD τ).loc cc0_stg4_0) ↦{fullShare} g.wo))

/-- The staged `x`. -/
abbrev xM : Memref sig .tc .vmem S2x256x512 .bf16 := Memref.whole cc0_stg0_0
/-- The staged query weights. -/
abbrev wqM : Memref sig .tc .vmem S512x256 .bf16 := Memref.whole cc0_stg1_0
/-- The staged keys. -/
abbrev kM : Memref sig .tc .vmem S2x256x256 .bf16 := Memref.whole cc0_stg2_0
/-- The staged values. -/
abbrev vM : Memref sig .tc .vmem S2x256x256 .bf16 := Memref.whole cc0_stg3_0
/-- The staged output weights. -/
abbrev woM : Memref sig .tc .vmem S256x512 .bf16 := Memref.whole cc0_stg4_0

/-- The whole of the query weights. -/
abbrev wqRect : Rect S512x256 := Rect.unit (s := S512x256) ![0, 0] S512x256.size inb_S512x256_S512x256_0_0
/-- The whole of the output weights. -/
abbrev woRect : Rect S256x512 := Rect.unit (s := S256x512) ![0, 0] S256x512.size inb_S256x512_S256x512_0_0

/-- What the loads read. -/
def Ins.rdWq (g : Ins F) : Vec F S512x256 .bf16 := (wqM.access wqRect).read (Elt F) g.wq
/-- What the kernel reads of the output weights. -/
def Ins.rdWo (g : Ins F) : Vec F S256x512 .bf16 := (woM.access woRect).read (Elt F) g.wo
/-- What the kernel reads of `x` for a batch entry. -/
def Ins.rdX (g : Ins F) (b : Fin 2) : Vec F S1x256x512 .bf16 := (xM.access (xRect b)).read (Elt F) g.x
/-- What the kernel reads of the keys for a batch entry and head. -/
def Ins.rdK (g : Ins F) (b : Fin 2) (h : Fin 4) : Vec F S1x256x64 .bf16 := (kM.access (kvRect b h)).read (Elt F) g.k
/-- What the kernel reads of the values for a batch entry and head. -/
def Ins.rdV (g : Ins F) (b : Fin 2) (h : Fin 4) : Vec F S1x256x64 .bf16 := (vM.access (kvRect b h)).read (Elt F) g.v

/-- The partial result of batch entry `b`. -/
def Ins.part (g : Ins F) (b : Fin 2) : FVec F S256x512 .f32 :=
  partialOut g.rdWq g.rdWo (g.rdX b) (g.rdK b 0) (g.rdV b 0) (g.rdK b 1) (g.rdV b 1) (g.rdK b 2) (g.rdV b 2) (g.rdK b 3) (g.rdV b 3)

/-- The device's partial result, chunk by chunk: batch entry 0 in the first sixteen places, batch entry 1 in the rest. -/
def Ins.partials (g : Ins F) : Big F := fun j =>
  if h : (j 0).val < 16 then chunk (g.part 0) ⟨(j 0).val, h⟩ (ix3 (0 : Fin 1) (j 1) (j 2))
  else chunk (g.part 1) ⟨(j 0).val - 16, by have h0 : (j 0).val < 32 := (j 0).isLt; omega⟩ (ix3 (0 : Fin 1) (j 1) (j 2))

/-- Every one of a batch entry's sixteen chunks is listed. -/
theorem mem_rows16 (i : Fin 16) : i ∈ rows16 := by revert i; decide

/-- After both batch entries the buffer holds the device's partial result, whatever it held before. -/
theorem putAll_both (g : Ins F) (f : Big F) : putAll (g.part 1) 1 rows16 (putAll (g.part 0) 0 rows16 f) = g.partials := by
  funext j
  have hj : (j 0).val < 32 := (j 0).isLt
  unfold Ins.partials
  split
  · next h =>
    rw [putAll_off _ _ _ _ _ (fun i _ hi => by
      have := mem_rowSet.mp hi; simp only [place] at this; omega)]
    exact putAll_on _ _ _ ⟨(j 0).val, h⟩ (mem_rowSet.mpr (by simp only [place]; omega)) _ _ (mem_rows16 _)
  · next h =>
    exact putAll_on _ _ _ ⟨(j 0).val - 16, by omega⟩ (mem_rowSet.mpr (by simp only [place]; omega)) _ _ (mem_rows16 _)

/-- A load of a head's keys. -/
theorem loadK_run (c : Dev nD) (g : S2x256x256.Idx → Elt F .bf16) (b : Fin 2) (h : Fin 4) (Q : Vec F S1x256x64 .bf16 → sProp 𝕄) :
    iprop((((c : Thread nD τ).loc cc0_stg2_0) ↦{fullShare} g) ∗ ((((c : Thread nD τ).loc cc0_stg2_0) ↦{fullShare} g) -∗ Q ((kM.access (kvRect b h)).read (Elt F) g)))
      ⊢ wpc c (loadHead kM b h : Code F _) Q := by
  unfold loadHead
  iintro ⟨H, Hk⟩
  iapply (wp_load_rect (m := kM) (r := kvRect b h) (hl := View.loadsAt_vmem h_S1x256x64) 𝒱₀ (c : Thread nD τ) none Set.univ (S := Finset.univ) (q := fullShare) (f := g)
    (Finset.subset_univ _)) $$ [H]
  · iexact H
  iintro H
  rw [wp_ret]; imodintro
  iapply Hk; iexact H

/-- A load of a head's values. -/
theorem loadV_run (c : Dev nD) (g : S2x256x256.Idx → Elt F .bf16) (b : Fin 2) (h : Fin 4) (Q : Vec F S1x256x64 .bf16 → sProp 𝕄) :
    iprop((((c : Thread nD τ).loc cc0_stg3_0) ↦{fullShare} g) ∗ ((((c : Thread nD τ).loc cc0_stg3_0) ↦{fullShare} g) -∗ Q ((vM.access (kvRect b h)).read (Elt F) g)))
      ⊢ wpc c (loadHead vM b h : Code F _) Q := by
  unfold loadHead
  iintro ⟨H, Hk⟩
  iapply (wp_load_rect (m := vM) (r := kvRect b h) (hl := View.loadsAt_vmem h_S1x256x64) 𝒱₀ (c : Thread nD τ) none Set.univ (S := Finset.univ) (q := fullShare) (f := g)
    (Finset.subset_univ _)) $$ [H]
  · iexact H
  iintro H
  rw [wp_ret]; imodintro
  iapply Hk; iexact H

/-- One head's keys and values. -/
theorem head_run (c : Dev nD) (g : Ins F) (b : Fin 2) (h : Fin 4) (k : Vec F S1x256x64 .bf16 → Vec F S1x256x64 .bf16 → Code F PUnit) (Q : PUnit → sProp 𝕄) :
    iprop((((c : Thread nD τ).loc cc0_stg2_0) ↦{fullShare} g.k) ∗ (((c : Thread nD τ).loc cc0_stg3_0) ↦{fullShare} g.v)
        ∗ (((((c : Thread nD τ).loc cc0_stg2_0) ↦{fullShare} g.k) ∗ (((c : Thread nD τ).loc cc0_stg3_0) ↦{fullShare} g.v)) -∗ wpc c (k (g.rdK b h) (g.rdV b h)) Q))
      ⊢ wpc c ((loadHead kM b h).bind fun x => (loadHead vM b h).bind fun y => k x y) Q := by
  rw [wpc_bind]
  iintro ⟨HK, HV, Hk⟩
  iapply (loadK_run c g.k b h _)
  isplitl [HK]; · iexact HK
  iintro HK
  rw [wpc_bind]
  iapply (loadV_run c g.v b h _)
  isplitl [HV]; · iexact HV
  iintro HV
  iapply Hk
  isplitl [HK]; · iexact HK
  iexact HV

/-- The text for one batch entry, run: its chunks of the output buffer are written. -/
theorem batch_run (c : Dev nD) (g : Ins F) (b : Fin 2) (f : Big F) (Q : PUnit → sProp 𝕄) :
    iprop((((c : Thread nD τ).loc cc0_stg0_0) ↦{fullShare} g.x) ∗ (((c : Thread nD τ).loc cc0_stg2_0) ↦{fullShare} g.k)
        ∗ (((c : Thread nD τ).loc cc0_stg3_0) ↦{fullShare} g.v) ∗ outW c f
        ∗ (((((c : Thread nD τ).loc cc0_stg0_0) ↦{fullShare} g.x) ∗ (((c : Thread nD τ).loc cc0_stg2_0) ↦{fullShare} g.k)
          ∗ (((c : Thread nD τ).loc cc0_stg3_0) ↦{fullShare} g.v) ∗ outW c (putAll (g.part b) b rows16 f)) -∗ Q ⟨⟩))
      ⊢ wpc c (batchAt xM kM vM outM b g.rdWq g.rdWo : Code F PUnit) Q := by
  unfold batchAt
  rw [wpc_bind]
  iintro ⟨HX, HK, HV, HO, Hk⟩
  iapply (wp_load_rect (m := xM) (r := xRect b) (hl := View.loadsAt_vmem h_S1x256x512) 𝒱₀ (c : Thread nD τ) none Set.univ (S := Finset.univ) (q := fullShare) (f := g.x)
    (Finset.subset_univ _)) $$ [HX]
  · iexact HX
  iintro HX
  rw [wp_ret]; imodintro
  iapply (head_run c g b 0 _ Q)
  isplitl [HK]; · iexact HK
  isplitl [HV]; · iexact HV
  iintro ⟨HK, HV⟩
  iapply (head_run c g b 1 _ Q)
  isplitl [HK]; · iexact HK
  isplitl [HV]; · iexact HV
  iintro ⟨HK, HV⟩
  iapply (head_run c g b 2 _ Q)
  isplitl [HK]; · iexact HK
  isplitl [HV]; · iexact HV
  iintro ⟨HK, HV⟩
  iapply (head_run c g b 3 _ Q)
  isplitl [HK]; · iexact HK
  isplitl [HV]; · iexact HV
  iintro ⟨HK, HV⟩
  iapply (puts_run c (g.part b) b rows16 f Q)
  isplitl [HO]; · iexact HO
  iintro HO
  iapply Hk
  isplitl [HX]; · iexact HX
  isplitl [HK]; · iexact HK
  isplitl [HV]; · iexact HV
  iexact HO

/-- The device's own work: the inputs as they were, the output buffer holding the partial result. -/
theorem compute_run (c : Dev nD) (g : Ins F) (f : Big F) (Q : PUnit → sProp 𝕄) :
    iprop(insW c g ∗ outW c f ∗ ((insW c g ∗ outW c g.partials) -∗ Q ⟨⟩))
      ⊢ wpc c (computePart xM wqM kM vM woM outM : Code F PUnit) Q := by
  unfold computePart insW
  rw [wpc_bind]
  iintro ⟨⟨HX, HWq, HK, HV, HWo⟩, HO, Hk⟩
  iapply (wp_load_rect (m := wqM) (r := wqRect) (hl := View.loadsAt_vmem h_S512x256) 𝒱₀ (c : Thread nD τ) none Set.univ (S := Finset.univ) (q := fullShare) (f := g.wq)
    (Finset.subset_univ _)) $$ [HWq]
  · iexact HWq
  iintro HWq
  rw [wp_ret]; imodintro
  rw [wpc_bind]
  iapply (wp_load_rect (m := woM) (r := woRect) (hl := View.loadsAt_vmem h_S256x512) 𝒱₀ (c : Thread nD τ) none Set.univ (S := Finset.univ) (q := fullShare) (f := g.wo)
    (Finset.subset_univ _)) $$ [HWo]
  · iexact HWo
  iintro HWo
  rw [wp_ret]; imodintro
  rw [wpc_bind, batch0_eq]
  iapply (batch_run c g 0 f _)
  isplitl [HX]; · iexact HX
  isplitl [HK]; · iexact HK
  isplitl [HV]; · iexact HV
  isplitl [HO]; · iexact HO
  iintro ⟨HX, HK, HV, HO⟩
  rw [batch1_eq]
  iapply (batch_run c g 1 _ Q)
  isplitl [HX]; · iexact HX
  isplitl [HK]; · iexact HK
  isplitl [HV]; · iexact HV
  isplitl [HO]; · iexact HO
  rw [putAll_both]
  iintro ⟨HX, HK, HV, HO⟩
  iapply Hk
  isplitr [HO]
  · isplitl [HX]; · iexact HX
    isplitl [HWq]; · iexact HWq
    isplitl [HK]; · iexact HK
    isplitl [HV]; · iexact HV
    iexact HWo
  iexact HO

end Cert.KernelIdeal.Hand

end
-- ==== Proof.BodyEq.lean ====
/- The printed body is the looped one, step by step: both programs perform the same effect, and their
   continuations agree whatever the effect returns. -/
module

public import proofs.«01_k».proof.Proof.Loops

@[expose] public section

noncomputable section

namespace Cert.KernelIdeal.Hand

open Idealize.ShloMosaic Idealize.SL.Sem Cert.KernelIdeal.Gen

variable {F : FTy → Type} [FloatOps F]

/-- Two programs that start with the same effect are equal when their continuations are. -/
theorem op_congr {R α : Type} {e : TpuEff nD τ sig (Elt F) Λ₀ .tc R} {k k' : R → Prog (TpuEff nD τ sig (Elt F) Λ₀ .tc) α} (h : ∀ x, k x = k' x) : Prog.op e k = Prog.op e k' :=
  congrArg _ (funext h)

section
variable (arg0 : Memref sig .tc .vmem S2x256x512 .bf16) (arg1 : Memref sig .tc .vmem S512x256 .bf16)
    (arg2 arg3 : Memref sig .tc .vmem S2x256x256 .bf16) (arg4 : Memref sig .tc .vmem S256x512 .bf16)
    (arg5 arg6 : Memref sig .tc .vmem S32x16x512 .f32) (arg7 : DmaSems sig S62) (arg8 arg9 : DmaSems sig S32)

set_option maxRecDepth 100000 in
set_option maxHeartbeats 0 in
/-- The printed body is the looped one. -/
theorem body_eq (h0 : arg0.IsWhole) (h1 : arg1.IsWhole) (h2 : arg2.IsWhole) (h3 : arg3.IsWhole) (h4 : arg4.IsWhole)
    (h5 : arg5.IsWhole) (h6 : arg6.IsWhole) :
    cc0_body (F := F) arg0 h0 arg1 h1 arg2 h2 arg3 h3 arg4 h4 arg5 h5 arg6 h6 arg7 arg8 arg9
      = looped arg0 arg1 arg2 arg3 arg4 arg5 arg6 arg7 arg8 arg9 := by
  iterate 309 refine op_congr (F := F) fun _ => ?_
  rfl
end

end Cert.KernelIdeal.Hand

end
-- ==== Proof.Region.lean ====
/- The device's body run whole, and the pallas_call as one segment of the program. -/
module

public import proofs.«01_k».proof.Proof.Compute
public import proofs.«01_k».proof.Proof.BodyEq
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.FrameBody
public import Idealize.ShloMosaic.Lib.Pipeline.ValueKit

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

/-- Every device's partial result, from what each of them was given. -/
abbrev partialsOf (g : Dev nD → Ins F) : Dev nD → Big F := fun d => (g d).partials

/-- The whole body: the inputs as they were, the output buffer holding the sums of all partial results. -/
theorem body_run (g : Dev nD → Ins F) (κ : GSem nD τ sig → ℕ) (c : Dev nD) (f f₀ : Big F) (Q : PUnit → sProp 𝕄) :
    iprop(opened (partialsOf g) κ c ∗ credits c ∗ levAts L lv ∗ insW c (g c) ∗ outW c f ∗ rsW c f₀ ∗ (∃ W, owes (c : Thread nD τ) (O₀ c) W)
        ∗ ((insW c (g c) ∗ talkPost (partialsOf g) c) -∗ Q ⟨⟩))
      ⊢ wpc c (looped xM wqM kM vM woM outM rsM cc0_scratch1 cc0_scratch2 cc0_scratch3 : Code F PUnit) Q := by
  rw [looped, wpc_bind, Prog.lift, wpc, wp_deviceId, wp_ret, wpc_bind, show ((c : Thread nD τ).1) = c from rfl, talk_eq]
  iintro ⟨Hop, Hcr, HL, HI, HO, Hrs, HW, Hk⟩
  imodintro
  iapply (compute_run c (g c) f _)
  isplitl [HI]; · iexact HI
  isplitl [HO]; · iexact HO
  iintro ⟨HI, HO⟩
  iapply (talk_run (partialsOf g) κ c f₀ Q)
  isplitl [Hop]; · iexact Hop
  isplitl [Hcr]; · iexact Hcr
  isplitl [HL]; · iexact HL
  isplitl [HO]; · iexact HO
  isplitl [Hrs]; · iexact Hrs
  isplitl [HW]; · iexact HW
  iintro Hp
  iapply Hk
  isplitl [HI]; · iexact HI
  iexact Hp

/-! ## The proof data -/

variable (V : Dev nD → Valuation τ sig (Elt F))

/-- What device `c`'s input buffers hold once fetched. -/
def insOf (c : Dev nD) : Ins F where
  x := V c main_arg0
  wq := V c main_arg1
  k := V c main_v10
  v := V c main_v16
  wo := V c main_arg4

/-- The sums, as every device ends with them. -/
def total : Big F := AG (partialsOf (insOf V))

/-- What the kernel's invariant holds before its one point, and after it. -/
def X1 (c : Dev nD) : sProp 𝕄 := iprop((∃ κ, opened (partialsOf (insOf V)) κ c) ∗ credits c ∗ levAts L lv)
/-- The kernel's own semaphores of a device, at zero. -/
def ownSems (c : Dev nD) : sProp 𝕄 := bigSep Finset.univ fun s => semVal (slotCell c s) 0
/-- The receive buffer of a device, with any contents. -/
def scrAny (c : Dev nD) : sProp 𝕄 := iprop(∃ f : Buf (Elt F) ((c : Thread nD τ).loc cc0_scratch0), rsW c f)

/-- What the call holds before and after its one grid point. -/
def dat0 (c : Dev nD) : Dat τ (Elt F) Unit ℕ UU ℕ cfg0 c where
  A w := V c (Proc.devRef .tc (Pipeline.arrRef spec0 w))
  after w _ := match w with
    | ⟨0, _⟩ => (insOf V c).x
    | ⟨1, _⟩ => (insOf V c).wq
    | ⟨2, _⟩ => (insOf V c).k
    | ⟨3, _⟩ => (insOf V c).v
    | ⟨4, _⟩ => (insOf V c).wo
    | ⟨5, _⟩ => total V
  Φ t := if t.val = 0 then iprop(X1 V c ∗ scrAny c ∗ ∃ r, prngReg c r)
    else iprop(semVal (barCell c) 0 ∗ ownSems c ∗ scrAny c ∗ ∃ r, prngReg c r)
  q _ := fullShare
  owed t := if t.val = 0 then O₀ c else 0

/-- The same, for the only call of the program. -/
def pdats : (p : Fin 1) → (c : Dev nD) → Dat τ (Elt F) Unit ℕ UU ℕ (Pipeline.pin (pcfgs (F := F)) adm p) c
  | 0 => dat0 V

/-- What a device owes when the call begins. -/
theorem owed_zero (c : Dev nD) : (pdats V 0 c).owed 0 = O₀ c := by
  show (if ((0 : Fin (cfg0.N + 1)).val = 0) then O₀ c else 0) = O₀ c; exact if_pos rfl
/-- What a device owes when the grid point begins. -/
theorem owed_first (c : Dev nD) : (dat0 V c).owed (Fin.castSucc (t0_0 : Fin cfg0.N)) = O₀ c := by
  show (if (Fin.castSucc (t0_0 : Fin cfg0.N)).val = 0 then O₀ c else 0) = O₀ c; exact if_pos rfl
/-- A device owes nothing after the grid point. -/
theorem owed_after (c : Dev nD) : (dat0 V c).owed (Fin.succ (t0_0 : Fin cfg0.N)) = 0 := by
  show (if (Fin.succ (t0_0 : Fin cfg0.N)).val = 0 then O₀ c else 0) = 0; exact if_neg (Nat.succ_ne_zero _)
/-- A device owes nothing when the call ends. -/
theorem owed_last (c : Dev nD) : (pdats V 0 c).owed (Fin.last _) = 0 := by
  show (if (Fin.last cfg0.N).val = 0 then O₀ c else 0) = 0
  rw [Fin.val_last, if_neg (by rw [show cfg0.N = 1 from N_0]; decide)]

/-- What a device owes, put in the call's words. -/
theorem owesAt_intro {c : Dev nD} (dat : Dat τ (Elt F) Unit ℕ UU ℕ cfg0 c) (t : Fin (cfg0.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
/-- What a device owes, taken out of the call's words. -/
theorem owesAt_elim {c : Dev nD} (dat : Dat τ (Elt F) Unit ℕ UU ℕ cfg0 c) (t : Fin (cfg0.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- A fetch of a whole array stages the array. -/
theorem before_0 (c : Dev nD) (d) : (dat0 V c).before 0 t0_0 d = (insOf V c).x := by
  unfold Dat.before
  rw [if_pos (fetch0_0 _)]
  exact funext fun j => congrArg (insOf V c).x (funext fun a => Fin.ext (Pipeline.Window.rect_emb_val_of_index_zero (cfg0.win 0) t0_0 a rfl j))
/-- As `before_0`, for window 1. -/
theorem before_1 (c : Dev nD) (d) : (dat0 V c).before 1 t0_0 d = (insOf V c).wq := by
  unfold Dat.before
  rw [if_pos (fetch0_1 _)]
  exact funext fun j => congrArg (insOf V c).wq (funext fun a => Fin.ext (Pipeline.Window.rect_emb_val_of_index_zero (cfg0.win 1) t0_0 a rfl j))
/-- As `before_0`, for window 2. -/
theorem before_2 (c : Dev nD) (d) : (dat0 V c).before 2 t0_0 d = (insOf V c).k := by
  unfold Dat.before
  rw [if_pos (fetch0_2 _)]
  exact funext fun j => congrArg (insOf V c).k (funext fun a => Fin.ext (Pipeline.Window.rect_emb_val_of_index_zero (cfg0.win 2) t0_0 a rfl j))
/-- As `before_0`, for window 3. -/
theorem before_3 (c : Dev nD) (d) : (dat0 V c).before 3 t0_0 d = (insOf V c).v := by
  unfold Dat.before
  rw [if_pos (fetch0_3 _)]
  exact funext fun j => congrArg (insOf V c).v (funext fun a => Fin.ext (Pipeline.Window.rect_emb_val_of_index_zero (cfg0.win 3) t0_0 a rfl j))
/-- As `before_0`, for window 4. -/
theorem before_4 (c : Dev nD) (d) : (dat0 V c).before 4 t0_0 d = (insOf V c).wo := by
  unfold Dat.before
  rw [if_pos (fetch0_4 _)]
  exact funext fun j => congrArg (insOf V c).wo (funext fun a => Fin.ext (Pipeline.Window.rect_emb_val_of_index_zero (cfg0.win 4) t0_0 a rfl j))

/-- The invariant before the one point. -/
theorem Φ_first (c : Dev nD) (t : Fin (cfg0.N + 1)) (h : t.val = 0) :
    (dat0 V c).Φ t = iprop(X1 V c ∗ scrAny c ∗ ∃ r, prngReg c r) := by
  show (if t.val = 0 then iprop(X1 V c ∗ scrAny c ∗ ∃ r, prngReg c r)
    else iprop(semVal (barCell c) 0 ∗ ownSems c ∗ scrAny c ∗ ∃ r, prngReg c r)) = _
  exact if_pos h

/-- The invariant after it. -/
theorem Φ_last (c : Dev nD) (t : Fin (cfg0.N + 1)) (h : t.val ≠ 0) :
    (dat0 V c).Φ t = iprop(semVal (barCell c) 0 ∗ ownSems c ∗ scrAny c ∗ ∃ r, prngReg c r) := by
  show (if t.val = 0 then iprop(X1 V c ∗ scrAny c ∗ ∃ r, prngReg c r)
    else iprop(semVal (barCell c) 0 ∗ ownSems c ∗ scrAny c ∗ ∃ r, prngReg c r)) = _
  exact if_neg h

/-- The body the launch runs is the looped one. -/
theorem body_at : defs₀ (F := F) .tc 0 (t0_0, cfg0.slots t0_0)
    = looped xM wqM kM vM woM outM rsM cc0_scratch1 cc0_scratch2 cc0_scratch3 :=
  body_eq _ _ _ _ _ _ _ _ _ _ _ _ _ _ _ _ _

/-- The library's body obligation on device `c`. -/
theorem body0 (c : Dev nD) : BodyObligation (dat0 V c) (defs₀ (F := F)) 𝒱₀ () Set.univ := fun t => by
  obtain rfl := fin_N0 t
  rw [bigSep_W0, bigSep_W0]
  simp only [owns_whole]
  rw [Φ_first V c _ rfl, Φ_last V c _ (Nat.succ_ne_zero _)]
  unfold X1 scrAny
  iintro ⟨⟨⟨⟨%κ, Hop⟩, Hcr, HL⟩, ⟨%f₀, Hrs⟩, Hp⟩, HO, ⟨%d0, H0⟩, ⟨%d1, H1⟩, ⟨%d2, H2⟩, ⟨%d3, H3⟩, ⟨%d4, H4⟩, ⟨%d5, H5⟩⟩
  rw [before_0, before_1, before_2, before_3, before_4]
  ihave HW := (owesAt_elim (dat0 V c) _ _ (owed_first V c)) $$ HO
  rw [body_at]
  iapply (body_run (insOf V) κ c _ f₀ _)
  isplitl [Hop]; · iexact Hop
  isplitl [Hcr]; · iexact Hcr
  isplitl [HL]; · iexact HL
  isplitl [H0 H1 H2 H3 H4]
  · unfold insW
    isplitl [H0]; · iexact H0
    isplitl [H1]; · iexact H1
    isplitl [H2]; · iexact H2
    isplitl [H3]; · iexact H3
    iexact H4
  isplitl [H5]; · iexact H5
  isplitl [Hrs]; · iexact Hrs
  isplitl [HW]; · iexact HW
  unfold insW talkPost
  iintro ⟨⟨H0, H1, H2, H3, H4⟩, HW, H5, Hrs, Hb, Hs⟩
  isplitl [Hb Hs Hrs Hp]
  · isplitl [Hb]; · iexact Hb
    isplitl [Hs]; · unfold ownSems; iexact Hs
    isplitl [Hrs]; · iexact Hrs
    iexact Hp
  isplitl [HW]
  · iapply (owesAt_intro (dat0 V c) _ 0 (owed_after V c) rfl); iexact HW
  isplitl [H0]; · iexact H0
  isplitl [H1]; · iexact H1
  isplitl [H2]; · iexact H2
  isplitl [H3]; · iexact H3
  isplitl [H4]; · iexact H4
  iexact H5

/-! ## The pallas_call as a segment -/

/-- The cells a device owes to: its peers' barrier cells and receive semaphores. -/
theorem owed_pos {c : Dev nD} {g : GSem nD τ sig} {u : Unit} (h : 0 < O₀ c g u) :
    (∃ d, g = barCell d) ∨ (∃ d p, g = rsCell d p) ∨ ∃ d p, g = agCell d p := by
  rcases add_pos_or h with h | h
  · obtain ⟨r, rfl⟩ := lsum_pos h
    exact .inl ⟨_, rfl⟩
  rcases add_pos_or h with h | h
  · obtain ⟨r, rfl⟩ := lsum_pos h
    exact .inr (.inl ⟨_, _, rfl⟩)
  · obtain ⟨r, rfl⟩ := lsum_pos h
    exact .inr (.inr ⟨_, _, rfl⟩)

/-- Those cells lie above the staging semaphores' level. -/
theorem cutD (c : Dev nD) (t : Fin ((Pipeline.pin (pcfgs (F := F)) adm 0).N + 1)) (g : GSem nD τ sig) (i : Unit)
    (h : 0 < (pdats V 0 c).owed t g i) : i ∈ L g ∧ (0 : ℕ) < lv g i := by
  have e : (pdats V 0 c).owed t = if t.val = 0 then O₀ c else 0 := rfl
  rw [e] at h
  split at h
  · rcases owed_pos h with ⟨d, rfl⟩ | ⟨d, p, rfl⟩ | ⟨d, p, rfl⟩
    · exact ⟨L_tc _ _, by rw [lv_bar]; decide⟩
    · exact ⟨L_tc _ _, by rw [lv_rs]; decide⟩
    · exact ⟨L_tc _ _, by rw [lv_ag]; decide⟩
  · exact absurd h (Nat.lt_irrefl 0)

/-- The kernel's own semaphores are told apart, and from the staging ones. -/
theorem ownFacts : Pipeline.OwnSemFacts spec0 osem where
  isScoped := by decide
  inj := osem_inj
  disj := by decide

/-- One cell opened from its counter. -/
theorem open_one (κ : GSem nD τ sig → ℕ) (c : Dev nD) (s : Slot) (P : Dev nD → Big F) :
    iprop(records P κ ∗ (openTok ER (slotCell c s) ∗ semVal (slotCell c s) 0))
      ⊢ (|={Set.univ}=> iprop(atPos ER (slotCell c s) 0 ∅ 0 ∗ reached ER (slotCell c s) 0) : sProp 𝕄) := by
  iintro ⟨HR, Ho, Hs⟩
  ihave HI := (inv_slot P κ c s) $$ HR
  iapply (Rounds.cell_open ER (sched P) (g := slotCell c s) (Set.mem_univ (κ (slotCell c s))))
  isplitl [HI]; · iexact HI
  isplitl [Ho] <;> iassumption

/-- The kernel's own semaphores at zero open the protocol's cells. -/
theorem open_all (κ : GSem nD τ sig → ℕ) (c : Dev nD) (P : Dev nD → Big F) :
    iprop(records P κ ∗ bigSep Finset.univ fun s => iprop(openTok ER (slotCell c s) ∗ semVal (slotCell c s) 0))
      ⊢ (|={Set.univ}=> bigSep Finset.univ fun s => iprop(atPos ER (slotCell c s) 0 ∅ 0 ∗ reached ER (slotCell c s) 0) : sProp 𝕄) :=
  (bigSep_with_persistent fun s _ => open_one κ c s P).trans (BI.bigSep_fupd _ _)

/-- The call's resources at its start, with its cells opened. -/
theorem hopen0 (c : Dev nD) : iprop(Tk (partialsOf (insOf V)) c ∗ Pipeline.ownSems0 osem c ∗ levAts L lv)
    ⊢ (|={Set.univ}=> X1 V c : sProp 𝕄) := by
  unfold Tk X1 linear
  iintro ⟨⟨⟨%κ, #HR, Hat, Hop, Htk⟩, Hcr⟩, Hs, HL⟩
  imod (open_all κ c (partialsOf (insOf V))) $$ [Hop Hs] with Hc
  · isplitr; · iexact HR
    rw [bigSep_sep']
    isplitl [Hop]; · iexact Hop
    unfold Pipeline.ownSems0; iexact Hs
  imodintro
  isplitl [Hat Hc Htk]
  · iexists κ; unfold opened
    isplitr; · iexact HR
    isplitl [Hat]; · iexact Hat
    isplitl [Hc] <;> iassumption
  isplitl [Hcr] <;> iassumption

/-- The call's resources at its start, from what the program holds. -/
theorem hin0 (W : Dev nD → Valuation τ sig (Elt F)) (c : Dev nD) :
    iprop(Pipeline.scopedRest (Pipeline.pin (pcfgs (F := F)) adm 0).spec c ∗ (∃ r, prngReg c r) ∗ StableHlo.held (c.tc : Thread nD τ) ∅ (W c) ∗ X1 V c)
      ⊢ (pdats V 0 c).Φ 0 := by
  rw [show (pdats V 0 c).Φ 0 = iprop(X1 V c ∗ scrAny c ∗ ∃ r, prngReg c r) from Φ_first V c _ rfl,
    show (Pipeline.scopedRest (Pipeline.pin (pcfgs (F := F)) adm 0).spec c : sProp 𝕄) = scrAny c from scopedRest0_eq c]
  iintro ⟨Hs, Hp, -, HX⟩
  isplitl [HX]; · iexact HX
  isplitl [Hs] <;> iassumption

/-- The call's resources at its end give the program its semaphores and buffers back. -/
theorem hout0 (W : Dev nD → Valuation τ sig (Elt F)) (c : Dev nD) : (pdats V 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W c)
      ∗ Pipeline.ownSems0 osem c ∗ semVal (barCell c) 0) := by
  rw [show (pdats V 0 c).Φ (Fin.last _) = iprop(semVal (barCell c) 0 ∗ ownSems c ∗ scrAny c ∗ ∃ r, prngReg c r) from
      Φ_last V c _ (by rw [Fin.val_last, show cfg0.N = 1 from N_0]; decide),
    show (Pipeline.scopedRest (Pipeline.pin (pcfgs (F := F)) adm 0).spec c : sProp 𝕄) = scrAny c from scopedRest0_eq c,
    show (StableHlo.held (c.tc : Thread nD τ) ∅ (W c) : sProp 𝕄) = BI.emp from BI.bigSep_empty]
  iintro ⟨Hb, Hs, Hscr, Hp⟩
  isplitl [Hscr]; · iexact Hscr
  isplitl [Hp]; · iexact Hp
  isplitr; · iempintro
  isplitl [Hs]; · unfold Pipeline.ownSems0 ownSems; iexact Hs
  iexact Hb

/-- What the pallas_call leaves in the buffers. -/
def V' (c : Dev nD) : Valuation τ sig (Elt F) := Function.update (V c) main_v17 (total V)

/-- What the call leaves in its result. -/
theorem arr_out (c : Dev nD) : (dat0 V c).arrAt 5 cfg0.N = total V :=
  (dat0 V c).arrAt_eq_of_after_last 5 t0_0 (by decide +kernel) (total V) fun j => rfl

/-- The call changes nothing but its result. -/
theorem V'_of (c : Dev nD) (r : Ref sig .tc) (h : r ≠ main_v17) : V' V c r = V c r := by
  unfold V'; rw [Function.update_of_ne (StableHlo.devRef_ne_of_ne h)]

/-- The call's result after it. -/
theorem V'_out (c : Dev nD) : V' V c main_v17 = total V := by
  unfold V'; exact Function.update_self _ _ _

/-- Off the arrays of the pallas_call nothing changes. -/
theorem V'_rest (c : Dev nD) (b : DevRef τ sig) (hb : b ∉ Pipeline.arrRefs (τ := τ) spec0) : V' V c b = V c b := by
  unfold V'
  refine Function.update_of_ne (fun e => hb ?_) _ _
  rw [e]; exact Finset.mem_map_of_mem _ (Finset.mem_image.mpr ⟨(5 : Fin 6), Finset.mem_univ _, rfl⟩)

/-- The staging semaphores are none of the kernel's own. -/
theorem stage_dec : ∀ (w : Fin 6) (s : Fin (win0 w).nbuf), dec ((win0 w).sem s) = none := by decide
/-- The staging semaphores lie at the lowest level. -/
theorem stage_lv (c : Dev nD) (w : Fin 6) (s : Fin (win0 w).nbuf) : lv ((c : Thread nD τ), .dma ((win0 w).sem s)) () ≤ 0 := by
  unfold lv; simp only [stage_dec]; exact le_refl 0

/-- Every array of the call after it. -/
theorem hW0 (c : Dev nD) : ∀ w : Fin 6, (pdats V 0 c).arrAt w (Pipeline.pin (pcfgs (F := F)) adm 0).N = V' V c (Proc.devRef .tc (Pipeline.arrRef spec0 w))
  | 0 => ((dat0 V c).arrAt_in 0 rfl _).trans (V'_of V c main_arg0 (by decide)).symm
  | 1 => ((dat0 V c).arrAt_in 1 rfl _).trans (V'_of V c main_arg1 (by decide)).symm
  | 2 => ((dat0 V c).arrAt_in 2 rfl _).trans (V'_of V c main_v10 (by decide)).symm
  | 3 => ((dat0 V c).arrAt_in 3 rfl _).trans (V'_of V c main_v16 (by decide)).symm
  | 4 => ((dat0 V c).arrAt_in 4 rfl _).trans (V'_of V c main_arg4 (by decide)).symm
  | 5 => (arr_out V c).trans (V'_out V c).symm

/-- The rest of the unscoped buffers. -/
abbrev restRefs : Finset (DevRef τ sig) := Pipeline.ucRefs τ sig \ Pipeline.arrRefs (τ := τ) spec0

set_option backward.isDefEq.respectTransparency.types false in
/-- The pallas_call as a segment of the program. -/
def reg0 : Pipeline.RegionSeg (pcfgs (F := F)) adm (pdats V) () defs₀ 𝒱₀ L lv 0 :=
  Pipeline.RegionSeg.ofTalk (pcfgs (F := F)) adm (pdats V) () defs₀ 𝒱₀ L lv 0 osem ownFacts
    ∅ restRefs (Finset.empty_subset _) launch0.toP rfl (fun c => (body0 V c).loose)
    (fun _ => 0) O₀ (fun c => (owed_zero V c).trans (zero_add _).symm) (owed_last V) (fun _ => rfl)
    (fun c => (pdats V 0 c).share_full fun _ => rfl)
    V (V' V) (fun c b hb => V'_rest V c b (Finset.mem_sdiff.mp (Finset.mem_sdiff.mp hb).1).2)
    (Tk (partialsOf (insOf V))) (fun c => semVal (barCell c) 0) (X1 V) (fun c => semVal (barCell c) 0) (hopen0 V) (hin0 V V) (hout0 V (V' V))
    (fun c => by iintro H; imodintro; iexact H)
    (fun _ => 0)
    ⟨fun _ _ _ => L_tc _ _, fun c w s => stage_lv c w s, fun c t g i h => cutD V c t g i h⟩
    (fun _ => iprop(emp))
    (fun _ _ => rfl) (hW0 V)

end Cert.KernelIdeal.Hand

end
-- ==== Proof.Run.lean ====
/- The launch on all devices and the run of the whole program. -/
module

public import proofs.«01_k».proof.Proof.Region
public import Idealize.ShloMosaic.Harness.Basic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

/-! ## The tokens -/

/-- Which of the five kinds of payment a semaphore is for. -/
def kind : SemLoc sig → Fin 5
  | .reg _ => 0
  | .dma k => match dec k with
    | some (.inr (.inl _)) => 1
    | some (.inr (.inr _)) => 2
    | some (.inl (.inl _)) => 3
    | _ => 4

/-- The kind of one of the kernel's own semaphores. -/
theorem kind_osem (s : Slot) : kind (osem s) = match s with
    | .inr (.inl _) => 1 | .inr (.inr _) => 2 | .inl (.inl _) => 3 | .inl (.inr _) => 4 := by
  unfold kind; simp only [dec_enc]
  rcases s with (r | r) | (p | p) <;> rfl

/-- The five kinds of a device's payments at an offset are told apart by their semaphores. -/
theorem kind_tok (c : Dev nD) (r : Fin 31) : ∀ k : Fin 5, kind (tokSlot c r k).1.2 = k
  | 0 => rfl
  | 1 => kind_osem _
  | 2 => kind_osem _
  | 3 => kind_osem _
  | 4 => kind_osem _

/-- Different offsets have different reverses. -/
theorem rv_inj : Function.Injective rv := fun a b h => by rw [← rv_rv a, h, rv_rv]

/-- Devices with the same peer at the same offset are the same. -/
theorem pe_left {r : Fin 31} {a b : Dev nD} (h : pe a r = pe b r) : a = b := by rw [← pe_rv a r, h, pe_rv]

/-- Equal cells are on equal devices. -/
theorem dev_of {g g' : GSem nD τ sig} (h : g = g') : g.1.1 = g'.1.1 := congrArg (fun g : GSem nD τ sig => g.1.1) h
/-- Equal cells of the kernels' own are at equal slots. -/
theorem slot_of {c c' : Dev nD} {s s' : Slot} (h : slotCell c s = slotCell c' s') : s = s' := osem_inj (congrArg Prod.snd h)

/-- No two payments are the same. -/
theorem tok_inj : Function.Injective (fun x : Dev nD × Fin 31 × Fin 5 => tokSlot x.1 x.2.1 x.2.2) := by
  rintro ⟨c, r, k⟩ ⟨c', r', k'⟩ h
  have hk : k = k' := by rw [← kind_tok c r k, ← kind_tok c' r' k']; exact congrArg (fun t : GSem nD τ sig × ℕ × Fin 31 => kind t.1.2) h
  subst hk
  have hg : (tokSlot c r k).1 = (tokSlot c' r' k).1 := congrArg Prod.fst h
  have hu : (tokSlot c r k).2.2 = (tokSlot c' r' k).2.2 := congrArg (fun t : GSem nD τ sig × ℕ × Fin 31 => t.2.2) h
  have both : r = r' ∧ c = c' := by
    match k, hg, hu with
    | 0, hg, hu =>
      obtain rfl := rv_inj hu
      exact ⟨rfl, pe_left (dev_of hg)⟩
    | 1, hg, hu =>
      obtain rfl : c = c' := Sum.inl.inj (Sum.inr.inj (slot_of hg))
      exact ⟨pe_inj c (dev_of hg), rfl⟩
    | 2, hg, hu =>
      obtain rfl : c = c' := Sum.inr.inj (Sum.inr.inj (slot_of hg))
      exact ⟨pe_inj c (dev_of hg), rfl⟩
    | 3, hg, hu => exact ⟨Sum.inl.inj (Sum.inl.inj (slot_of hg)), dev_of hg⟩
    | 4, hg, hu => exact ⟨Sum.inr.inj (Sum.inl.inj (slot_of hg)), dev_of hg⟩
  obtain ⟨rfl, rfl⟩ := both
  rfl

/-- Every payment of the launch, once. -/
def allToks : Finset (GSem nD τ sig × ℕ × Fin 31) := Finset.univ.map ⟨_, tok_inj⟩

/-- A resource for each of five kinds. -/
theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- The right to every payment, device by device, offset by offset. -/
theorem toks_eq : bigSep allToks (fun x => (dutyTok ER x.1 x.2.1 x.2.2 : sProp 𝕄))
    = bigSep Finset.univ fun c : Dev nD => bigSep Finset.univ fun r => toks c r := by
  unfold allToks; rw [bigSep_map, bigSep_univ_prod]
  refine bigSep_congr fun c _ => ?_
  rw [bigSep_univ_prod]
  exact bigSep_congr fun r _ => by rw [bigSep_fin5]; rfl

/-- A barrier cell is none of the kernels' own. -/
theorem bar_ne_slot (c d : Dev nD) (s : Slot) : barCell c ≠ slotCell d s := fun h => nomatch (congrArg Prod.snd h : (SemLoc.reg barSem : SemLoc sig) = osem s)

/-- The barrier cells and the kernels' own are apart. -/
theorem disjoint_cells : Disjoint (barCells : Finset (GSem nD τ sig)) slotCells := by
  rw [Finset.disjoint_left]
  rintro g h₁ h₂
  obtain ⟨c, -, rfl⟩ := Finset.mem_map.mp h₁
  obtain ⟨ck, -, h⟩ := Finset.mem_map.mp h₂
  exact bar_ne_slot _ _ _ h.symm

/-! ## The credits -/

/-- What a sum of single payments pays to a cell. -/
theorem lsum_apply (f : Fin 31 → GSem nD τ sig) (n : ℕ) (g : GSem nD τ sig) :
    ((all31.map fun r => (tallyAt (f r) () n : CellTallies nD τ sig Unit)).sum) g () = ∑ r, if g = f r then n else 0 := by
  have e : ∀ l : List (Fin 31), ((l.map fun r => (tallyAt (f r) () n : CellTallies nD τ sig Unit)).sum) g ()
      = (l.map fun r => if g = f r then n else 0).sum := by
    intro l
    induction l with
    | nil => rfl
    | cons r l ih =>
      rw [List.map_cons, List.sum_cons, List.map_cons, List.sum_cons, Pi.add_apply, Finsupp.add_apply, ih, tallyAt_apply]
      simp only [and_true]
  rw [e, ← all31_eq]
  exact (Fin.sum_univ_def _).symm

/-- What a device owes to a barrier cell: one unit if it is a peer. -/
theorem owed_bar (d c : Dev nD) : O₀ d (barCell c) () = ∑ r, if d = pe c (rv r) then 1 else 0 := by
  unfold O₀ tB tR tA
  rw [Pi.add_apply, Finsupp.add_apply, Pi.add_apply, Finsupp.add_apply, lsum_apply, lsum_apply, lsum_apply]
  simp only [bar_ne_slot, if_false, Finset.sum_const_zero, Nat.add_zero]
  refine Finset.sum_congr rfl fun r _ => if_congr ⟨fun h => ?_, fun h => ?_⟩ rfl rfl
  · rw [show c = pe d r from dev_of h, pe_rv]
  · rw [h]
    show barCell c = barCell (pe (pe c (rv r)) r)
    rw [show pe (pe c (rv r)) r = c by conv_lhs => rw [← rv_rv r, rv_rv (rv r)]; exact pe_rv c (rv r)]

/-- What a device owes to a receive semaphore of the first copies. -/
theorem owed_rs (d c : Dev nD) (r : Fin 31) : O₀ d (rsCell c (pe c r)) () = if d = pe c r then N else 0 := by
  unfold O₀ tB tR tA
  rw [Pi.add_apply, Finsupp.add_apply, Pi.add_apply, Finsupp.add_apply, lsum_apply, lsum_apply, lsum_apply]
  have h1 (r') : rsCell c (pe c r) ≠ barCell (pe d r') := (bar_ne_slot _ _ _).symm
  have h3 (r') : rsCell c (pe c r) ≠ agCell (pe d r') d := fun h => nomatch Sum.inr.inj (slot_of h)
  simp only [h1, h3, if_false, Finset.sum_const_zero, Nat.add_zero, Nat.zero_add]
  by_cases hd : d = pe c r
  · subst hd
    rw [if_pos rfl, Finset.sum_eq_single (rv r)]
    · rw [pe_rv, if_pos rfl]
    · exact fun r' _ hr => if_neg fun h => hr (pe_inj (pe c r) ((dev_of h).symm.trans (pe_rv c r).symm))
    · exact fun h => absurd (Finset.mem_univ _) h
  · rw [if_neg hd]
    exact Finset.sum_eq_zero fun r' _ => if_neg fun h => hd (Sum.inl.inj (Sum.inr.inj (slot_of h))).symm

/-- What a device owes to a receive semaphore of the second copies. -/
theorem owed_ag (d c : Dev nD) (r : Fin 31) : O₀ d (agCell c (pe c r)) () = if d = pe c r then N else 0 := by
  unfold O₀ tB tR tA
  rw [Pi.add_apply, Finsupp.add_apply, Pi.add_apply, Finsupp.add_apply, lsum_apply, lsum_apply, lsum_apply]
  have h1 (r') : agCell c (pe c r) ≠ barCell (pe d r') := (bar_ne_slot _ _ _).symm
  have h2 (r') : agCell c (pe c r) ≠ rsCell (pe d r') d := fun h => nomatch Sum.inr.inj (slot_of h)
  simp only [h1, h2, if_false, Finset.sum_const_zero, Nat.zero_add]
  by_cases hd : d = pe c r
  · subst hd
    rw [if_pos rfl, Finset.sum_eq_single (rv r)]
    · rw [pe_rv, if_pos rfl]
    · exact fun r' _ hr => if_neg fun h => hr (pe_inj (pe c r) ((dev_of h).symm.trans (pe_rv c r).symm))
    · exact fun h => absurd (Finset.mem_univ _) h
  · rw [if_neg hd]
    exact Finset.sum_eq_zero fun r' _ => if_neg fun h => hd (Sum.inr.inj (Sum.inr.inj (slot_of h))).symm

/-- A barrier cell's credits at launch: 31 units. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => Finset.sum_ite_eq' Finset.univ (pe c (rv r)) fun _ => 1]
  simp only [Finset.mem_univ, if_true, Finset.sum_const, Finset.card_univ, Fintype.card_fin, smul_eq_mul]

/-- A receive semaphore's credit at launch: a chunk's. -/
theorem launch_at (c : Dev nD) (r : Fin 31) (g : GSem nD τ sig) (h : ∀ d, O₀ d g () = if d = pe c r then N else 0) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (pe c r) fun _ => N, if_pos (Finset.mem_univ _)]

/-- The receive cells of device `c` that its peers pay. -/
def rsEmb (c : Dev nD) : Fin 31 ↪ SemLoc sig := ⟨fun r => osem (.inr (.inl (pe c r))), fun _ _ h => pe_inj c (Sum.inl.inj (Sum.inr.inj (osem_inj h)))⟩
/-- The second copies' receive semaphores, by offset. -/
def agEmb (c : Dev nD) : Fin 31 ↪ SemLoc sig := ⟨fun r => osem (.inr (.inr (pe c r))), fun _ _ h => pe_inj c (Sum.inr.inj (Sum.inr.inj (osem_inj h)))⟩

/-- The two rounds' receive semaphores are apart. -/
theorem rs_ag_disjoint (c : Dev nD) : Disjoint (Finset.univ.map (rsEmb c)) (Finset.univ.map (agEmb c)) := by
  rw [Finset.disjoint_left]
  rintro g h₁ h₂
  obtain ⟨r, -, rfl⟩ := Finset.mem_map.mp h₁
  obtain ⟨r', -, h⟩ := Finset.mem_map.mp h₂
  exact nomatch Sum.inr.inj (osem_inj h)

/-- They are none of them the barrier's. -/
theorem rs_ag_sub (c : Dev nD) : Finset.univ.map (rsEmb c) ∪ Finset.univ.map (agEmb c) ⊆ Finset.univ.erase (SemLoc.reg barSem) := by
  intro g hg
  refine Finset.mem_erase.mpr ⟨?_, Finset.mem_univ _⟩
  rcases Finset.mem_union.mp hg with h | h <;> obtain ⟨r, -, rfl⟩ := Finset.mem_map.mp h <;> exact fun e => nomatch e

/-- Of the semaphores other than the barrier's, those for the peers' copies. -/
theorem of_peers (c : Dev nD) (Φ : SemLoc sig → sProp 𝕄) : bigSep (Finset.univ.erase (SemLoc.reg barSem)) Φ
    ⊢ iprop((bigSep Finset.univ fun r => Φ (rsEmb c r)) ∗ bigSep Finset.univ fun r => Φ (agEmb c r)) := by
  have h := rs_ag_sub c
  have e : bigSep (Finset.univ.map (rsEmb c) ∪ Finset.univ.map (agEmb c)) Φ
      = iprop((bigSep Finset.univ fun r => Φ (rsEmb c r)) ∗ bigSep Finset.univ fun r => Φ (agEmb c r)) := by
    rw [bigSep_union (rs_ag_disjoint c), bigSep_map, bigSep_map]; rfl
  rw [← e]
  clear e
  generalize (Finset.univ.map (rsEmb c) ∪ Finset.univ.map (agEmb c)) = t at *
  generalize Finset.univ.erase (SemLoc.reg barSem) = s at *
  exact bigSep_subset h

/-- A device's credits at launch, in the protocol's words. -/
theorem creds (c : Dev nD) : (Pipeline.launchCred O₀ c : sProp 𝕄) ⊢ credits c := by
  unfold Pipeline.launchCred credits
  rw [bigSep_univ_at _ (SemLoc.reg barSem), launch_bar]
  refine sep_mono_right ((of_peers (F := F) c _).trans (BIClass.sep_mono ?_ ?_))
  · exact bigSep_mono fun r _ => Entails.of_eq (congrArg cred (launch_at c r (rsCell c (pe c r)) fun d => owed_rs d c r))
  · exact bigSep_mono fun r _ => Entails.of_eq (congrArg cred (launch_at c r (agCell c (pe c r)) fun d => owed_ag d c r))

/-! ## The launch element -/

/-- The launch element: the pipeline library's at the staging cells; the protocol's own. -/
def u₀ : UU :=
  (initOf (Pipeline.cells (Pipeline.pin (pcfgs (F := F)) adm) cellOf_inj) (Pipeline.launchToks (Pipeline.pin (pcfgs (F := F)) adm) cellOf_inj),
    launchOf barCells slotCells allToks)

/-- All of a resource on device 0, until it is dealt out. -/
def onDev (X : sProp 𝕄) (c : Dev nD) : sProp 𝕄 := if c = 0 then X else iprop(emp)
/-- A resource that one device holds alone. -/
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The protocol's ghost state at launch, held by one device. -/
def G : Dev nD → sProp 𝕄 := onDev (BI.own (ER (launchOf barCells slotCells allToks)))

/-- The barrier semaphore is the only one that outlives the call. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

/-- Every semaphore that outlives the call is the barrier's. -/
theorem unscoped_eq : ∀ sm : SemLoc sig, sm.isScoped .tc = false → sm = .reg barSem := by decide +kernel

/-! ## The run -/

variable (m : (ℓ : Loc nD τ sig) → Buf (Elt F) ℓ) (ρ : Dev nD → PrngReg)

/-- What every device's output buffer ends with. -/
def result : Big F := total (V1 m)

/-- What the pallas_call leaves in its result. -/
def outs : Outs (F := F) := fun _ r c => Function.update (fun r : Ref sig .tc => m ((c : Thread nD τ).loc r)) main_v17 (result m) r

/-- What the call leaves in its result on every device. -/
theorem outs_eq (c : Dev nD) : outs m 2 main_v17 c = result m := by unfold outs; exact Function.update_self _ _ _

/-- The buffers after the call. -/
theorem V2_eq (c : Dev nD) : V2 m (outs m) c = V' (V1 m) c := congrArg (Function.update (V1 m c) (Proc.devRef .tc main_v17)) (outs_eq m c)

/-- The other devices' partial results, by device. -/
abbrev parts : Dev nD → Big F := partialsOf (insOf (V1 m))

/-- What rides beside the buffers before the pallas_call, and after it. -/
def E (i : Fin 2) (c : Dev nD) : sProp 𝕄 := match i with
  | 0 => iprop(Tk (parts m) c ∗ (∃ r, prngReg c r) ∗ ∃ W, owes (c : Thread nD τ) (O₀ c) W)
  | 1 => iprop(semVal (barCell c) 0 ∗ (∃ r, prngReg c r) ∗ ∃ W, owes (c : Thread nD τ) (0 : CellTallies nD τ sig Unit) W)

/-- The call's arrays are among the program's buffers. -/
theorem arr_sub : Pipeline.arrRefs (τ := τ) spec0 ⊆ Pipeline.ucRefs τ sig :=
  Pipeline.arrRefs_sub_ucRefs spec0 (show ∀ w : Fin 6, (Pipeline.arrRef spec0 w).isScoped = false by decide)

/-- What the program holds before the call is what the call asks for. -/
theorem hpre (c : Dev nD) : iprop(StableHlo.held (c : Thread nD τ) (Pipeline.ucRefs τ sig) (V1 m c) ∗ E m 0 c) ⊢ (reg0 (V1 m)).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk (parts m) c ∗ ∃ Wd, owes (c : Thread nD τ) (0 + O₀ c) Wd)
  rw [zero_add, StableHlo.held_sub_split (c : Thread nD τ) arr_sub]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What the call gives back is what the program holds after it. -/
theorem hpost (c : Dev nD) : (reg0 (V1 m)).post c
    ⊢ iprop(StableHlo.held (c : Thread nD τ) (Pipeline.ucRefs τ sig) (V2 m (outs m) c) ∗ E m 1 c) := by
  show iprop(StableHlo.held (c.tc : Thread nD τ) (Pipeline.arrRefs (τ := τ) spec0) (V' (V1 m) c) ∗ (∃ r, prngReg c r)
    ∗ (StableHlo.held (c.tc : Thread nD τ) restRefs (V' (V1 m) c) ∗ emp) ∗ semVal (barCell c) 0
      ∗ ∃ Wd, owes (c : Thread nD τ) (0 : CellTallies nD τ sig Unit) Wd) ⊢ _
  rw [V2_eq, StableHlo.held_sub_split (c : Thread nD τ) arr_sub]
  unfold E
  iintro ⟨Ha, Hp, ⟨Hr, -⟩, Hb, HO⟩
  isplitl [Ha Hr]; · isplitl [Ha] <;> iassumption
  isplitl [Hb]; · iexact Hb
  isplitl [Hp] <;> iassumption

/-- Pairs for every device, taken apart. -/
theorem unpair (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
/-- Pairs for every device, put together. -/
theorem pair (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

/-- What of a core's launch holdings is not the protocol's ghost state. -/
def bundle (c : Dev nD) : sProp 𝕄 :=
  iprop(StableHlo.held (c : Thread nD τ) (Pipeline.ucRefs τ sig) (V0 m c) ∗ credits c ∗ owes (c : Thread nD τ) (O₀ c) ∅ ∗ ∃ r, prngReg c r)

/-- What a device holds at the program's start. -/
abbrev T₀ (c : Dev nD) : sProp 𝕄 := iprop(StableHlo.held (c : Thread nD τ) (Pipeline.ucRefs τ sig) (V0 m c) ∗ E m 0 c)
/-- What a device holds at the program's end. -/
abbrev Tₙ (c : Dev nD) : sProp 𝕄 := iprop(StableHlo.held (c : Thread nD τ) (Pipeline.ucRefs τ sig) (V3 m (outs m) c) ∗ semVal (barCell c) 0)

/-- A device's start, from the records and its own part of the protocol. -/
theorem T₀_intro (κ : GSem nD τ sig → ℕ) (c : Dev nD) : iprop(records (parts m) κ ∗ (linear c ∗ bundle m c)) ⊢ T₀ m c := by
  unfold bundle T₀ E Tk
  iintro ⟨#HR, Hl, Hh, Hcr, HO, Hp⟩
  isplitl [Hh]; · iexact Hh
  isplitl [Hl Hcr]
  · isplitl [Hl]
    · iexists κ
      isplitr; · iexact HR
      iexact Hl
    iexact Hcr
  isplitl [Hp]; · iexact Hp
  iexists ∅; iexact HO

/-- A device's own part at launch. -/
theorem hcore (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
      Pipeline.unscopedBufs_held c (V0 m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The barrier counters, cell by cell. -/
theorem vals_bar : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
/-- The barrier cells' positions, device by device. -/
theorem at_bar : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
/-- The right to open each of the kernels' own cells, device by device. -/
theorem open_slots : bigSep slotCells (fun g => (openTok ER g : sProp 𝕄))
    ⊢ bigSep Finset.univ (fun c : Dev nD => bigSep Finset.univ fun s => (openTok ER (slotCell c s) : sProp 𝕄)) :=
  Entails.of_eq (by rw [bigSep_map, bigSep_univ_prod]; rfl)

/-- The launch: every cell's invariant made, the kernel's own cells dormant, everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore m ρ c) $$ H
  ihave H2 := (unpair (F := F) _ _) $$ H'; icases H2 with ⟨HB, H3⟩
  ihave H4 := (unpair (F := F) _ _) $$ H3; icases H4 with ⟨Hv, HG⟩
  ihave Hu := (show bigSep Finset.univ (G (F := F)) ⊢ BI.own (ER (launchOf barCells slotCells allToks)) from
    Entails.of_eq (bigSep_onDev (F := F) (BI.own (ER (launchOf barCells slotCells allToks))))) $$ HG
  imod (Rounds.fund_launch ER (sched (parts m)) disjoint_cells (fun g _ h => h) allToks) $$ [Hv Hu] with ⟨%κ, -, #Hinv, #Hr, Hat, Hopen, Htok⟩
  · isplitl [Hv]
    · iapply (vals_bar (F := F)) $$ Hv
    · iexact Hu
  imodintro
  iapply (bigSep_with_persistent (R := records (parts m) κ) (Φ := fun c => iprop(linear c ∗ bundle m c)) fun c _ => T₀_intro m κ c)
  isplitr
  · unfold records
    isplitr; · iexact Hinv
    iexact Hr
  iapply (pair (F := F) _ _)
  isplitr [HB]
  · unfold linear
    iapply (pair (F := F) _ _); isplitl [Hat]; · iapply (at_bar (F := F)) $$ Hat
    iapply (pair (F := F) _ _); isplitl [Hopen]; · iapply (open_slots (F := F)) $$ Hopen
    iapply (Entails.of_eq (toks_eq (F := F))) $$ Htok
  · iexact HB

/-- The launch's ghost state, cut into the pipeline's and the protocol's. -/
theorem launch_split : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ G) := by
  unfold u₀ G
  iintro Hu
  ihave H := (ownU_pair _ _) $$ Hu
  icases H with ⟨HP, HX⟩
  imodintro
  isplitl [HP]; · iexact HP
  rw [bigSep_onDev]; iexact HX

/-- What every device's final memory holds. -/
def Ends (c : Dev nD) (mem : (ℓ : Loc nD τ sig) → Buf (Elt F) ℓ) : Prop :=
  mem ((c : Thread nD τ).loc main_v18) = V3 m (outs m) c main_v18
    ∧ mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)

/-- A buffer that outlives the call is among the program's. -/
theorem uc (r : Ref sig .tc) (h : (Proc.devRef (τ := τ) .tc r).isScoped = false) : Proc.devRef .tc r ∈ Pipeline.ucRefs τ sig :=
  Finset.mem_filter.mpr ⟨StableHlo.devRef_mem_tcRefs r, by simpa using h⟩

/-- At the end the memory holds what the devices say it holds. -/
theorem hfin (c : Dev nD) (s' : Phys nD τ sig (Elt F)) : iprop(Tₙ m c ∗ SI s')
    ⊢ (|={Set.univ}=> iprop(⌜Ends m c s'.mem.mem ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨h _ (uc main_v18 (by decide)), (h _ (uc main_arg0 (by decide))).trans (V3_main_arg0 m (outs m) c),
      (h _ (uc main_arg1 (by decide))).trans (V3_main_arg1 m (outs m) c), (h _ (uc main_arg2 (by decide))).trans (V3_main_arg2 m (outs m) c),
      (h _ (uc main_arg3 (by decide))).trans (V3_main_arg3 m (outs m) c), (h _ (uc main_arg4 (by decide))).trans (V3_main_arg4 m (outs m) c)⟩,
      by simpa using hb⟩
  iexact HSI

set_option backward.isDefEq.respectTransparency.types false in
/-- THE RUN: from any memory with zero counters, every weakly fair execution terminates, every final memory holds the
    arguments as launched and the result the last valuation names, and every counter is at zero. -/
theorem run_main : θ_run defs (onTc (τ := τ) (main (F := F))) ⟨m, fun _ => 0, ρ⟩
    (fun r => (∀ c : Dev nD, Ends m c r.2.mem) ∧ r.2.sem = fun _ => 0) :=
  Pipeline.θ_run_regions_kit_dev_sems (pcfgs (F := F)) adm (pdats (V1 m)) () cellOf_inj EP defs₀ 𝒱₀ L lv m ρ main
    (segs m (outs m) 𝒱₀ L lv (E m) () (pdats (V1 m)) (reg0 (V1 m)))
    (fun c Q => by
      rewrite [main_chain c, Pipeline.Seg.run_eq_chain,
        show (segs m (outs m) 𝒱₀ L lv (E m) () (pdats (V1 m)) (reg0 (V1 m)) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne G u₀ launch_split
    (T₀ := T₀ m) (Tₙ := Tₙ m)
    (hch := fun c => ⟨.rfl, hpre m c, hpost m c, by
      show iprop(StableHlo.held (c : Thread nD τ) (Pipeline.ucRefs τ sig) (V3 m (outs m) c) ∗ E m 1 c)
        ⊢ iprop(Tₙ m c ∗ ∃ W, owes (c : Thread nD τ) (0 : CellTallies nD τ sig Unit) W)
      unfold E
      iintro ⟨Hh, Hb, -, HO⟩
      isplitl [Hh Hb]; · isplitl [Hh] <;> iassumption
      iexact HO⟩)
    (hinit := init m ρ)
    (QY := fun c s => Ends m c s.mem ∧ s.sem (barCell c) = 0)
    (hfin := hfin m)
    (hQ := fun s h hs => ⟨fun c => (h c).1, sem_eq_zero hs fun c sm hsm => by
      obtain rfl := unscoped_eq sm hsm
      exact (h c).2⟩)

end Cert.KernelIdeal.Hand

end
-- ==== Proof.SameText.lean ====
/-
  The kernel and the idealized kernel print the same text: their labels' tables are equal, whatever the float values.
-/
module

public import proofs.«01_k».proof.Kernel
public import proofs.«01_k».proof.KernelIdeal
public import proofs.«01_k».proof.Proof.Gen.Kernel
public import proofs.«01_k».proof.Proof.Gen.KernelIdeal

@[expose] public section

namespace Cert.SameText

open Idealize.ShloMosaic Idealize.SL.Sem

variable {F : FTy → Type} [FloatOps F] [Cert.Kernel.Facts] [Cert.KernelIdeal.Facts]

/-- The two kernels' bodies are one program. -/
theorem body_eq : Cert.Kernel.cc0_body (F := F) = Cert.KernelIdeal.cc0_body (F := F) := rfl

/-- The two tables of bodies have the one label, which runs that program. -/
theorem labels_eq : Cert.Kernel.defs₀ (F := F) = Cert.KernelIdeal.defs₀ (F := F) := by
  refine congrArg Defs.onTc (funext fun l => ?_)
  match l with
  | ⟨0, _⟩ => rfl

/-- The two tables with the pipeline's labels added are equal. -/
theorem defs_eq : Cert.Kernel.defs (F := F) = Cert.KernelIdeal.defs (F := F) :=
  congrArg (Pipeline.defs Cert.KernelIdeal.pcfgs) labels_eq

end Cert.SameText

end
-- ==== Proof.Head.lean ====
/- One attention head over the extended reals, and what the kernel's operations compute of it at one entry. -/
module

public import proofs.«01_k».proof.Proof.Loops
public import Idealize.ShloMosaic.Lib.Pointwise

@[expose] public section

noncomputable section

namespace Cert.KernelIdeal.Hand

open Idealize.ShloMosaic
open Cert.KernelIdeal.Gen

/-- A matrix of 256 rows. -/
abbrev Mat (n : ℕ) := Fin 256 → Fin n → EReal

/-- Whether key `j` lies in the window of query `i`, as the one-bit word that both programs compute. -/
def near (i j : Fin 256) : BitVec 1 :=
  IntOp.cmpi .sle (IntOp.absi (IntOp.subi (BitVec.ofNat 32 i.val) (BitVec.ofNat 32 j.val))) 128#32

/-- The score of query `i` and key `j`: the product scaled by an eighth, or −10⁹ outside the window. -/
def score (q k : Mat 64) (i j : Fin 256) : EReal :=
  Scalar.select (near i j) ((∑ d, q i d * k j d) * Ideal.ofBits .f32 0x3E000000#32) (Ideal.ofBits .f32 0xCE6E6B28#32)

/-- The largest entry of a row. -/
def top (s : Fin 256 → EReal) : EReal := Finset.univ.fold max (Ideal.ofBits .f32 0xFF800000#32) s

/-- The softmax of a row. -/
def weight (s : Fin 256 → EReal) (j : Fin 256) : EReal :=
  Ideal.div (Ideal.exp (s j - top s)) (∑ j', Ideal.exp (s j' - top s))

/-- The head's output: the values averaged by the softmax of the scores. -/
def attend (q k v : Mat 64) (i : Fin 256) (d : Fin 64) : EReal := ∑ j, weight (score q k i) j * v j d

/-- The kernel's window mask, entry by entry. -/
theorem mask_apply (i j : Fin 256) : k0_pay1 (ix2 i j) = near i j := by
  pointwise [k0_pay1, near]

/-- The kernel's scores, entry by entry. -/
theorem scores_apply (q : FVec Ideal S256x64 .f32) (k : Vec Ideal S1x256x64 .bf16) (i j : Fin 256) :
    scores q k (ix2 i j) = score (fun i d => q (ix2 i d)) (fun j d => k (ix3 0 j d)) i j := by
  pointwise [scores, score, mask_apply, dot_S256x64_S256x64_S256x256_1_1_0_0_n_n]

/-- The kernel's exponentials, entry by entry. -/
theorem expScores_apply (s : FVec Ideal S256x256 .f32) (i j : Fin 256) :
    expScores s (ix2 i j) = Ideal.exp (s (ix2 i j) - top fun j => s (ix2 i j)) := by
  pointwise [expScores, top]

/-- The kernel's row normalization, entry by entry. -/
theorem normRows_apply (w : FVec Ideal S256x256 .f32) (i j : Fin 256) :
    normRows w (ix2 i j) = Ideal.div (w (ix2 i j)) (∑ j', w (ix2 i j')) := by
  pointwise [normRows]

/-- One head's contribution to the kernel's partial result, entry by entry. -/
theorem headOut_apply (q : FVec Ideal S256x64 .f32) (k v : Vec Ideal S1x256x64 .bf16) (wo : FVec Ideal S64x512 .bf16)
    (i : Fin 256) (o : Fin 512) :
    headOut q k v wo (ix2 i o)
      = ∑ d, attend (fun i d => q (ix2 i d)) (fun j d => k (ix3 0 j d)) (fun j d => v (ix3 0 j d)) i d * wo (ix2 d o) := by
  pointwise [headOut, attend, weight, normRows_apply, expScores_apply, scores_apply, dot_S256x64_S64x512_S256x512_1_0_0_1_n_n, dot_S256x256_S256x64_S256x64_1_0_0_1_n_n]

/-- The kernel's queries, entry by entry. -/
theorem queries_apply (wq : Vec Ideal S512x256 .bf16) (x : Vec Ideal S1x256x512 .bf16) (i n : Fin 256) :
    queries wq x (ix2 i n) = ∑ e : Fin 512, x (ix3 0 i e) * wq (ix2 e n) := by
  pointwise [queries, dot_S256x512_S512x256_S256x256_1_0_0_1_n_n]

end Cert.KernelIdeal.Hand

end
-- ==== Proof.Value.lean ====
/- What the idealized kernel's run leaves in its output buffer, entry by entry, over the extended reals. -/
module

public import proofs.«01_k».proof.Proof.Head
public import proofs.«01_k».proof.Proof.Run

@[expose] public section

noncomputable section

namespace Cert.KernelIdeal.Hand

open Idealize.ShloMosaic
open Cert.KernelIdeal.Gen

/-- Column `d` of head `h` among a device's 256 columns. -/
def col (h : Fin 4) (d : Fin 64) : Fin 256 := ⟨64 * h.val + d.val, by omega⟩

/-- The device's queries of batch entry `b` and head `h`. -/
def Ins.q (g : Ins Ideal) (b : Fin 2) (h : Fin 4) : Mat 64 :=
  fun i d => ∑ e : Fin 512, g.x (ix3 b i e) * g.wq (ix2 e (col h d))

/-- The device's keys of batch entry `b` and head `h`. -/
def Ins.keys (g : Ins Ideal) (b : Fin 2) (h : Fin 4) : Mat 64 := fun j d => g.k (ix3 b j (col h d))

/-- The device's values of batch entry `b` and head `h`. -/
def Ins.vals (g : Ins Ideal) (b : Fin 2) (h : Fin 4) : Mat 64 := fun j d => g.v (ix3 b j (col h d))

/-- What head `h` contributes to row `i`, column `o` of the device's partial result. -/
def Ins.share (g : Ins Ideal) (b : Fin 2) (h : Fin 4) (i : Fin 256) (o : Fin 512) : EReal :=
  ∑ d : Fin 64, attend (g.q b h) (g.keys b h) (g.vals b h) i d * g.wo (ix2 (col h d) o)

/-- What the kernel reads of `x`, entry by entry. -/
theorem rdX_apply (g : Ins Ideal) (b : Fin 2) (i : Fin 256) (e : Fin 512) : g.rdX b (ix3 0 i e) = g.x (ix3 b i e) := by
  refine congrArg g.x (show (xRect b).emb (ix3 0 i e) = ix3 b i e from funext fun a => Fin.ext ?_)
  rw [Rect.emb_apply]
  match a with
  | ⟨0, _⟩ => show b.val + 1 * 0 = b.val; omega
  | ⟨1, _⟩ => show 0 + 1 * i.val = i.val; omega
  | ⟨2, _⟩ => show 0 + 1 * e.val = e.val; omega

/-- Where a head's columns of the keys and values lie. -/
theorem kv_emb (b : Fin 2) (h : Fin 4) (j : Fin 256) (d : Fin 64) : (kvRect b h).emb (ix3 0 j d) = ix3 b j (col h d) := by
  refine funext fun a => Fin.ext ?_
  rw [Rect.emb_apply]
  match a with
  | ⟨0, _⟩ => show b.val + 1 * 0 = b.val; omega
  | ⟨1, _⟩ => show 0 + 1 * j.val = j.val; omega
  | ⟨2, _⟩ => show 64 * h.val + 1 * d.val = 64 * h.val + d.val; omega

/-- What the kernel reads of the keys, entry by entry. -/
theorem rdK_apply (g : Ins Ideal) (b : Fin 2) (h : Fin 4) (j : Fin 256) (d : Fin 64) : g.rdK b h (ix3 0 j d) = g.keys b h j d :=
  congrArg g.k (kv_emb b h j d)

/-- What the kernel reads of the values, entry by entry. -/
theorem rdV_apply (g : Ins Ideal) (b : Fin 2) (h : Fin 4) (j : Fin 256) (d : Fin 64) : g.rdV b h (ix3 0 j d) = g.vals b h j d :=
  congrArg g.v (kv_emb b h j d)

/-- What the kernel reads of the query weights, entry by entry. -/
theorem rdWq_apply (g : Ins Ideal) (e : Fin 512) (n : Fin 256) : g.rdWq (ix2 e n) = g.wq (ix2 e n) := by
  refine congrArg g.wq (show wqRect.emb (ix2 e n) = ix2 e n from funext fun a => Fin.ext ?_)
  rw [Rect.emb_apply]
  match a with
  | ⟨0, _⟩ => show 0 + 1 * e.val = e.val; omega
  | ⟨1, _⟩ => show 0 + 1 * n.val = n.val; omega

/-- What the kernel reads of the output weights, entry by entry. -/
theorem rdWo_apply (g : Ins Ideal) (n : Fin 256) (o : Fin 512) : g.rdWo (ix2 n o) = g.wo (ix2 n o) := by
  refine congrArg g.wo (show woRect.emb (ix2 n o) = ix2 n o from funext fun a => Fin.ext ?_)
  rw [Rect.emb_apply]
  match a with
  | ⟨0, _⟩ => show 0 + 1 * n.val = n.val; omega
  | ⟨1, _⟩ => show 0 + 1 * o.val = o.val; omega

/-- A device's partial result of a batch entry, entry by entry: the four heads' shares. -/
theorem part_apply (g : Ins Ideal) (b : Fin 2) (i : Fin 256) (o : Fin 512) :
    g.part b (ix2 i o) = ∑ h : Fin 4, g.share b h i o := by
  pointwise [Ins.part, partialOut, headOut_apply, queries_apply, rdX_apply, rdK_apply, rdV_apply, rdWq_apply, rdWo_apply]
  have e0 : ∀ (d : Fin 64) (hd : d.val < 256), (⟨d.val, hd⟩ : Fin 256) = col 0 d := fun d _ =>
    Fin.ext (show d.val = 64 * 0 + d.val by omega)
  have e1 : ∀ (d : Fin 64) (hd : 64 + d.val < 256), (⟨64 + d.val, hd⟩ : Fin 256) = col 1 d := fun _ _ => rfl
  have e2 : ∀ (d : Fin 64) (hd : 128 + d.val < 256), (⟨128 + d.val, hd⟩ : Fin 256) = col 2 d := fun _ _ => rfl
  have e3 : ∀ (d : Fin 64) (hd : 192 + d.val < 256), (⟨192 + d.val, hd⟩ : Fin 256) = col 3 d := fun _ _ => rfl
  simp only [e0, e1, e2, e3, Fin.sum_univ_four, Ins.share, Ins.q]
  rfl

/-- A device's partial result, chunk by chunk, entry by entry. -/
theorem partials_apply (g : Ins Ideal) (p : Fin 32) (r : Fin 16) (o : Fin 512) :
    g.partials (ix3 p r o) = g.part ⟨p.val / 16, by omega⟩ (ix2 ⟨16 * (p.val % 16) + r.val, by omega⟩ o) := by
  have hc : ∀ (a : FVec Ideal S256x512 .f32) (i : Fin 16),
      chunk a i (ValueIdx.ix3 (0 : Fin 1) r o) = a (ix2 ⟨16 * i.val + r.val, by omega⟩ o) := fun a i => by
    rw [← ix3_eq_valueIdx]
    pointwise [chunk]
  unfold Ins.partials
  by_cases h : p.val < 16
  · refine (dif_pos h).trans ((hc _ _).trans ?_)
    have e : (⟨p.val / 16, by omega⟩ : Fin 2) = 0 := Fin.ext (show p.val / 16 = 0 by omega)
    rw [e]
    exact congrArg (fun k => g.part 0 (ix2 k o)) (Fin.ext (show 16 * p.val + r.val = 16 * (p.val % 16) + r.val by omega))
  · refine (dif_neg h).trans ((hc _ _).trans ?_)
    have e : (⟨p.val / 16, by omega⟩ : Fin 2) = 1 := Fin.ext (show p.val / 16 = 1 by omega)
    rw [e]
    exact congrArg (fun k => g.part 1 (ix2 k o)) (Fin.ext (show 16 * (p.val - 16) + r.val = 16 * (p.val % 16) + r.val by omega))

/-- The buffer all devices end with, entry by entry: the sum of the devices' partial results. -/
theorem AG_apply (P : Dev nD → Big Ideal) (p : Fin 32) (r : Fin 16) (o : Fin 512) :
    AG P (ix3 p r o) = ∑ c : Fin 32, P c (ix3 p r o) := by
  show k0_pay59 (RSb P p) (ValueIdx.ix3 (0 : Fin 1) r o) = _
  rw [← ix3_eq_valueIdx]
  pointwise [k0_pay59]
  refine Finset.sum_congr rfl fun c _ => ?_
  show P c (at3 p r o) = _
  exact congrArg (P c) (funext fun a => Fin.ext (by fin_cases a <;> rfl))

end Cert.KernelIdeal.Hand

end
-- ==== Proof.HostValue.lean ====
/- What the host's operations hand to each device's kernel, and what they make of its result. -/
module

public import proofs.«01_k».proof.Proof.Value
public import Idealize.ShloMosaic.Lib.StableHlo.RunClose
public import Idealize.ShloMosaic.Lib.DynamicIndex

@[expose] public section

noncomputable section

namespace Cert.KernelIdeal.Hand

open Idealize.ShloMosaic Idealize.ShloMosaic.TcCoe
open Cert.KernelIdeal.Gen

variable {F : FTy → Type} [FloatOps F] (m : (ℓ : Loc nD τ sig) → Buf (Elt F) ℓ)

/-- The first head of device `c`, as the word the host computes. -/
def firstHead (c : Dev nD) : BitVec 32 :=
  let q := IntOp.muli (IntOp.remui .host (IntOp.divui .host (Dev.word c) 1#32) 32#32) 4#32
  Scalar.select (IntOp.cmpi .slt q 0#32) (IntOp.addi q 128#32) q

/-- The word is the number of the device's first head. -/
theorem firstHead_toInt (c : Dev nD) : (firstHead c).toInt = 4 * c.val := by
  revert c; decide

/-- The four heads that start at a word, their columns side by side. -/
def headsFrom (w : BitVec 32) (x : FVec F S2x256x128x64 .bf16) : FVec F S2x256x256 .bf16 :=
  shapeCast S2x256x256 (Host.dynamicSlice S2x256x4x64 x (fun k =>
      ((![fun _ => 0#32, fun _ => 0#32, fun _ => w, fun _ => 0#32] : Fin 4 → IVec S_ 32) k (Shape.Idx.first h_S_)).toInt)
    sliceFits_S2x256x128x64_S2x256x4x64) shapeCasts_S2x256x4x64_S2x256x256

/-- The keys of device `c`'s four heads, as the host cuts them out for it. -/
theorem keys_host (c : Dev nD) : V1 m c main_v10 = headsFrom (firstHead c) (m ((c : Thread nD τ).loc main_arg2)) := by
  unfold V1
  after_results_simp_entrywise
  rfl

/-- The values of its four heads, as the host cuts them out for device `c`. -/
theorem vals_host (c : Dev nD) : V1 m c main_v16 = headsFrom (firstHead c) (m ((c : Thread nD τ).loc main_arg3)) := by
  unfold V1
  after_results_simp_entrywise
  rfl

/-- The cut, entry by entry: column `64h + d` of device `c`'s matrix is entry `d` of head `4c + h`. -/
theorem headsFrom_apply (c : Dev nD) (x : FVec F S2x256x128x64 .bf16) (b : Fin 2) (j : Fin 256) (h : Fin 4) (d : Fin 64) :
    headsFrom (firstHead c) x (ix3 b j (col h d)) = x (ix4 b j (⟨4 * c.val + h.val, by have : c.val < 32 := c.isLt; omega⟩ : Fin 128) d) := by
  have hc : c.val < 32 := c.isLt
  have hoff : S2x256x128x64.Slices ![0, 0, 4 * c.val, 0] S2x256x4x64 := by
    refine ⟨rfl, fun a => ?_⟩
    match a with
    | ⟨0, _⟩ => show 0 + 2 ≤ 2; omega
    | ⟨1, _⟩ => show 0 + 256 ≤ 256; omega
    | ⟨2, _⟩ => show 4 * c.val + 4 ≤ 128; omega
    | ⟨3, _⟩ => show 0 + 64 ≤ 64; omega
  unfold headsFrom
  rw [Host.dynamicSlice_eq_extractStridedSlice S2x256x4x64 x _ ![0, 0, 4 * c.val, 0] _ hoff (fun a => by
    match a with
    | ⟨0, _⟩ => rfl
    | ⟨1, _⟩ => rfl
    | ⟨2, _⟩ => exact firstHead_toInt c
    | ⟨3, _⟩ => rfl)]
  pointwise [col]

/-- What the program returns, entry by entry. -/
theorem back_apply (R : Big Ideal) (b : Fin 2) (i : Fin 256) (o : Fin 512) :
    shapeCast S2x256x512 R shapeCasts_S32x16x512_S2x256x512 (ix3 b i o)
      = R (ix3 (⟨16 * b.val + i.val / 16, by omega⟩ : Fin 32) (⟨i.val % 16, by omega⟩ : Fin 16) o) := by
  pointwise
  exact congrArg (fun p => R (ix3 p _ o)) (Fin.ext (show b.val * 16 + i.val / 16 = 16 * b.val + i.val / 16 by omega))

end Cert.KernelIdeal.Hand

end
-- ==== Proof.RefValue.lean ====
/- What the reference computes, entry by entry, over the extended reals. -/
module

public import proofs.«01_k».proof.Proof.Head
public import proofs.«01_k».proof.Proof.Gen.ReferenceIdeal.Run

@[expose] public section

noncomputable section

namespace Cert.ReferenceIdeal.Hand

open Idealize.ShloMosaic Idealize.ShloMosaic.TcCoe
open Cert.ReferenceIdeal.Gen
open Cert.KernelIdeal.Hand (Mat near score top weight attend)

variable {F : FTy → Type} [FloatOps F]

/-- Column `d` of head `g` among all heads' columns. -/
def at64 (g : Fin 128) (d : Fin 64) : Fin 8192 := ⟨64 * g.val + d.val, by omega⟩

/-- What head `g` contributes to row `i`, column `o` of batch entry `b` of the result. -/
def share (x : FVec Ideal S2x256x512 .bf16) (wq : FVec Ideal S512x8192 .bf16) (k v : FVec Ideal S2x256x128x64 .bf16)
    (wo : FVec Ideal S8192x512 .bf16) (b : Fin 2) (g : Fin 128) (i : Fin 256) (o : Fin 512) : EReal :=
  ∑ d : Fin 64, attend (fun i d => ∑ e : Fin 512, x (ix3 b i e) * wq (ix2 e (at64 g d))) (fun j d => k (ix4 b j g d))
    (fun j d => v (ix4 b j g d)) i d * wo (ix2 (at64 g d) o)

/-- A sum over `m · n` numbers as a sum of `m` sums of `n`. -/
theorem sum_split {m n : ℕ} (f : Fin (m * n) → EReal) :
    ∑ x, f x = ∑ a : Fin m, ∑ b : Fin n, f (finProdFinEquiv (a, b)) := by
  rw [← finProdFinEquiv.sum_comp f, Fintype.sum_prod_type]

/-- The window mask. -/
def window : IVec S256x256 1 :=
  cmpi .sle (absi (subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))

/-- Which rows of the mask are not empty. -/
def rowKeep : IVec S256 1 := Host.reduce IntOp.ori window (constantI S_ 1 0#1) reducesTo_S256x256_S256_d1 h_S_

/-- The queries of all heads. -/
def allQueries (x : FVec F S2x256x512 .bf16) (wq : FVec F S512x8192 .bf16) : FVec F S2x256x128x64 .f32 :=
  shapeCast _ (Host.dotGeneral dot_S2x256x512_S512x8192_S2x256x8192_2_0_01_1_n_n none (extf .f32 x bitsLt_bf16_f32)
    (extf .f32 wq bitsLt_bf16_f32)) shapeCasts_S2x256x8192_S2x256x128x64

/-- The masked scores of all heads. -/
def allScores (q : FVec F S2x256x128x64 .f32) (k : FVec F S2x256x128x64 .bf16) : FVec F S2x128x256x256 .f32 :=
  select (broadcastInDim S2x128x256x256 ![0, 1, 2, 3] bcast_S1x1x256x256_S2x128x256x256_0_1_2_3
      (broadcastInDim S1x1x256x256 ![2, 3] bcast_S256x256_S1x1x256x256_2_3 window))
    (mulf (Host.dotGeneral dot_S2x256x128x64_S2x256x128x64_S2x128x256x256_3_3_1_1_02_02 none q (extf .f32 k bitsLt_bf16_f32))
      (broadcastInDim S2x128x256x256 ![] bcast_S_S2x128x256x256 (constant S_ .f32 0x3E000000#32)))
    (broadcastInDim S2x128x256x256 ![] bcast_S_S2x128x256x256 (id (constant S_ .f32 0xCE6E6B28#32)))

/-- The exponentials of the scores, each row's largest subtracted. -/
def allExps (s : FVec F S2x128x256x256 .f32) : FVec F S2x128x256x256 .f32 :=
  Host.exp (subf s (broadcastInDim S2x128x256x256 ![0, 1, 2, 3] bcast_S2x128x256x1_S2x128x256x256_0_1_2_3
    (broadcastInDim S2x128x256x1 ![0, 1, 2] bcast_S2x128x256_S2x128x256x1_0_1_2
      (Host.reduce FloatOps.maximumf s (constant S_ .f32 0xFF800000#32) reducesTo_S2x128x256x256_S2x128x256_d3 h_S_))))

/-- The rows' sums, a row that the mask leaves empty counted as one. -/
def allSums (e : FVec F S2x128x256x256 .f32) : FVec F S2x128x256x1 .f32 :=
  select (broadcastInDim S2x128x256x1 ![0, 1, 2, 3] bcast_S1x1x256x1_S2x128x256x1_0_1_2_3
      (broadcastInDim S1x1x256x1 ![2] bcast_S256_S1x1x256x1_2 rowKeep))
    (broadcastInDim S2x128x256x1 ![0, 1, 2] bcast_S2x128x256_S2x128x256x1_0_1_2
      (Host.reduceAdd e (constant S_ .f32 0x00000000#32) reducesTo_S2x128x256x256_S2x128x256_d3 h_S_))
    (broadcastInDim S2x128x256x1 ![] bcast_S_S2x128x256x1 (id (constant S_ .f32 0x3F800000#32)))

/-- The softmax, rows that the mask leaves empty set to zero. -/
def allWeights (e : FVec F S2x128x256x256 .f32) : FVec F S2x128x256x256 .f32 :=
  select (broadcastInDim S2x128x256x256 ![0, 1, 2, 3] bcast_S1x1x256x1_S2x128x256x256_0_1_2_3
      (broadcastInDim S1x1x256x1 ![2] bcast_S256_S1x1x256x1_2 rowKeep))
    (Host.divf e (broadcastInDim S2x128x256x256 ![0, 1, 2, 3] bcast_S2x128x256x1_S2x128x256x256_0_1_2_3 (allSums e)))
    (broadcastInDim S2x128x256x256 ![] bcast_S_S2x128x256x256 (id (constant S_ .f32 0x00000000#32)))

/-- The values averaged by the softmax, all heads' columns side by side. -/
def allHeads (w : FVec F S2x128x256x256 .f32) (v : FVec F S2x256x128x64 .bf16) : FVec F S2x256x8192 .f32 :=
  shapeCast _ (transpose S2x256x128x64 [0, 3, 1, 2]
    (Host.dotGeneral dot_S2x256x128x64_S2x128x256x256_S2x128x64x256_1_3_3_2_02_01 none (extf .f32 v bitsLt_bf16_f32) w)
    transposes_S2x128x64x256_S2x256x128x64_0_3_1_2) shapeCasts_S2x256x128x64_S2x256x8192

/-- The result as a composition of the steps above. -/
theorem res_eq (m : (ℓ : Loc nD τ sig) → Buf (Elt F) ℓ) (c : Dev nD) :
    Value.res_main_v39 m c
      = Host.dotGeneral dot_S2x256x8192_S8192x512_S2x256x512_2_0_01_1_n_n none
          (allHeads (allWeights (allExps (allScores
            (allQueries (m ((c.tc : Thread nD τ).loc main_arg0)) (m ((c.tc : Thread nD τ).loc main_arg1)))
            (m ((c.tc : Thread nD τ).loc main_arg2))))) (m ((c.tc : Thread nD τ).loc main_arg3)))
          (extf .f32 (m ((c.tc : Thread nD τ).loc main_arg4)) bitsLt_bf16_f32) := rfl

/-- The mask, entry by entry. -/
theorem window_apply (i j : Fin 256) : window (ix2 i j) = near i j := by
  pointwise [window, near]

/-- A query's own key lies in its window. -/
theorem near_self (i : Fin 256) : near i i = 1#1 := by
  revert i; decide

/-- No row of the mask is empty. -/
theorem rowKeep_apply (i : Fin 256) : rowKeep (ix1 i) = 1#1 := by
  pointwise [rowKeep, window_apply]
  have h1 : ∀ w : BitVec 1, IntOp.ori 1#1 w = 1#1 := by decide
  rw [← Finset.insert_erase (Finset.mem_univ i), Finset.fold_insert (Finset.notMem_erase i _), near_self, h1]

/-- The queries, entry by entry. -/
theorem allQueries_apply (x : FVec Ideal S2x256x512 .bf16) (wq : FVec Ideal S512x8192 .bf16)
    (b : Fin 2) (i : Fin 256) (g : Fin 128) (d : Fin 64) :
    allQueries x wq (ix4 b i g d)
      = ∑ e : Fin 512, x (ix3 b i e) * wq (ix2 e (at64 g d)) := by
  pointwise [allQueries, dot_S2x256x512_S512x8192_S2x256x8192_2_0_01_1_n_n]
  simp only [Nat.mul_comm g.val 64]
  rfl

/-- The scores, entry by entry. -/
theorem allScores_apply (q : FVec Ideal S2x256x128x64 .f32) (k : FVec Ideal S2x256x128x64 .bf16)
    (b : Fin 2) (g : Fin 128) (i j : Fin 256) :
    allScores q k (ix4 b g i j) = score (fun i d => q (ix4 b i g d)) (fun j d => k (ix4 b j g d)) i j := by
  pointwise [allScores, score, window_apply, dot_S2x256x128x64_S2x256x128x64_S2x128x256x256_3_3_1_1_02_02]
  rfl

/-- The exponentials, entry by entry. -/
theorem allExps_apply (s : FVec Ideal S2x128x256x256 .f32) (b : Fin 2) (g : Fin 128) (i j : Fin 256) :
    allExps s (ix4 b g i j) = Ideal.exp (s (ix4 b g i j) - top fun j => s (ix4 b g i j)) := by
  pointwise [allExps, top]

/-- The rows' sums, entry by entry. -/
theorem allSums_apply (e : FVec Ideal S2x128x256x256 .f32) (b : Fin 2) (g : Fin 128) (i : Fin 256) :
    allSums e (ix4 b g i 0) = ∑ j, e (ix4 b g i j) := by
  pointwise [allSums, rowKeep_apply]

/-- The softmax, entry by entry. -/
theorem allWeights_apply (e : FVec Ideal S2x128x256x256 .f32) (b : Fin 2) (g : Fin 128) (i j : Fin 256) :
    allWeights e (ix4 b g i j) = Ideal.div (e (ix4 b g i j)) (∑ j, e (ix4 b g i j)) := by
  pointwise [allWeights, rowKeep_apply, allSums_apply]

/-- The heads' outputs, entry by entry. -/
theorem allHeads_apply (w : FVec Ideal S2x128x256x256 .f32) (v : FVec Ideal S2x256x128x64 .bf16)
    (b : Fin 2) (i : Fin 256) (g : Fin 128) (d : Fin 64) :
    allHeads w v (ix3 b i (at64 g d)) = ∑ j, w (ix4 b g i j) * v (ix4 b j g d) := by
  pointwise [allHeads, dot_S2x256x128x64_S2x128x256x256_S2x128x64x256_1_3_3_2_02_01]
  have eg : ∀ h, (⟨(at64 g d).val / 64, h⟩ : Fin 128) = g := fun _ =>
    Fin.ext (show (64 * g.val + d.val) / 64 = g.val by omega)
  have ed : ∀ h, (⟨(at64 g d).val % 64, h⟩ : Fin 64) = d := fun _ =>
    Fin.ext (show (64 * g.val + d.val) % 64 = d.val by omega)
  simp only [eg, ed]
  exact Finset.sum_congr rfl fun j _ => mul_comm _ _

/-- The reference's result, entry by entry: the sum of the 128 heads' contributions. -/
theorem res_apply (m : (ℓ : Loc nD τ sig) → Buf (Elt Ideal) ℓ) (c : Dev nD) (b : Fin 2) (i : Fin 256) (o : Fin 512) :
    Value.res_main_v39 m c (ix3 b i o)
      = ∑ g : Fin 128, share (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b g i o := by
  rw [res_eq]
  generalize m ((c.tc : Thread nD τ).loc main_arg0) = x, m ((c.tc : Thread nD τ).loc main_arg1) = wq,
    m ((c.tc : Thread nD τ).loc main_arg2) = k, m ((c.tc : Thread nD τ).loc main_arg3) = v,
    m ((c.tc : Thread nD τ).loc main_arg4) = wo
  pointwise [dot_S2x256x8192_S8192x512_S2x256x512_2_0_01_1_n_n]
  refine (sum_split (m := 128) (n := 64) _).trans ?_
  refine Finset.sum_congr rfl fun g _ => Finset.sum_congr rfl fun d _ => ?_
  have e : (finProdFinEquiv (g, d) : Fin (128 * 64)) = at64 g d := Fin.ext (Nat.add_comm _ _)
  rw [e, allHeads_apply]
  simp only [allWeights_apply, allExps_apply, allScores_apply, allQueries_apply]
  rfl

end Cert.ReferenceIdeal.Hand

end
-- ==== Proof.Equal.lean ====
/- The kernel's result on every device is the reference's. -/
module

public import proofs.«01_k».proof.Proof.HostValue
public import proofs.«01_k».proof.Proof.RefValue
public import Idealize.ShloMosaic.Lib.Layout

@[expose] public section

noncomputable section

namespace Cert.KernelIdeal.Hand

open Idealize.ShloMosaic Idealize.ShloMosaic.TcCoe
open Cert.KernelIdeal.Gen

/-- Head `h` of device `c` among all 128 heads. -/
def headOf (c : Fin 32) (h : Fin 4) : Fin 128 := ⟨4 * c.val + h.val, by omega⟩

/-- Device `c`'s columns of the query weights are columns of the whole. -/
theorem block_cols (w : FVec Ideal ⟨2, ![512, 8192]⟩ .bf16) (c : Fin 32) (e : Fin 512) (h : Fin 4) (d : Fin 64) :
    (Layout.block ⟨2, ![512, 256]⟩ ⟨2, ![512, 8192]⟩ 1 32 c w) (ix2 e (col h d))
      = w (ix2 e (Cert.ReferenceIdeal.Hand.at64 (headOf c h) d)) := by
  refine congrArg w (funext fun a => Fin.ext ?_)
  rw [Layout.Tiles.idx_val]
  match a with
  | ⟨0, _⟩ => rfl
  | ⟨1, _⟩ =>
    show c.val * 256 + (64 * h.val + d.val) = 64 * (4 * c.val + h.val) + d.val
    omega

/-- Device `c`'s rows of the output weights are rows of the whole. -/
theorem block_rows (w : FVec Ideal ⟨2, ![8192, 512]⟩ .bf16) (c : Fin 32) (h : Fin 4) (d : Fin 64) (o : Fin 512) :
    (Layout.block ⟨2, ![256, 512]⟩ ⟨2, ![8192, 512]⟩ 0 32 c w) (ix2 (col h d) o)
      = w (ix2 (Cert.ReferenceIdeal.Hand.at64 (headOf c h) d) o) := by
  refine congrArg w (funext fun a => Fin.ext ?_)
  rw [Layout.Tiles.idx_val]
  match a with
  | ⟨0, _⟩ =>
    show c.val * 256 + (64 * h.val + d.val) = 64 * (4 * c.val + h.val) + d.val
    omega
  | ⟨1, _⟩ => rfl

section

variable (m : (ℓ : Loc nD τ sig) → Buf (Elt Ideal) ℓ)
  (x : FVec Ideal ⟨3, ![2, 256, 512]⟩ .bf16) (wq : FVec Ideal ⟨2, ![512, 8192]⟩ .bf16)
  (k v : FVec Ideal ⟨4, ![2, 256, 128, 64]⟩ .bf16) (wo : FVec Ideal ⟨2, ![8192, 512]⟩ .bf16)

/-- The launch's arguments: `x`, the keys and the values whole on every device, the weights cut into the devices'
    blocks. -/
structure Args : Prop where
  x : ∀ c : Dev nD, m ((c : Thread nD τ).loc main_arg0) = x
  wq : ∀ c : Dev nD, m ((c : Thread nD τ).loc main_arg1) = Layout.block ⟨2, ![512, 256]⟩ ⟨2, ![512, 8192]⟩ 1 32 c wq
  k : ∀ c : Dev nD, m ((c : Thread nD τ).loc main_arg2) = k
  v : ∀ c : Dev nD, m ((c : Thread nD τ).loc main_arg3) = v
  wo : ∀ c : Dev nD, m ((c : Thread nD τ).loc main_arg4) = Layout.block ⟨2, ![256, 512]⟩ ⟨2, ![8192, 512]⟩ 0 32 c wo

variable {m x wq k v wo} (A : Args m x wq k v wo)
include A

/-- What a device's head contributes is what the reference's head of that number contributes. -/
theorem share_eq (c : Dev nD) (b : Fin 2) (h : Fin 4) (i : Fin 256) (o : Fin 512) :
    (insOf (V1 m) c).share b h i o = Cert.ReferenceIdeal.Hand.share x wq k v wo b (headOf c h) i o := by
  have hx : (insOf (V1 m) c).x = x := (V1_of m c main_arg0 (by decide)).trans (A.x c)
  have hwq := (V1_of m c main_arg1 (by decide)).trans (A.wq c)
  have hwo := (V1_of m c main_arg4 (by decide)).trans (A.wo c)
  have hk := keys_host m c
  have hv := vals_host m c
  rw [A.k c] at hk
  rw [A.v c] at hv
  have q : (insOf (V1 m) c).q b h
      = fun i d => ∑ e : Fin 512, x (ix3 b i e) * wq (ix2 e (Cert.ReferenceIdeal.Hand.at64 (headOf c h) d)) := by
    funext i d
    refine Finset.sum_congr rfl fun e _ => ?_
    rw [hx]
    exact congrArg _ ((congrFun hwq _).trans (block_cols wq c e h d))
  have ks : (insOf (V1 m) c).keys b h = fun j d => k (ix4 b j (headOf c h) d) :=
    funext fun j => funext fun d => (congrFun hk _).trans (headsFrom_apply c k b j h d)
  have vs : (insOf (V1 m) c).vals b h = fun j d => v (ix4 b j (headOf c h) d) :=
    funext fun j => funext fun d => (congrFun hv _).trans (headsFrom_apply c v b j h d)
  unfold Ins.share Cert.ReferenceIdeal.Hand.share
  rw [q, ks, vs]
  exact Finset.sum_congr rfl fun d _ => congrArg _ ((congrFun hwo _).trans (block_rows wo c h d o))

/-- What every device returns, entry by entry: the sum of the 128 heads' contributions. -/
theorem out_apply (c : Dev nD) (b : Fin 2) (i : Fin 256) (o : Fin 512) :
    (V3 m (outs m) c main_v18 : FVec Ideal S2x256x512 .f32) (ix3 b i o)
      = ∑ g : Fin 128, Cert.ReferenceIdeal.Hand.share x wq k v wo b g i o := by
  have r : V2 m (outs m) c main_v17 = result m := (Function.update_self _ _ _).trans (outs_eq m c)
  have e : V3 m (outs m) c main_v18 = shapeCast S2x256x512 (result m) shapeCasts_S32x16x512_S2x256x512 := by
    unfold V3
    after_results_simp
    exact congrArg (fun R => shapeCast S2x256x512 R shapeCasts_S32x16x512_S2x256x512) r
  rw [e, back_apply]
  unfold result total
  rw [AG_apply]
  refine Eq.symm ((Cert.ReferenceIdeal.Hand.sum_split (m := 32) (n := 4) _).trans (Finset.sum_congr rfl fun c' _ => ?_))
  refine Eq.symm ((partials_apply (insOf (V1 m) c') _ _ _).trans ?_)
  have e1 : ∀ h, (⟨(16 * b.val + i.val / 16) / 16, h⟩ : Fin 2) = b := fun _ =>
    Fin.ext (show (16 * b.val + i.val / 16) / 16 = b.val by omega)
  have e2 : ∀ h, (⟨16 * ((16 * b.val + i.val / 16) % 16) + i.val % 16, h⟩ : Fin 256) = i := fun _ =>
    Fin.ext (show 16 * ((16 * b.val + i.val / 16) % 16) + i.val % 16 = i.val by omega)
  rw [e1, e2, part_apply]
  refine Finset.sum_congr rfl fun h _ => (share_eq A c' b h i o).trans ?_
  exact congrArg (fun g => Cert.ReferenceIdeal.Hand.share x wq k v wo b g i o) (Fin.ext (Nat.add_comm _ _))

end

/-- What every device returns is the reference's result. -/
theorem out_eq {m : (ℓ : Loc nD τ sig) → Buf (Elt Ideal) ℓ}
    (m' : (ℓ : Loc Cert.ReferenceIdeal.nD Cert.ReferenceIdeal.τ Cert.ReferenceIdeal.sig) → Buf (Elt Ideal) ℓ)
    (A : Args m (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3))
      (m' (((0 : Dev Cert.ReferenceIdeal.nD) : Thread Cert.ReferenceIdeal.nD Cert.ReferenceIdeal.τ).loc Cert.ReferenceIdeal.main_arg4)))
    (c : Dev nD) : V3 m (outs m) c main_v18 = Cert.ReferenceIdeal.Value.res_main_v39 m' 0 := by
  funext j
  obtain ⟨b, i, o, rfl⟩ : ∃ (b : Fin 2) (i : Fin 256) (o : Fin 512), j = ix3 b i o :=
    ⟨j 0, j 1, j 2, funext fun a => by fin_cases a <;> rfl⟩
  exact (out_apply A c b i o).trans (Cert.ReferenceIdeal.Hand.res_apply m' 0 b i o).symm

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.SameText
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed, at the bits, runs, keeps its arguments and leaves every counter at zero: its text is the
    idealized program's, whose run is proved for any float values. -/
theorem frame_kernel : Cert.quiescent_Kernel (hKernel := Cert.Kernel.Gen.facts) := by
  intro m ρ _
  letI := Cert.Kernel.Gen.facts
  have h := (θ_run (Cert.KernelIdeal.defs (F := Bits)) _ _).mono (fun _ h => And.intro (fun c => (h.1 c).2) h.2)
    (Cert.KernelIdeal.Hand.run_main (F := Bits) m ρ)
  rw [← Cert.SameText.defs_eq (F := Bits)] at h
  exact h

/-- The same of the idealized program. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Hand.run_main (F := Ideal) m ρ)

/-- The reference runs and keeps its arguments; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device returns the reference's result. -/
theorem algebraic : Cert.algebraic_KernelIdeal_ReferenceIdeal (hKernelIdeal := Cert.KernelIdeal.Gen.facts)
    (hReferenceIdeal := Cert.ReferenceIdeal.Gen.facts) := by
  intro m g m' g' _ hargs
  have A := Cert.KernelIdeal.Hand.Args.mk (fun c => (hargs c).1) (fun c => (hargs c).2.1) (fun c => (hargs c).2.2.1)
    (fun c => (hargs c).2.2.2.1) (fun c => (hargs c).2.2.2.2)
  refine ⟨Cert.ReferenceIdeal.Value.res_main_v39 m' 0, ?_, ?_⟩
  · exact (θ_run Cert.KernelIdeal.defs _ _).mono
      (fun _ h c => ⟨(h.1 c).1.trans (Cert.KernelIdeal.Hand.out_eq m' A c), (h.1 c).2⟩)
      (Cert.KernelIdeal.Hand.run_main (F := Ideal) m g)
  · exact (θ_run Cert.ReferenceIdeal.defs _ _).mono (fun _ h => h 0) (Cert.ReferenceIdeal.Value.run (F := Ideal) m' g')

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
